-- ==== Defs.lean ====
def Pre_Dgrad (m : (ℓ : Loc Cert.Dgrad.nD Cert.Dgrad.τ Cert.Dgrad.sig) → Buf (Elt Bits) ℓ) : Prop :=
  True

def Pre_DgradIdeal (m : (ℓ : Loc Cert.DgradIdeal.nD Cert.DgradIdeal.τ Cert.DgradIdeal.sig) → Buf (Elt Ideal) ℓ) : Prop :=
  True

def Pre_DgradIdeal_dy_finite_rows [hPre_dy_finite_rows : Cert.Pre_dy_finite_rows.Facts] (m : (ℓ : Loc Cert.DgradIdeal.nD Cert.DgradIdeal.τ Cert.DgradIdeal.sig) → Buf (Elt Ideal) ℓ) : Prop :=
  ∀ c : Dev Cert.DgradIdeal.nD,
    (Cert.Pre_dy_finite_rows.fn (F := Ideal) (m ((c.tc : Thread Cert.DgradIdeal.nD Cert.DgradIdeal.τ).loc Cert.DgradIdeal.main_arg0)) (m ((c.tc : Thread Cert.DgradIdeal.nD Cert.DgradIdeal.τ).loc Cert.DgradIdeal.main_arg1)) (m ((c.tc : Thread Cert.DgradIdeal.nD Cert.DgradIdeal.τ).loc Cert.DgradIdeal.main_arg2))) = (fun _ => 1#1)

def Pre_DgradRefIdeal (m : (ℓ : Loc Cert.DgradRefIdeal.nD Cert.DgradRefIdeal.τ Cert.DgradRefIdeal.sig) → Buf (Elt Ideal) ℓ) : Prop :=
  True

def Pre_DgradRefIdeal_dy_finite_rows [hPre_dy_finite_rows : Cert.Pre_dy_finite_rows.Facts] (m : (ℓ : Loc Cert.DgradRefIdeal.nD Cert.DgradRefIdeal.τ Cert.DgradRefIdeal.sig) → Buf (Elt Ideal) ℓ) : Prop :=
  ∀ c : Dev Cert.DgradRefIdeal.nD,
    (Cert.Pre_dy_finite_rows.fn (F := Ideal) (m ((c.tc : Thread Cert.DgradRefIdeal.nD Cert.DgradRefIdeal.τ).loc Cert.DgradRefIdeal.main_arg0)) (m ((c.tc : Thread Cert.DgradRefIdeal.nD Cert.DgradRefIdeal.τ).loc Cert.DgradRefIdeal.main_arg1)) (m ((c.tc : Thread Cert.DgradRefIdeal.nD Cert.DgradRefIdeal.τ).loc Cert.DgradRefIdeal.main_arg2))) = (fun _ => 1#1)

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradIdeal_dy_finite [hPre_dy_finite : Cert.Pre_dy_finite.Facts] (m : (ℓ : Loc Cert.WgradIdeal.nD Cert.WgradIdeal.τ Cert.WgradIdeal.sig) → Buf (Elt Ideal) ℓ) : Prop :=
  ∀ c : Dev Cert.WgradIdeal.nD,
    (Cert.Pre_dy_finite.fn (F := Ideal) (m ((c.tc : Thread Cert.WgradIdeal.nD Cert.WgradIdeal.τ).loc Cert.WgradIdeal.main_arg0)) (m ((c.tc : Thread Cert.WgradIdeal.nD Cert.WgradIdeal.τ).loc Cert.WgradIdeal.main_arg1)) (m ((c.tc : Thread Cert.WgradIdeal.nD Cert.WgradIdeal.τ).loc Cert.WgradIdeal.main_arg2))) = (fun _ => 1#1)

def Pre_WgradRefIdeal (m : (ℓ : Loc Cert.WgradRefIdeal.nD Cert.WgradRefIdeal.τ Cert.WgradRefIdeal.sig) → Buf (Elt Ideal) ℓ) : Prop :=
  True

def Pre_WgradRefIdeal_dy_finite [hPre_dy_finite : Cert.Pre_dy_finite.Facts] (m : (ℓ : Loc Cert.WgradRefIdeal.nD Cert.WgradRefIdeal.τ Cert.WgradRefIdeal.sig) → Buf (Elt Ideal) ℓ) : Prop :=
  ∀ c : Dev Cert.WgradRefIdeal.nD,
    (Cert.Pre_dy_finite.fn (F := Ideal) (m ((c.tc : Thread Cert.WgradRefIdeal.nD Cert.WgradRefIdeal.τ).loc Cert.WgradRefIdeal.main_arg0)) (m ((c.tc : Thread Cert.WgradRefIdeal.nD Cert.WgradRefIdeal.τ).loc Cert.WgradRefIdeal.main_arg1)) (m ((c.tc : Thread Cert.WgradRefIdeal.nD Cert.WgradRefIdeal.τ).loc Cert.WgradRefIdeal.main_arg2))) = (fun _ => 1#1)

def quiescent_Dgrad [hDgrad : Cert.Dgrad.Facts] : Prop :=
  ∀ (m : (ℓ : Loc Cert.Dgrad.nD Cert.Dgrad.τ Cert.Dgrad.sig) → Buf (Elt Bits) ℓ) (g : Dev Cert.Dgrad.nD → PrngReg), Pre_Dgrad m →
    θ_run (Cert.Dgrad.defs (F := Bits)) (onTc (τ := Cert.Dgrad.τ) (Cert.Dgrad.main (F := Bits))) ⟨m, fun _ => 0, g⟩ (fun r => (∀ c : Dev Cert.Dgrad.nD,
      r.2.mem ((c.tc : Thread Cert.Dgrad.nD Cert.Dgrad.τ).loc Cert.Dgrad.main_arg0) = m ((c.tc : Thread Cert.Dgrad.nD Cert.Dgrad.τ).loc Cert.Dgrad.main_arg0)
      ∧ r.2.mem ((c.tc : Thread Cert.Dgrad.nD Cert.Dgrad.τ).loc Cert.Dgrad.main_arg1) = m ((c.tc : Thread Cert.Dgrad.nD Cert.Dgrad.τ).loc Cert.Dgrad.main_arg1)
      ∧ r.2.mem ((c.tc : Thread Cert.Dgrad.nD Cert.Dgrad.τ).loc Cert.Dgrad.main_arg2) = m ((c.tc : Thread Cert.Dgrad.nD Cert.Dgrad.τ).loc Cert.Dgrad.main_arg2))
      ∧ r.2.sem = fun _ => 0)

def quiescent_DgradIdeal [hDgradIdeal : Cert.DgradIdeal.Facts] : Prop :=
  ∀ (m : (ℓ : Loc Cert.DgradIdeal.nD Cert.DgradIdeal.τ Cert.DgradIdeal.sig) → Buf (Elt Ideal) ℓ) (g : Dev Cert.DgradIdeal.nD → PrngReg), Pre_DgradIdeal m →
    θ_run (Cert.DgradIdeal.defs (F := Ideal)) (onTc (τ := Cert.DgradIdeal.τ) (Cert.DgradIdeal.main (F := Ideal))) ⟨m, fun _ => 0, g⟩ (fun r => (∀ c : Dev Cert.DgradIdeal.nD,
      r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
      ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
      ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2))
      ∧ r.2.sem = fun _ => 0)

def quiescent_DgradIdeal_pre_dy_finite_rows [hDgradIdeal : Cert.DgradIdeal.Facts] [hPre_dy_finite_rows : Cert.Pre_dy_finite_rows.Facts] : Prop :=
  ∀ (m : (ℓ : Loc Cert.DgradIdeal.nD Cert.DgradIdeal.τ Cert.DgradIdeal.sig) → Buf (Elt Ideal) ℓ) (g : Dev Cert.DgradIdeal.nD → PrngReg), Pre_DgradIdeal_dy_finite_rows m →
    θ_run (Cert.DgradIdeal.defs (F := Ideal)) (onTc (τ := Cert.DgradIdeal.τ) (Cert.DgradIdeal.main (F := Ideal))) ⟨m, fun _ => 0, g⟩ (fun r => (∀ c : Dev Cert.DgradIdeal.nD,
      r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
      ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
      ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2))
      ∧ r.2.sem = fun _ => 0)

def quiescent_DgradRefIdeal [hDgradRefIdeal : Cert.DgradRefIdeal.Facts] : Prop :=
  ∀ (m : (ℓ : Loc Cert.DgradRefIdeal.nD Cert.DgradRefIdeal.τ Cert.DgradRefIdeal.sig) → Buf (Elt Ideal) ℓ) (g : Dev Cert.DgradRefIdeal.nD → PrngReg), Pre_DgradRefIdeal m →
    θ_run (Cert.DgradRefIdeal.defs (F := Ideal)) (onTc (τ := Cert.DgradRefIdeal.τ) (Cert.DgradRefIdeal.main (F := Ideal))) ⟨m, fun _ => 0, g⟩ (fun r => (∀ c : Dev Cert.DgradRefIdeal.nD,
      r.2.mem ((c.tc : Thread Cert.DgradRefIdeal.nD Cert.DgradRefIdeal.τ).loc Cert.DgradRefIdeal.main_arg0) = m ((c.tc : Thread Cert.DgradRefIdeal.nD Cert.DgradRefIdeal.τ).loc Cert.DgradRefIdeal.main_arg0)
      ∧ r.2.mem ((c.tc : Thread Cert.DgradRefIdeal.nD Cert.DgradRefIdeal.τ).loc Cert.DgradRefIdeal.main_arg1) = m ((c.tc : Thread Cert.DgradRefIdeal.nD Cert.DgradRefIdeal.τ).loc Cert.DgradRefIdeal.main_arg1)
      ∧ r.2.mem ((c.tc : Thread Cert.DgradRefIdeal.nD Cert.DgradRefIdeal.τ).loc Cert.DgradRefIdeal.main_arg2) = m ((c.tc : Thread Cert.DgradRefIdeal.nD Cert.DgradRefIdeal.τ).loc Cert.DgradRefIdeal.main_arg2))
      ∧ r.2.sem = fun _ => 0)

def quiescent_DgradRefIdeal_pre_dy_finite_rows [hDgradRefIdeal : Cert.DgradRefIdeal.Facts] [hPre_dy_finite_rows : Cert.Pre_dy_finite_rows.Facts] : Prop :=
  ∀ (m : (ℓ : Loc Cert.DgradRefIdeal.nD Cert.DgradRefIdeal.τ Cert.DgradRefIdeal.sig) → Buf (Elt Ideal) ℓ) (g : Dev Cert.DgradRefIdeal.nD → PrngReg), Pre_DgradRefIdeal_dy_finite_rows m →
    θ_run (Cert.DgradRefIdeal.defs (F := Ideal)) (onTc (τ := Cert.DgradRefIdeal.τ) (Cert.DgradRefIdeal.main (F := Ideal))) ⟨m, fun _ => 0, g⟩ (fun r => (∀ c : Dev Cert.DgradRefIdeal.nD,
      r.2.mem ((c.tc : Thread Cert.DgradRefIdeal.nD Cert.DgradRefIdeal.τ).loc Cert.DgradRefIdeal.main_arg0) = m ((c.tc : Thread Cert.DgradRefIdeal.nD Cert.DgradRefIdeal.τ).loc Cert.DgradRefIdeal.main_arg0)
      ∧ r.2.mem ((c.tc : Thread Cert.DgradRefIdeal.nD Cert.DgradRefIdeal.τ).loc Cert.DgradRefIdeal.main_arg1) = m ((c.tc : Thread Cert.DgradRefIdeal.nD Cert.DgradRefIdeal.τ).loc Cert.DgradRefIdeal.main_arg1)
      ∧ r.2.mem ((c.tc : Thread Cert.DgradRefIdeal.nD Cert.DgradRefIdeal.τ).loc Cert.DgradRefIdeal.main_arg2) = m ((c.tc : Thread Cert.DgradRefIdeal.nD Cert.DgradRefIdeal.τ).loc Cert.DgradRefIdeal.main_arg2))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2))
      ∧ r.2.sem = fun _ => 0)

def quiescent_WgradIdeal_pre_dy_finite [hWgradIdeal : Cert.WgradIdeal.Facts] [hPre_dy_finite : Cert.Pre_dy_finite.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal_dy_finite m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2))
      ∧ r.2.sem = fun _ => 0)

def quiescent_WgradRefIdeal_pre_dy_finite [hWgradRefIdeal : Cert.WgradRefIdeal.Facts] [hPre_dy_finite : Cert.Pre_dy_finite.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal_dy_finite m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2))
      ∧ r.2.sem = fun _ => 0)

def preserves_Dgrad_DgradIdeal : Prop :=
  True

def algebraic_DgradIdeal_DgradRefIdeal_pre_dy_finite_rows [hDgradIdeal : Cert.DgradIdeal.Facts] [hDgradRefIdeal : Cert.DgradRefIdeal.Facts] [hPre_dy_finite_rows : Cert.Pre_dy_finite_rows.Facts] : Prop :=
  ∀ (m : (ℓ : Loc Cert.DgradIdeal.nD Cert.DgradIdeal.τ Cert.DgradIdeal.sig) → Buf (Elt Ideal) ℓ) (g : Dev Cert.DgradIdeal.nD → PrngReg)
    (m' : (ℓ : Loc Cert.DgradRefIdeal.nD Cert.DgradRefIdeal.τ Cert.DgradRefIdeal.sig) → Buf (Elt Ideal) ℓ) (g' : Dev Cert.DgradRefIdeal.nD → PrngReg), Pre_DgradIdeal_dy_finite_rows m →
    (∀ c : Dev Cert.DgradIdeal.nD,
      m' ((c.tc : Thread Cert.DgradRefIdeal.nD Cert.DgradRefIdeal.τ).loc Cert.DgradRefIdeal.main_arg0) = m ((c.tc : Thread Cert.DgradIdeal.nD Cert.DgradIdeal.τ).loc Cert.DgradIdeal.main_arg0)
      ∧ m' ((c.tc : Thread Cert.DgradRefIdeal.nD Cert.DgradRefIdeal.τ).loc Cert.DgradRefIdeal.main_arg1) = m ((c.tc : Thread Cert.DgradIdeal.nD Cert.DgradIdeal.τ).loc Cert.DgradIdeal.main_arg1)
      ∧ m' ((c.tc : Thread Cert.DgradRefIdeal.nD Cert.DgradRefIdeal.τ).loc Cert.DgradRefIdeal.main_arg2) = m ((c.tc : Thread Cert.DgradIdeal.nD Cert.DgradIdeal.τ).loc Cert.DgradIdeal.main_arg2)) →
    ∃ (v0 : (c : Dev Cert.DgradIdeal.nD) → Buf (Elt Ideal) ((c.tc : Thread Cert.DgradIdeal.nD Cert.DgradIdeal.τ).loc Cert.DgradIdeal.main_v0_0)) (v1 : (c : Dev Cert.DgradIdeal.nD) → Buf (Elt Ideal) ((c.tc : Thread Cert.DgradIdeal.nD Cert.DgradIdeal.τ).loc Cert.DgradIdeal.main_v0_1)) (v2 : (c : Dev Cert.DgradIdeal.nD) → Buf (Elt Ideal) ((c.tc : Thread Cert.DgradIdeal.nD Cert.DgradIdeal.τ).loc Cert.DgradIdeal.main_v0_2)),
      θ_run (Cert.DgradIdeal.defs (F := Ideal)) (onTc (τ := Cert.DgradIdeal.τ) (Cert.DgradIdeal.main (F := Ideal))) ⟨m, fun _ => 0, g⟩ (fun r => ∀ c : Dev Cert.DgradIdeal.nD,
          r.2.mem ((c.tc : Thread Cert.DgradIdeal.nD Cert.DgradIdeal.τ).loc Cert.DgradIdeal.main_v0_0) = v0 c
          ∧ r.2.mem ((c.tc : Thread Cert.DgradIdeal.nD Cert.DgradIdeal.τ).loc Cert.DgradIdeal.main_v0_1) = v1 c
          ∧ r.2.mem ((c.tc : Thread Cert.DgradIdeal.nD Cert.DgradIdeal.τ).loc Cert.DgradIdeal.main_v0_2) = v2 c
          ∧ r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
          ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
          ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2))
      ∧ θ_run (Cert.DgradRefIdeal.defs (F := Ideal)) (onTc (τ := Cert.DgradRefIdeal.τ) (Cert.DgradRefIdeal.main (F := Ideal))) ⟨m', fun _ => 0, g'⟩ (fun r => ∀ c : Dev Cert.DgradRefIdeal.nD,
          r.2.mem ((c.tc : Thread Cert.DgradRefIdeal.nD Cert.DgradRefIdeal.τ).loc Cert.DgradRefIdeal.main_v0_0) = v0 c
          ∧ r.2.mem ((c.tc : Thread Cert.DgradRefIdeal.nD Cert.DgradRefIdeal.τ).loc Cert.DgradRefIdeal.main_v0_1) = v1 c
          ∧ r.2.mem ((c.tc : Thread Cert.DgradRefIdeal.nD Cert.DgradRefIdeal.τ).loc Cert.DgradRefIdeal.main_v0_2) = v2 c
          ∧ r.2.mem ((c.tc : Thread Cert.DgradRefIdeal.nD Cert.DgradRefIdeal.τ).loc Cert.DgradRefIdeal.main_arg0) = m' ((c.tc : Thread Cert.DgradRefIdeal.nD Cert.DgradRefIdeal.τ).loc Cert.DgradRefIdeal.main_arg0)
          ∧ r.2.mem ((c.tc : Thread Cert.DgradRefIdeal.nD Cert.DgradRefIdeal.τ).loc Cert.DgradRefIdeal.main_arg1) = m' ((c.tc : Thread Cert.DgradRefIdeal.nD Cert.DgradRefIdeal.τ).loc Cert.DgradRefIdeal.main_arg1)
          ∧ r.2.mem ((c.tc : Thread Cert.DgradRefIdeal.nD Cert.DgradRefIdeal.τ).loc Cert.DgradRefIdeal.main_arg2) = m' ((c.tc : Thread Cert.DgradRefIdeal.nD Cert.DgradRefIdeal.τ).loc Cert.DgradRefIdeal.main_arg2))

def preserves_Wgrad_WgradIdeal : Prop :=
  True

def algebraic_WgradIdeal_WgradRefIdeal_pre_dy_finite [hWgradIdeal : Cert.WgradIdeal.Facts] [hWgradRefIdeal : Cert.WgradRefIdeal.Facts] [hPre_dy_finite : Cert.Pre_dy_finite.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal_dy_finite m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)
      ∧ m' ((c.tc : Thread Cert.WgradRefIdeal.nD Cert.WgradRefIdeal.τ).loc Cert.WgradRefIdeal.main_arg2) = m ((c.tc : Thread Cert.WgradIdeal.nD Cert.WgradIdeal.τ).loc Cert.WgradIdeal.main_arg2)) →
    ∃ (v0 : (c : Dev Cert.WgradIdeal.nD) → Buf (Elt Ideal) ((c.tc : Thread Cert.WgradIdeal.nD Cert.WgradIdeal.τ).loc Cert.WgradIdeal.main_v0_0)) (v1 : (c : Dev Cert.WgradIdeal.nD) → Buf (Elt Ideal) ((c.tc : Thread Cert.WgradIdeal.nD Cert.WgradIdeal.τ).loc Cert.WgradIdeal.main_v0_1)) (v2 : (c : Dev Cert.WgradIdeal.nD) → Buf (Elt Ideal) ((c.tc : Thread Cert.WgradIdeal.nD Cert.WgradIdeal.τ).loc Cert.WgradIdeal.main_v0_2)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0_0) = v0 c
          ∧ r.2.mem ((c.tc : Thread Cert.WgradIdeal.nD Cert.WgradIdeal.τ).loc Cert.WgradIdeal.main_v0_1) = v1 c
          ∧ r.2.mem ((c.tc : Thread Cert.WgradIdeal.nD Cert.WgradIdeal.τ).loc Cert.WgradIdeal.main_v0_2) = v2 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v0_0) = v0 c
          ∧ r.2.mem ((c.tc : Thread Cert.WgradRefIdeal.nD Cert.WgradRefIdeal.τ).loc Cert.WgradRefIdeal.main_v0_1) = v1 c
          ∧ r.2.mem ((c.tc : Thread Cert.WgradRefIdeal.nD Cert.WgradRefIdeal.τ).loc Cert.WgradRefIdeal.main_v0_2) = v2 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1)
          ∧ r.2.mem ((c.tc : Thread Cert.WgradRefIdeal.nD Cert.WgradRefIdeal.τ).loc Cert.WgradRefIdeal.main_arg2) = m' ((c.tc : Thread Cert.WgradRefIdeal.nD Cert.WgradRefIdeal.τ).loc Cert.WgradRefIdeal.main_arg2))

def Claim : Prop :=
  ∃ (hDgrad : Cert.Dgrad.Facts) (hDgradIdeal : Cert.DgradIdeal.Facts) (hDgradRefIdeal : Cert.DgradRefIdeal.Facts) (hWgrad : Cert.Wgrad.Facts) (hWgradIdeal : Cert.WgradIdeal.Facts) (hWgradRefIdeal : Cert.WgradRefIdeal.Facts) (hPre_dy_finite_rows : Cert.Pre_dy_finite_rows.Facts) (hPre_dy_finite : Cert.Pre_dy_finite.Facts),
    quiescent_Dgrad (hDgrad := hDgrad)
    ∧ quiescent_DgradIdeal (hDgradIdeal := hDgradIdeal)
    ∧ quiescent_DgradIdeal_pre_dy_finite_rows (hDgradIdeal := hDgradIdeal) (hPre_dy_finite_rows := hPre_dy_finite_rows)
    ∧ quiescent_DgradRefIdeal (hDgradRefIdeal := hDgradRefIdeal)
    ∧ quiescent_DgradRefIdeal_pre_dy_finite_rows (hDgradRefIdeal := hDgradRefIdeal) (hPre_dy_finite_rows := hPre_dy_finite_rows)
    ∧ quiescent_Wgrad (hWgrad := hWgrad)
    ∧ quiescent_WgradIdeal (hWgradIdeal := hWgradIdeal)
    ∧ quiescent_WgradIdeal_pre_dy_finite (hWgradIdeal := hWgradIdeal) (hPre_dy_finite := hPre_dy_finite)
    ∧ quiescent_WgradRefIdeal (hWgradRefIdeal := hWgradRefIdeal)
    ∧ quiescent_WgradRefIdeal_pre_dy_finite (hWgradRefIdeal := hWgradRefIdeal) (hPre_dy_finite := hPre_dy_finite)
    ∧ preserves_Dgrad_DgradIdeal
    ∧ algebraic_DgradIdeal_DgradRefIdeal_pre_dy_finite_rows (hDgradIdeal := hDgradIdeal) (hDgradRefIdeal := hDgradRefIdeal) (hPre_dy_finite_rows := hPre_dy_finite_rows)
    ∧ preserves_Wgrad_WgradIdeal
    ∧ algebraic_WgradIdeal_WgradRefIdeal_pre_dy_finite (hWgradIdeal := hWgradIdeal) (hWgradRefIdeal := hWgradRefIdeal) (hPre_dy_finite := hPre_dy_finite)
-- ==== Pre_dy_finite.lean ====
abbrev S16384x11008 : Shape := ⟨2, ![16384, 11008]⟩
abbrev S16384x4096 : Shape := ⟨2, ![16384, 4096]⟩
abbrev S32x16x4096 : Shape := ⟨3, ![32, 16, 4096]⟩
abbrev S_ : Shape := ⟨0, ![]⟩

class Facts : Prop where
  bcast_S_S16384x11008 : S_.BroadcastsInDim S16384x11008 (![] : Fin 0 → Fin S16384x11008.rank)

variable [Facts]

def fn {F : FTy → Type} [FloatOps F] (main_arg0 : FVec F S16384x11008 .bf16) (main_arg1 : FVec F S16384x4096 .fp8e4m3) (main_arg2 : IVec S32x16x4096 8) : IVec S16384x11008 1 :=
  let main_v0 : FVec F S16384x11008 .bf16 := Host.absf main_arg0
  let main_cst : FVec F S_ .bf16 := constant S_ .bf16 0x7F7F#16
  let main_v1 : FVec F S16384x11008 .bf16 := broadcastInDim S16384x11008 ![] bcast_S_S16384x11008 main_cst
  let main_v2 : IVec S16384x11008 1 := cmpf .ole main_v0 main_v1
  main_v2
-- ==== Pre_dy_finite_rows.lean ====
abbrev S16384x11008 : Shape := ⟨2, ![16384, 11008]⟩
abbrev S11008x4096 : Shape := ⟨2, ![11008, 4096]⟩
abbrev S344x4096 : Shape := ⟨2, ![344, 4096]⟩
abbrev S_ : Shape := ⟨0, ![]⟩

class Facts : Prop where
  bcast_S_S16384x11008 : S_.BroadcastsInDim S16384x11008 (![] : Fin 0 → Fin S16384x11008.rank)

variable [Facts]

def fn {F : FTy → Type} [FloatOps F] (main_arg0 : FVec F S16384x11008 .bf16) (main_arg1 : FVec F S11008x4096 .fp8e4m3) (main_arg2 : IVec S344x4096 8) : IVec S16384x11008 1 :=
  let main_v0 : FVec F S16384x11008 .bf16 := Host.absf main_arg0
  let main_cst : FVec F S_ .bf16 := constant S_ .bf16 0x7F7F#16
  let main_v1 : FVec F S16384x11008 .bf16 := broadcastInDim S16384x11008 ![] bcast_S_S16384x11008 main_cst
  let main_v2 : IVec S16384x11008 1 := cmpf .ole main_v0 main_v1
  main_v2
-- ==== Dgrad.lean ====
abbrev S16384x11008 : Shape := ⟨2, ![16384, 11008]⟩
abbrev S11008x4096 : Shape := ⟨2, ![11008, 4096]⟩
abbrev S344x4096 : Shape := ⟨2, ![344, 4096]⟩
abbrev S16384x4096 : Shape := ⟨2, ![16384, 4096]⟩
abbrev S16384x344 : Shape := ⟨2, ![16384, 344]⟩
abbrev S1024x1024 : Shape := ⟨2, ![1024, 1024]⟩
abbrev S1024x4096 : Shape := ⟨2, ![1024, 4096]⟩
abbrev S32x4096 : Shape := ⟨2, ![32, 4096]⟩
abbrev S1024x344 : Shape := ⟨2, ![1024, 344]⟩
abbrev S11x32x1024 : Shape := ⟨3, ![11, 32, 1024]⟩
abbrev S32x32x1024 : Shape := ⟨3, ![32, 32, 1024]⟩
abbrev S32x1024 : Shape := ⟨2, ![32, 1024]⟩
abbrev S1x32x1024 : Shape := ⟨3, ![1, 32, 1024]⟩
abbrev S32x1x1024 : Shape := ⟨3, ![32, 1, 1024]⟩
abbrev S1024x768 : Shape := ⟨2, ![1024, 768]⟩
abbrev S768x1024 : Shape := ⟨2, ![768, 1024]⟩
abbrev S24x32x1024 : Shape := ⟨3, ![24, 32, 1024]⟩
abbrev S24x1024 : Shape := ⟨2, ![24, 1024]⟩
abbrev S1x24x1024 : Shape := ⟨3, ![1, 24, 1024]⟩
abbrev S24x1x1024 : Shape := ⟨3, ![24, 1, 1024]⟩
abbrev S352x1024 : Shape := ⟨2, ![352, 1024]⟩
abbrev S1024x352 : Shape := ⟨2, ![1024, 352]⟩

abbrev nBuf : Space → Nat
  | .hbm => 6
  | .vmem => 14
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .fp8e4m3⟩
  | .hbm, ⟨2, _⟩ => ⟨S344x4096, .i8⟩
  | .hbm, ⟨3, _⟩ => ⟨S16384x4096, .bf16⟩
  | .hbm, ⟨4, _⟩ => ⟨S16384x11008, .fp8e4m3⟩
  | .hbm, ⟨5, _⟩ => ⟨S16384x344, .i8⟩
  | .local _ .vmem, ⟨0, _⟩ => ⟨S1024x1024, .bf16⟩
  | .local _ .vmem, ⟨1, _⟩ => ⟨S1024x1024, .bf16⟩
  | .local _ .vmem, ⟨2, _⟩ => ⟨S1024x4096, .fp8e4m3⟩
  | .local _ .vmem, ⟨3, _⟩ => ⟨S1024x4096, .fp8e4m3⟩
  | .local _ .vmem, ⟨4, _⟩ => ⟨S32x4096, .i8⟩
  | .local _ .vmem, ⟨5, _⟩ => ⟨S32x4096, .i8⟩
  | .local _ .vmem, ⟨6, _⟩ => ⟨S1024x4096, .bf16⟩
  | .local _ .vmem, ⟨7, _⟩ => ⟨S1024x4096, .bf16⟩
  | .local _ .vmem, ⟨8, _⟩ => ⟨S1024x1024, .fp8e4m3⟩
  | .local _ .vmem, ⟨9, _⟩ => ⟨S1024x1024, .fp8e4m3⟩
  | .local _ .vmem, ⟨10, _⟩ => ⟨S1024x344, .i8⟩
  | .local _ .vmem, ⟨11, _⟩ => ⟨S1024x344, .i8⟩
  | .local _ .vmem, ⟨12, _⟩ => ⟨S1024x4096, .f32⟩
  | .local _ .vmem, ⟨13, _⟩ => ⟨S11x32x1024, .i32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v3 : BitVec 1 := Scalar.cmpi .slt arg1 c10_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg1 : BitVec 32 := BitVec.ofNat 32 (i 1).val
  let v83 : Index := Scalar.indexCast arg1
  let c0_16 : Index := 0#32
  let c0_17 : Index := 0#32
  ![v83.toNat, 0, 0]
def k0_cond3 (i : grid0.Coords) : BitVec 1 :=
  let arg1 : BitVec 32 := BitVec.ofNat 32 (i 1).val
  let c10_i32_2 : BitVec 32 := 10#32
  let v6 : BitVec 1 := Scalar.cmpi .eq arg1 c10_i32_2
  let v7 : BitVec 32 := Scalar.extui v6
  let c0_i32_3 : BitVec 32 := 0#32
  let v8 : BitVec 1 := Scalar.cmpi .ne v7 c0_i32_3
  v8

def k0_off2 (i : grid0.Coords) : Fin 3 → Nat :=
  let arg1 : BitVec 32 := BitVec.ofNat 32 (i 1).val
  let v83 : Index := Scalar.indexCast arg1
  let c0_16 : Index := 0#32
  let c0_17 : Index := 0#32
  ![v83.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x344 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DgradRefIdeal.lean ====
abbrev S16384x11008 : Shape := ⟨2, ![16384, 11008]⟩
abbrev S11008x4096 : Shape := ⟨2, ![11008, 4096]⟩
abbrev S344x4096 : Shape := ⟨2, ![344, 4096]⟩
abbrev S16384x4096 : Shape := ⟨2, ![16384, 4096]⟩
abbrev S16384x344 : Shape := ⟨2, ![16384, 344]⟩
abbrev S16384x344x32 : Shape := ⟨3, ![16384, 344, 32]⟩
abbrev S16384x344x1 : Shape := ⟨3, ![16384, 344, 1]⟩
abbrev S344x32x4096 : Shape := ⟨3, ![344, 32, 4096]⟩
abbrev S344x1x4096 : Shape := ⟨3, ![344, 1, 4096]⟩

abbrev nBuf : Space → Nat
  | .hbm => 6
  | .vmem => 6
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .fp8e4m3⟩
  | .hbm, ⟨2, _⟩ => ⟨S344x4096, .i8⟩
  | .hbm, ⟨3, _⟩ => ⟨S16384x4096, .bf16⟩
  | .hbm, ⟨4, _⟩ => ⟨S16384x11008, .fp8e4m3⟩
  | .hbm, ⟨5, _⟩ => ⟨S16384x344, .i8⟩
  | .local _ .vmem, ⟨0, _⟩ => ⟨S16384x11008, .bf16⟩
  | .local _ .vmem, ⟨1, _⟩ => ⟨S11008x4096, .fp8e4m3⟩
  | .local _ .vmem, ⟨2, _⟩ => ⟨S344x4096, .i8⟩
  | .local _ .vmem, ⟨3, _⟩ => ⟨S16384x4096, .bf16⟩
  | .local _ .vmem, ⟨4, _⟩ => ⟨S16384x11008, .fp8e4m3⟩
  | .local _ .vmem, ⟨5, _⟩ => ⟨S16384x344, .i8⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S11008x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S344x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x11008 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x344 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Wgrad.lean ====
abbrev S16384x11008 : Shape := ⟨2, ![16384, 11008]⟩
abbrev S16384x4096 : Shape := ⟨2, ![16384, 4096]⟩
abbrev S32x16x4096 : Shape := ⟨3, ![32, 16, 4096]⟩
abbrev S11008x4096 : Shape := ⟨2, ![11008, 4096]⟩
abbrev S32x16x11008 : Shape := ⟨3, ![32, 16, 11008]⟩
abbrev S512x1024 : Shape := ⟨2, ![512, 1024]⟩
abbrev S512x4096 : Shape := ⟨2, ![512, 4096]⟩
abbrev S1x16x4096 : Shape := ⟨3, ![1, 16, 4096]⟩
abbrev S1024x4096 : Shape := ⟨2, ![1024, 4096]⟩
abbrev S1x16x1024 : Shape := ⟨3, ![1, 16, 1024]⟩
abbrev S16x32x1024 : Shape := ⟨3, ![16, 32, 1024]⟩
abbrev S16x1024 : Shape := ⟨2, ![16, 1024]⟩
abbrev S16x1x1024 : Shape := ⟨3, ![16, 1, 1024]⟩
abbrev S1024x1024 : Shape := ⟨2, ![1024, 1024]⟩
abbrev S512x768 : Shape := ⟨2, ![512, 768]⟩
abbrev S16x32x768 : Shape := ⟨3, ![16, 32, 768]⟩
abbrev S16x768 : Shape := ⟨2, ![16, 768]⟩
abbrev S1x16x768 : Shape := ⟨3, ![1, 16, 768]⟩
abbrev S16x1x768 : Shape := ⟨3, ![16, 1, 768]⟩
abbrev S768x1024 : Shape := ⟨2, ![768, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x11008, .bf16⟩
  | .hbm, ⟨1, _⟩ => ⟨S16384x4096, .fp8e4m3⟩
  | .hbm, ⟨2, _⟩ => ⟨S32x16x4096, .i8⟩
  | .hbm, ⟨3, _⟩ => ⟨S11008x4096, .f32⟩
  | .hbm, ⟨4, _⟩ => ⟨S16384x11008, .fp8e4m3⟩
  | .hbm, ⟨5, _⟩ => ⟨S32x16x11008, .i8⟩
  | .local _ .vmem, ⟨0, _⟩ => ⟨S512x1024, .bf16⟩
  | .local _ .vmem, ⟨1, _⟩ => ⟨S512x1024, .bf16⟩
  | .local _ .vmem, ⟨2, _⟩ => ⟨S512x4096, .fp8e4m3⟩
  | .local _ .vmem, ⟨3, _⟩ => ⟨S512x4096, .fp8e4m3⟩
  | .local _ .vmem, ⟨4, _⟩ => ⟨S1x16x4096, .i8⟩
  | .local _ .vmem, ⟨5, _⟩ => ⟨S1x16x4096, .i8⟩
  | .local _ .vmem, ⟨6, _⟩ => ⟨S1024x4096, .f32⟩
  | .local _ .vmem, ⟨7, _⟩ => ⟨S1024x4096, .f32⟩
  | .local _ .vmem, ⟨8, _⟩ => ⟨S512x1024, .fp8e4m3⟩
  | .local _ .vmem, ⟨9, _⟩ => ⟨S512x1024, .fp8e4m3⟩
  | .local _ .vmem, ⟨10, _⟩ => ⟨S1x16x1024, .i8⟩
  | .local _ .vmem, ⟨11, _⟩ => ⟨S1x16x1024, .i8⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c10_i32 : BitVec 32 := 10#32
  let v3 : BitVec 1 := Scalar.cmpi .slt arg0 c10_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c10_i32_2 : BitVec 32 := 10#32
  let v6 : BitVec 1 := Scalar.cmpi .eq arg0 c10_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x16x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== WgradRefIdeal.lean ====
abbrev S16384x11008 : Shape := ⟨2, ![16384, 11008]⟩
abbrev S16384x4096 : Shape := ⟨2, ![16384, 4096]⟩
abbrev S32x16x4096 : Shape := ⟨3, ![32, 16, 4096]⟩
abbrev S11008x4096 : Shape := ⟨2, ![11008, 4096]⟩
abbrev S32x16x11008 : Shape := ⟨3, ![32, 16, 11008]⟩
abbrev S512x32x11008 : Shape := ⟨3, ![512, 32, 11008]⟩
abbrev S512x11008 : Shape := ⟨2, ![512, 11008]⟩
abbrev S512x1x11008 : Shape := ⟨3, ![512, 1, 11008]⟩
abbrev S512x4096 : Shape := ⟨2, ![512, 4096]⟩
abbrev S512x32x4096 : Shape := ⟨3, ![512, 32, 4096]⟩
abbrev S512x1x4096 : Shape := ⟨3, ![512, 1, 4096]⟩

abbrev nBuf : Space → Nat
  | .hbm => 6
  | .vmem => 6
  | .smem => 0
  | _ => 0

abbrev bufTy : (tb : Table) → Fin (tcTables nBuf tb) → BufTy
  | .hbm, ⟨0, _⟩ => ⟨S16384x11008, .bf16⟩
  | .hbm, ⟨1, _⟩ => ⟨S16384x4096, .fp8e4m3⟩
  | .hbm, ⟨2, _⟩ => ⟨S32x16x4096, .i8⟩
  | .hbm, ⟨3, _⟩ => ⟨S11008x4096, .f32⟩
  | .hbm, ⟨4, _⟩ => ⟨S16384x11008, .fp8e4m3⟩
  | .hbm, ⟨5, _⟩ => ⟨S32x16x11008, .i8⟩
  | .local _ .vmem, ⟨0, _⟩ => ⟨S16384x11008, .bf16⟩
  | .local _ .vmem, ⟨1, _⟩ => ⟨S16384x4096, .fp8e4m3⟩
  | .local _ .vmem, ⟨2, _⟩ => ⟨S32x16x4096, .i8⟩
  | .local _ .vmem, ⟨3, _⟩ => ⟨S11008x4096, .f32⟩
  | .local _ .vmem, ⟨4, _⟩ => ⟨S16384x11008, .fp8e4m3⟩
  | .local _ .vmem, ⟨5, _⟩ => ⟨S32x16x11008, .i8⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11008x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x11008 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x16x11008 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.DgradBody.lean ====
/- One grid step of the input-gradient kernel, as a statement about its buffers: from any contents of the three input
   blocks, of the accumulator and of the kept exponents, the step ends with the inputs as they were, the accumulator and
   the codes at closed forms and the exponents updated in the point's slot; the last column block also stores the rounded
   accumulator and the row scales. -/
module

public import proofs.«01_k».proof.Proof.Gen.Dgrad.Frame
public import proofs.«01_k».proof.Proof.Gen.Dgrad.Skeleton
public import Idealize.ShloMosaic.Lib.Pipeline.Value

@[expose] public section

set_option maxRecDepth 16384

noncomputable section

namespace Cert.Dgrad.Run

open Cert.Dgrad Cert.Dgrad.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The condition under which a step zeroes the accumulator: the first column block. -/
abbrev cond1 (i : grid0.Coords) : BitVec 1 :=
  Scalar.cmpi .ne (Scalar.extui (Scalar.cmpi .eq (BitVec.ofNat 32 (i 1).val) 0#32) : BitVec 32) 0#32

/-- The rectangles the body reads and writes: the gradient block and the 768 columns the last one has, -/
abbrev rdy : Rect S1024x1024 := Rect.unit (s := S1024x1024) ![0, 0] S1024x1024.size inb_S1024x1024_S1024x1024_0_0
abbrev rdyL : Rect S1024x1024 := Rect.unit (s := S1024x1024) ![0, 0] S1024x768.size inb_S1024x1024_S1024x768_0_0
/-- the four column strips of the accumulator and of the weight codes, -/
abbrev ra0 : Rect S1024x4096 := Rect.unit (s := S1024x4096) ![0, 0] S1024x1024.size inb_S1024x4096_S1024x1024_0_0
abbrev ra1 : Rect S1024x4096 := Rect.unit (s := S1024x4096) ![0, 1024] S1024x1024.size inb_S1024x4096_S1024x1024_0_1024
abbrev ra2 : Rect S1024x4096 := Rect.unit (s := S1024x4096) ![0, 2048] S1024x1024.size inb_S1024x4096_S1024x1024_0_2048
abbrev ra3 : Rect S1024x4096 := Rect.unit (s := S1024x4096) ![0, 3072] S1024x1024.size inb_S1024x4096_S1024x1024_0_3072
/-- the strips of the weight codes' first 768 rows, all the last block has, -/
abbrev rb0 : Rect S1024x4096 := Rect.unit (s := S1024x4096) ![0, 0] S768x1024.size inb_S1024x4096_S768x1024_0_0
abbrev rb1 : Rect S1024x4096 := Rect.unit (s := S1024x4096) ![0, 1024] S768x1024.size inb_S1024x4096_S768x1024_0_1024
abbrev rb2 : Rect S1024x4096 := Rect.unit (s := S1024x4096) ![0, 2048] S768x1024.size inb_S1024x4096_S768x1024_0_2048
abbrev rb3 : Rect S1024x4096 := Rect.unit (s := S1024x4096) ![0, 3072] S768x1024.size inb_S1024x4096_S768x1024_0_3072
/-- the strips of the weight scales, -/
abbrev rs0 : Rect S32x4096 := Rect.unit (s := S32x4096) ![0, 0] S32x1024.size inb_S32x4096_S32x1024_0_0
abbrev rs1 : Rect S32x4096 := Rect.unit (s := S32x4096) ![0, 1024] S32x1024.size inb_S32x4096_S32x1024_0_1024
abbrev rs2 : Rect S32x4096 := Rect.unit (s := S32x4096) ![0, 2048] S32x1024.size inb_S32x4096_S32x1024_0_2048
abbrev rs3 : Rect S32x4096 := Rect.unit (s := S32x4096) ![0, 3072] S32x1024.size inb_S32x4096_S32x1024_0_3072
/-- and of their first 24 rows. -/
abbrev rt0 : Rect S32x4096 := Rect.unit (s := S32x4096) ![0, 0] S24x1024.size inb_S32x4096_S24x1024_0_0
abbrev rt1 : Rect S32x4096 := Rect.unit (s := S32x4096) ![0, 1024] S24x1024.size inb_S32x4096_S24x1024_0_1024
abbrev rt2 : Rect S32x4096 := Rect.unit (s := S32x4096) ![0, 2048] S24x1024.size inb_S32x4096_S24x1024_0_2048
abbrev rt3 : Rect S32x4096 := Rect.unit (s := S32x4096) ![0, 3072] S24x1024.size inb_S32x4096_S24x1024_0_3072
/-- The whole result block and the whole row-scale block. -/
abbrev rdx : Rect S1024x4096 := Rect.unit (s := S1024x4096) ![0, 0] S1024x4096.size inb_S1024x4096_S1024x4096_0_0
abbrev rrs : Rect S1024x344 := Rect.unit (s := S1024x344) ![0, 0] S1024x344.size inb_S1024x344_S1024x344_0_0
/-- The slot of the kept exponents a full block writes, and the part of its slot the last one writes. -/
abbrev slotF (i : grid0.Coords) (h : k0_cond2 i = 1#1) : Rect S11x32x1024 := Rect.unit (s := S11x32x1024) (k0_off1 i) S1x32x1024.size (k0_off1_inb i h)
abbrev slotL (i : grid0.Coords) (h : k0_cond3 i = 1#1) : Rect S11x32x1024 := Rect.unit (s := S11x32x1024) (k0_off2 i) S1x24x1024.size (k0_off2_inb i h)

theorem hz2 : (![0, 0] : Fin 2 → Nat) = fun _ => 0 := funext fun a => by fin_cases a <;> rfl
theorem hz3 : (![0, 0, 0] : Fin 3 → Nat) = fun _ => 0 := funext fun a => by fin_cases a <;> rfl

/-! ## A full block -/

/-- The shared exponents of a block of the gradient, as the kernel keeps them, and the power of two each group is scaled by, -/
def expo (v : Vec F S1024x1024 .bf16) : IVec S32x1024 32 := k0_pay8 (k0_pay6 v) (k0_pay7 v) 4#32
def kept (v : Vec F S1024x1024 .bf16) : Vec F S1x32x1024 .i32 := k0_pay9 (k0_pay6 v) (k0_pay7 v) 4#32
def inv (v : Vec F S1024x1024 .bf16) : FVec F S32x32x1024 .bf16 := k0_pay10 (k0_pay6 v) (k0_pay7 v) 4#32
/-- the stored codes, the dequantised block. -/
def codes (v : Vec F S1024x1024 .bf16) : Vec F S1024x1024 .fp8e4m3 := k0_pay11 v (inv v)
def deq (v : Vec F S1024x1024 .bf16) : Vec F S1024x1024 .bf16 := k0_pay12 v (expo v) (inv v)
/-- The accumulator strips after the step, from the strips before it. -/
def acc0 (v : Vec F S1024x1024 .bf16) (w : Vec F S1024x4096 .fp8e4m3) (s : Vec F S32x4096 .i8) (o : Vec F S1024x4096 .f32) : Vec F S1024x1024 .f32 :=
  k0_pay13 v (expo v) (inv v) (View.ld w ra0) (View.ld s rs0) (View.ld o ra0)
def acc1 (v : Vec F S1024x1024 .bf16) (w : Vec F S1024x4096 .fp8e4m3) (s : Vec F S32x4096 .i8) (o : Vec F S1024x4096 .f32) : Vec F S1024x1024 .f32 :=
  k0_pay14 (deq v) (View.ld w ra1) (View.ld s rs1) (View.ld o ra1)
def acc2 (v : Vec F S1024x1024 .bf16) (w : Vec F S1024x4096 .fp8e4m3) (s : Vec F S32x4096 .i8) (o : Vec F S1024x4096 .f32) : Vec F S1024x1024 .f32 :=
  k0_pay15 (deq v) (View.ld w ra2) (View.ld s rs2) (View.ld o ra2)
def acc3 (v : Vec F S1024x1024 .bf16) (w : Vec F S1024x4096 .fp8e4m3) (s : Vec F S32x4096 .i8) (o : Vec F S1024x4096 .f32) : Vec F S1024x1024 .f32 :=
  k0_pay2 (deq v) (View.ld w ra3) (View.ld s rs3) (View.ld o ra3)
/-- The accumulator after the step. -/
def accFull (v : Vec F S1024x1024 .bf16) (w : Vec F S1024x4096 .fp8e4m3) (s : Vec F S32x4096 .i8) (o : Vec F S1024x4096 .f32) : Vec F S1024x4096 .f32 :=
  View.canon [⟨ra3, acc3 v w s o⟩, ⟨ra2, acc2 v w s o⟩, ⟨ra1, acc1 v w s o⟩, ⟨ra0, acc0 v w s o⟩]

/-! ## The last block, 768 columns of it inside the array -/

/-- As above on the 768 columns. -/
def expoL (v : Vec F S1024x768 .bf16) : IVec S24x1024 32 := k0_pay18 (k0_pay16 v) (k0_pay17 v) 4#32
def keptL (v : Vec F S1024x768 .bf16) : Vec F S1x24x1024 .i32 := k0_pay19 (k0_pay16 v) (k0_pay17 v) 4#32
def invL (v : Vec F S1024x768 .bf16) : FVec F S24x32x1024 .bf16 := k0_pay20 (k0_pay16 v) (k0_pay17 v) 4#32
def codesL (v : Vec F S1024x768 .bf16) : Vec F S1024x768 .fp8e4m3 := k0_pay21 v (invL v)
def deqL (v : Vec F S1024x768 .bf16) : Vec F S1024x768 .bf16 := k0_pay22 v (expoL v) (invL v)
def accL0 (v : Vec F S1024x768 .bf16) (w : Vec F S1024x4096 .fp8e4m3) (s : Vec F S32x4096 .i8) (o : Vec F S1024x4096 .f32) : Vec F S1024x1024 .f32 :=
  k0_pay23 v (expoL v) (invL v) (View.ld w rb0) (View.ld s rt0) (View.ld o ra0)
def accL1 (v : Vec F S1024x768 .bf16) (w : Vec F S1024x4096 .fp8e4m3) (s : Vec F S32x4096 .i8) (o : Vec F S1024x4096 .f32) : Vec F S1024x1024 .f32 :=
  k0_pay24 (deqL v) (View.ld w rb1) (View.ld s rt1) (View.ld o ra1)
def accL2 (v : Vec F S1024x768 .bf16) (w : Vec F S1024x4096 .fp8e4m3) (s : Vec F S32x4096 .i8) (o : Vec F S1024x4096 .f32) : Vec F S1024x1024 .f32 :=
  k0_pay25 (deqL v) (View.ld w rb2) (View.ld s rt2) (View.ld o ra2)
def accL3 (v : Vec F S1024x768 .bf16) (w : Vec F S1024x4096 .fp8e4m3) (s : Vec F S32x4096 .i8) (o : Vec F S1024x4096 .f32) : Vec F S1024x1024 .f32 :=
  k0_pay3 (deqL v) (View.ld w rb3) (View.ld s rt3) (View.ld o ra3)
def accLast (v : Vec F S1024x768 .bf16) (w : Vec F S1024x4096 .fp8e4m3) (s : Vec F S32x4096 .i8) (o : Vec F S1024x4096 .f32) : Vec F S1024x4096 .f32 :=
  View.canon [⟨ra3, accL3 v w s o⟩, ⟨ra2, accL2 v w s o⟩, ⟨ra1, accL1 v w s o⟩, ⟨ra0, accL0 v w s o⟩]

/-! ## Reading what was written -/

/-- The strips tile the accumulator. -/
theorem coverFull (p3 p2 p1 p0 : Vec F S1024x1024 .f32) (y : S1024x4096.Idx) :
    ∃ pc ∈ ([⟨ra3, p3⟩, ⟨ra2, p2⟩, ⟨ra1, p1⟩, ⟨ra0, p0⟩] : List (View.Piece (Elt F) S1024x4096 .f32)), y ∈ pc.1.set :=
  View.cover_of_tiled [⟨ra3, p3⟩, ⟨ra2, p2⟩, ⟨ra1, p1⟩, ⟨ra0, p0⟩] ![1024, 1024] (by rfl) y

/-- A load from a strip does not see an earlier write of a strip left of it. -/
theorem readCov_left {sp : Space} (m : View sig .tc sp S1024x4096 .f32) (off sz off' sz' : Fin 2 → Nat)
    (hin : ∀ a, off a + sz a ≤ S1024x4096.size a) (hin' : ∀ a, off' a + sz' a ≤ S1024x4096.size a)
    (w : (Rect.unit (s := S1024x4096) off sz hin).shape.Idx → Elt F .f32) (L : List (View.Piece (Elt F) S1024x4096 .f32))
    (h : off 1 + sz 1 ≤ off' 1) :
    m.readCov (⟨Rect.unit (s := S1024x4096) off sz hin, w⟩ :: L) (Rect.unit (s := S1024x4096) off' sz' hin').toLoadRect
      = m.readCov L (Rect.unit (s := S1024x4096) off' sz' hin').toLoadRect := by
  refine View.readCov_cons_of_disjoint m _ L _ (Finset.disjoint_left.mpr fun y h1 h2 => ?_)
  replace h1 : y ∈ (Rect.unit (s := S1024x4096) off sz hin).set := h1
  rw [Rect.mem_set_unit] at h1 h2
  have e1 := h1 (1 : Fin 2)
  have e2 := h2 (1 : Fin 2)
  omega
/-- After the zeroing write alone, a load reads zeros. -/
theorem readCov_zero {sp : Space} (m : View sig .tc sp S1024x4096 .f32) (hin : ∀ a, (![0, 0] : Fin 2 → Nat) a + (![1024, 4096] : Fin 2 → Nat) a ≤ S1024x4096.size a)
    (w : Vec F S1024x4096 .f32) (r : Rect S1024x4096) :
    m.readCov [⟨Rect.unit (s := S1024x4096) ![0, 0] ![1024, 4096] hin, w⟩] r.toLoadRect = View.ld w r := by
  rw [View.readCov_eq_canon']
  exact congrArg (fun d : Vec F S1024x4096 .f32 => View.ld d r) (View.canon_unit_zero (S := S1024x4096) hz2 _ w)

theorem cover6 (p : Vec F S1024x1024 .fp8e4m3) (y : S1024x1024.Idx) :
    ∃ pc ∈ ([⟨rdy, p⟩] : List (View.Piece (Elt F) S1024x1024 .fp8e4m3)), y ∈ pc.1.set :=
  View.cover_of_tiled [⟨rdy, p⟩] S1024x1024.size (by rfl) y
theorem cover5 (p : Vec F S1024x4096 .bf16) (y : S1024x4096.Idx) :
    ∃ pc ∈ ([⟨rdx, p⟩] : List (View.Piece (Elt F) S1024x4096 .bf16)), y ∈ pc.1.set :=
  View.cover_of_tiled [⟨rdx, p⟩] S1024x4096.size (by rfl) y
theorem cover7 (p : Vec F S1024x344 .i8) (y : S1024x344.Idx) :
    ∃ pc ∈ ([⟨rrs, p⟩] : List (View.Piece (Elt F) S1024x344 .i8)), y ∈ pc.1.set :=
  View.cover_of_tiled [⟨rrs, p⟩] S1024x344.size (by rfl) y

/-- An earlier write under covering ones is not read. -/
theorem canon_more {S : Shape} {e : EltTy} (L : List (View.Piece (Elt F) S e)) (q : View.Piece (Elt F) S e) (y : S.Idx)
    (h : ∃ p ∈ L, y ∈ p.1.set) : View.canon (L ++ [q]) y = View.canon L y := by
  induction L with
  | nil => obtain ⟨_, hp, _⟩ := h; exact absurd hp List.not_mem_nil
  | cons a L ih =>
    by_cases ha : y ∈ a.1.set
    · obtain ⟨r, w⟩ := a
      obtain ⟨x, rfl⟩ : ∃ x, r.emb x = y := r.exists_idx_of_mem ha
      rw [List.cons_append, View.canon_cons_emb, View.canon_cons_emb]
    · rw [List.cons_append, View.canon_cons_of_not_mem _ _ ha, View.canon_cons_of_not_mem _ _ ha]
      refine ih ?_
      obtain ⟨p, hp, hy⟩ := h
      rcases List.mem_cons.mp hp with rfl | hp
      · exact absurd hy ha
      · exact ⟨p, hp, hy⟩
theorem coverFull4 (p3 p2 p1 p0 : Vec F S1024x1024 .f32) (q : View.Piece (Elt F) S1024x4096 .f32) (y : S1024x4096.Idx) :
    ∃ pc ∈ ([⟨ra3, p3⟩, ⟨ra2, p2⟩, ⟨ra1, p1⟩, ⟨ra0, p0⟩, q] : List (View.Piece (Elt F) S1024x4096 .f32)), y ∈ pc.1.set := by
  obtain ⟨p, hp, hy⟩ := coverFull p3 p2 p1 p0 y
  exact ⟨p, List.mem_append_left [q] hp, hy⟩
theorem canon4 (p3 p2 p1 p0 : Vec F S1024x1024 .f32) (q : View.Piece (Elt F) S1024x4096 .f32) :
    View.canon ([⟨ra3, p3⟩, ⟨ra2, p2⟩, ⟨ra1, p1⟩, ⟨ra0, p0⟩, q] : List (View.Piece (Elt F) S1024x4096 .f32))
      = View.canon ([⟨ra3, p3⟩, ⟨ra2, p2⟩, ⟨ra1, p1⟩, ⟨ra0, p0⟩] : List (View.Piece (Elt F) S1024x4096 .f32)) :=
  funext fun y => canon_more [⟨ra3, p3⟩, ⟨ra2, p2⟩, ⟨ra1, p1⟩, ⟨ra0, p0⟩] q y (coverFull p3 p2 p1 p0 y)
/-- The load of the whole accumulator after its strips were written. -/
theorem readCov_strips {sp : Space} (m : View sig .tc sp S1024x4096 .f32) (hin : ∀ a, (![0, 0] : Fin 2 → Nat) a + (![1024, 4096] : Fin 2 → Nat) a ≤ S1024x4096.size a)
    (L : List (View.Piece (Elt F) S1024x4096 .f32)) :
    m.readCov L (Rect.unit (s := S1024x4096) ![0, 0] ![1024, 4096] hin).toLoadRect = View.canon L := by
  rw [View.readCov_eq_canon']
  exact View.ld_unit_zero (S := S1024x4096) hz2 _ _

/-- Contents agreeing with the writes `L` wherever one of them reaches. -/
def Agrees {S : Shape} {e : EltTy} (L : List (View.Piece (Elt F) S e)) (d : S.Idx → Elt F e) : Prop :=
  ∀ y, (∃ p ∈ L, y ∈ p.1.set) → d y = View.canon L y
/-- Contents `e'` that are `p` on the rectangle `r` and `d` off it. -/
def Upd {S : Shape} {e : EltTy} (r : Rect S) (p : r.shape.Idx → Elt F e) (d e' : S.Idx → Elt F e) : Prop :=
  (∀ x, e' (r.emb x) = p x) ∧ ∀ y, y ∉ r.set → e' y = d y
theorem upd_writes {sp : Space} {S : Shape} {e : EltTy} (v : View sig .tc sp S e) (f : v.ty.Contents (Elt F)) (r : Rect S) (p : r.shape.Idx → Elt F e) :
    Upd r p (v.read (Elt F) f) (v.read (Elt F) (v.writes (Elt F) f [⟨r, p⟩])) :=
  ⟨fun x => View.read_writes_cons_emb _ _ r p [] x, fun y hy => by
    rw [View.read_writes_cons_miss _ _ _ _ _ hy]; rfl⟩

end Cert.Dgrad.Run

end
-- ==== Proof.DgradFirst.lean ====
/- The input-gradient kernel's step at the first column block of a row block. -/
module

public import proofs.«01_k».proof.Proof.DgradBody

@[expose] public section

set_option maxRecDepth 16384

noncomputable section

namespace Cert.Dgrad.Run

open Cert.Dgrad Cert.Dgrad.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- A full block at the first point of its row block, where the accumulator is zeroed first. -/
theorem step_first (c : Dev nD) (E : Set ℕ) (i : grid0.Coords) (h1 : cond1 i = 1#1) (h2 : k0_cond2 i = 1#1) (h3 : ¬ k0_cond3 i = 1#1)
    (arg2 : Memref sig .tc .vmem S1024x1024 .bf16) (harg2 : arg2.IsWhole) (arg3 : Memref sig .tc .vmem S1024x4096 .fp8e4m3) (harg3 : arg3.IsWhole) (arg4 : Memref sig .tc .vmem S32x4096 .i8) (harg4 : arg4.IsWhole) (arg5 : Memref sig .tc .vmem S1024x4096 .bf16) (harg5 : arg5.IsWhole) (arg6 : Memref sig .tc .vmem S1024x1024 .fp8e4m3) (harg6 : arg6.IsWhole) (arg7 : Memref sig .tc .vmem S1024x344 .i8) (harg7 : arg7.IsWhole) (arg8 : Memref sig .tc .vmem S1024x4096 .f32) (harg8 : arg8.IsWhole) (arg9 : Memref sig .tc .vmem S11x32x1024 .i32) (harg9 : arg9.IsWhole)
    (v : Vec F S1024x1024 .bf16) (w : Vec F S1024x4096 .fp8e4m3) (s : Vec F S32x4096 .i8) (d : Vec F S11x32x1024 .i32) (K : PUnit → sProp 𝕄) :
    iprop(owns (c : Thread nD τ) arg2 fullShare v ∗ owns (c : Thread nD τ) arg3 fullShare w ∗ owns (c : Thread nD τ) arg4 fullShare s ∗ (∃ d, owns (c : Thread nD τ) arg6 fullShare d) ∗ (∃ d, owns (c : Thread nD τ) arg8 fullShare d) ∗ owns (c : Thread nD τ) arg9 fullShare d
        ∗ (iprop(owns (c : Thread nD τ) arg2 fullShare v ∗ owns (c : Thread nD τ) arg3 fullShare w ∗ owns (c : Thread nD τ) arg4 fullShare s ∗ owns (c : Thread nD τ) arg6 fullShare (codes v) ∗ owns (c : Thread nD τ) arg8 fullShare (accFull v w s k0_pay1) ∗ (∃ e, ⌜Upd (slotF i h2) (kept v) d e⌝ ∗ owns (c : Thread nD τ) arg9 fullShare e)) -∗ K ⟨⟩))
      ⊢ wp frame (wpE (defs₀ (F := F)) Variants.none c none) E (cc0_dgrad i arg2 harg2 arg3 harg3 arg4 harg4 arg5 harg5 arg6 harg6 arg7 harg7 arg8 harg8 arg9 harg9) K := by
  simp only [cc0_dgrad_eq_skeleton]; unfold cc0_dgrad_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%d6, %f6, -, H6⟩, ⟨%d8, %f8, -, H8⟩, ⟨%f9, %hf9, H9⟩, Hk⟩
  subst hf0 hf1 hf2 hf9
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H6]
  · iexists _; isplitr
    swap; · iexact H6
    ipureintro
    rw [View.read_writes_eq_canon _ _ _ (cover6 _)]
    sl_unfold_words
    unfold codes inv
    simp only [View.readAt_eq_ld, View.ld_unit_zero (S := S1024x1024) hz2]
    exact View.canon_unit_zero (S := S1024x1024) hz2 _ _
  isplitl [H8]
  · iexists _; isplitr
    swap; · iexact H8
    ipureintro
    sl_unfold_words
    rw [View.read_writes_eq_canon _ _ _ (coverFull4 _ _ _ _ _)]
    unfold accFull acc0 acc1 acc2 acc3 deq expo inv
    rw [canon4]
    simp (disch := decide) only [readCov_left]
    simp only [readCov_zero]
    simp only [View.readAt_eq_ld, View.ld_unit_zero (S := S1024x1024) hz2]
  iexists _; isplitr
  swap
  · iexists _; isplitr
    swap; · iexact H9
    ipureintro; rfl
  ipureintro
  sl_unfold_words
  unfold kept
  simp only [View.readAt_eq_ld, View.ld_unit_zero (S := S1024x1024) hz2]
  exact upd_writes _ _ _ _

end Cert.Dgrad.Run

end
-- ==== Proof.DgradMid.lean ====
/- The input-gradient kernel's step at a later full column block. -/
module

public import proofs.«01_k».proof.Proof.DgradBody

@[expose] public section

set_option maxRecDepth 16384

noncomputable section

namespace Cert.Dgrad.Run

open Cert.Dgrad Cert.Dgrad.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- A later full block, added to the accumulator. -/
theorem step_mid (c : Dev nD) (E : Set ℕ) (i : grid0.Coords) (h1 : ¬ cond1 i = 1#1) (h2 : k0_cond2 i = 1#1) (h3 : ¬ k0_cond3 i = 1#1)
    (arg2 : Memref sig .tc .vmem S1024x1024 .bf16) (harg2 : arg2.IsWhole) (arg3 : Memref sig .tc .vmem S1024x4096 .fp8e4m3) (harg3 : arg3.IsWhole) (arg4 : Memref sig .tc .vmem S32x4096 .i8) (harg4 : arg4.IsWhole) (arg5 : Memref sig .tc .vmem S1024x4096 .bf16) (harg5 : arg5.IsWhole) (arg6 : Memref sig .tc .vmem S1024x1024 .fp8e4m3) (harg6 : arg6.IsWhole) (arg7 : Memref sig .tc .vmem S1024x344 .i8) (harg7 : arg7.IsWhole) (arg8 : Memref sig .tc .vmem S1024x4096 .f32) (harg8 : arg8.IsWhole) (arg9 : Memref sig .tc .vmem S11x32x1024 .i32) (harg9 : arg9.IsWhole)
    (v : Vec F S1024x1024 .bf16) (w : Vec F S1024x4096 .fp8e4m3) (s : Vec F S32x4096 .i8) (o : Vec F S1024x4096 .f32) (d : Vec F S11x32x1024 .i32) (K : PUnit → sProp 𝕄) :
    iprop(owns (c : Thread nD τ) arg2 fullShare v ∗ owns (c : Thread nD τ) arg3 fullShare w ∗ owns (c : Thread nD τ) arg4 fullShare s ∗ (∃ d, owns (c : Thread nD τ) arg6 fullShare d) ∗ owns (c : Thread nD τ) arg8 fullShare o ∗ owns (c : Thread nD τ) arg9 fullShare d
        ∗ (iprop(owns (c : Thread nD τ) arg2 fullShare v ∗ owns (c : Thread nD τ) arg3 fullShare w ∗ owns (c : Thread nD τ) arg4 fullShare s ∗ owns (c : Thread nD τ) arg6 fullShare (codes v) ∗ owns (c : Thread nD τ) arg8 fullShare (accFull v w s o) ∗ (∃ e, ⌜Upd (slotF i h2) (kept v) d e⌝ ∗ owns (c : Thread nD τ) arg9 fullShare e)) -∗ K ⟨⟩))
      ⊢ wp frame (wpE (defs₀ (F := F)) Variants.none c none) E (cc0_dgrad i arg2 harg2 arg3 harg3 arg4 harg4 arg5 harg5 arg6 harg6 arg7 harg7 arg8 harg8 arg9 harg9) K := by
  simp only [cc0_dgrad_eq_skeleton]; unfold cc0_dgrad_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%d6, %f6, -, H6⟩, ⟨%f8, %hf8, H8⟩, ⟨%f9, %hf9, H9⟩, Hk⟩
  subst hf0 hf1 hf2 hf8 hf9
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H6]
  · iexists _; isplitr
    swap; · iexact H6
    ipureintro
    rw [View.read_writes_eq_canon _ _ _ (cover6 _)]
    sl_unfold_words
    unfold codes inv
    simp only [View.readAt_eq_ld, View.ld_unit_zero (S := S1024x1024) hz2]
    exact View.canon_unit_zero (S := S1024x1024) hz2 _ _
  isplitl [H8]
  · iexists _; isplitr
    swap; · iexact H8
    ipureintro
    rw [View.read_writes_eq_canon _ _ _ (coverFull _ _ _ _)]
    sl_unfold_words
    unfold accFull acc0 acc1 acc2 acc3 deq expo inv
    simp only [View.readAt_eq_ld, View.ld_unit_zero (S := S1024x1024) hz2]
  iexists _; isplitr
  swap
  · iexists _; isplitr
    swap; · iexact H9
    ipureintro; rfl
  ipureintro
  sl_unfold_words
  unfold kept
  simp only [View.readAt_eq_ld, View.ld_unit_zero (S := S1024x1024) hz2]
  exact upd_writes _ _ _ _

end Cert.Dgrad.Run

end
-- ==== Proof.DgradLast.lean ====
/- The input-gradient kernel's step at the last, cut column block. -/
module

public import proofs.«01_k».proof.Proof.DgradBody

@[expose] public section

set_option maxRecDepth 16384

noncomputable section

namespace Cert.Dgrad.Run

open Cert.Dgrad Cert.Dgrad.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The last block: added to the accumulator, which is then stored rounded beside the row scales. -/
theorem step_last (c : Dev nD) (E : Set ℕ) (i : grid0.Coords) (h1 : ¬ cond1 i = 1#1) (h2 : ¬ k0_cond2 i = 1#1) (h3 : k0_cond3 i = 1#1)
    (arg2 : Memref sig .tc .vmem S1024x1024 .bf16) (harg2 : arg2.IsWhole) (arg3 : Memref sig .tc .vmem S1024x4096 .fp8e4m3) (harg3 : arg3.IsWhole) (arg4 : Memref sig .tc .vmem S32x4096 .i8) (harg4 : arg4.IsWhole) (arg5 : Memref sig .tc .vmem S1024x4096 .bf16) (harg5 : arg5.IsWhole) (arg6 : Memref sig .tc .vmem S1024x1024 .fp8e4m3) (harg6 : arg6.IsWhole) (arg7 : Memref sig .tc .vmem S1024x344 .i8) (harg7 : arg7.IsWhole) (arg8 : Memref sig .tc .vmem S1024x4096 .f32) (harg8 : arg8.IsWhole) (arg9 : Memref sig .tc .vmem S11x32x1024 .i32) (harg9 : arg9.IsWhole)
    (v : Vec F S1024x1024 .bf16) (w : Vec F S1024x4096 .fp8e4m3) (s : Vec F S32x4096 .i8) (o : Vec F S1024x4096 .f32) (d : Vec F S11x32x1024 .i32) (K : PUnit → sProp 𝕄) :
    iprop(owns (c : Thread nD τ) arg2 fullShare v ∗ owns (c : Thread nD τ) arg3 fullShare w ∗ owns (c : Thread nD τ) arg4 fullShare s ∗ (∃ d, owns (c : Thread nD τ) arg6 fullShare d) ∗ owns (c : Thread nD τ) arg8 fullShare o ∗ owns (c : Thread nD τ) arg9 fullShare d ∗ (∃ d, owns (c : Thread nD τ) arg5 fullShare d) ∗ (∃ d, owns (c : Thread nD τ) arg7 fullShare d)
        ∗ (iprop(owns (c : Thread nD τ) arg2 fullShare v ∗ owns (c : Thread nD τ) arg3 fullShare w ∗ owns (c : Thread nD τ) arg4 fullShare s ∗ (∃ d, ⌜Agrees [⟨rdyL, codesL (View.ld v rdyL)⟩] d⌝ ∗ owns (c : Thread nD τ) arg6 fullShare d) ∗ owns (c : Thread nD τ) arg8 fullShare (accLast (View.ld v rdyL) w s o) ∗ owns (c : Thread nD τ) arg5 fullShare (k0_pay4 (accLast (View.ld v rdyL) w s o)) ∗ (∃ e, ⌜Upd (slotL i h3) (keptL (View.ld v rdyL)) d e⌝ ∗ owns (c : Thread nD τ) arg9 fullShare e ∗ owns (c : Thread nD τ) arg7 fullShare (k0_pay5 e))) -∗ K ⟨⟩))
      ⊢ wp frame (wpE (defs₀ (F := F)) Variants.none c none) E (cc0_dgrad i arg2 harg2 arg3 harg3 arg4 harg4 arg5 harg5 arg6 harg6 arg7 harg7 arg8 harg8 arg9 harg9) K := by
  simp only [cc0_dgrad_eq_skeleton]; unfold cc0_dgrad_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%d6, %f6, -, H6⟩, ⟨%f8, %hf8, H8⟩, ⟨%f9, %hf9, H9⟩, ⟨%d5, %f5, -, H5⟩, ⟨%d7, %f7, -, H7⟩, Hk⟩
  subst hf0 hf1 hf2 hf8 hf9
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H6]
  · iexists _; isplitr
    swap
    · iexists _; isplitr
      swap; · iexact H6
      ipureintro; rfl
    ipureintro
    intro y hy
    sl_unfold_words
    unfold codesL invL at *
    simp only [View.readAt_eq_ld] at *
    exact View.read_writes_apply_eq_canon _ _ y _ hy
  isplitl [H8]
  · iexists _; isplitr
    swap; · iexact H8
    ipureintro
    sl_unfold_words
    rw [View.read_writes_eq_canon _ _ _ (coverFull _ _ _ _)]
    unfold accLast accL0 accL1 accL2 accL3 deqL expoL invL
    simp only [View.readAt_eq_ld]
  isplitl [H5]
  · iexists _; isplitr
    swap; · iexact H5
    ipureintro
    rw [View.read_writes_eq_canon _ _ _ (cover5 _)]
    sl_unfold_words
    unfold accLast accL0 accL1 accL2 accL3 deqL expoL invL
    simp only [View.readAt_eq_ld]
    refine (View.canon_unit_zero (S := S1024x4096) hz2 _ _).trans ?_
    exact congrArg k0_pay4 (readCov_strips _ _ _)
  iexists _; isplitr
  swap
  · isplitl [H9]
    · iexists _; isplitr
      swap; · iexact H9
      ipureintro; rfl
    · iexists _; isplitr
      swap; · iexact H7
      ipureintro
      rw [View.read_writes_eq_canon _ _ _ (cover7 _)]
      sl_unfold_words
      refine (View.canon_unit_zero (S := S1024x344) hz2 _ _).trans ?_
      refine congrArg k0_pay5 ?_
      simp only [View.readAt_eq_ld]
      exact View.ld_unit_zero (S := S11x32x1024) hz3 _ _
  ipureintro
  sl_unfold_words
  unfold keptL
  simp only [View.readAt_eq_ld]
  exact upd_writes _ _ _ _

end Cert.Dgrad.Run

end
-- ==== Proof.DgradRun.lean ====
/- The whole run of the input-gradient kernel: what each buffer holds after every grid point, what the two kept buffers hold
   between points (the accumulator as a recursion over the points, the exponents slot by slot), the pipeline's obligation
   for the body, and the run of the program from any memory. -/
module

public import proofs.«01_k».proof.Proof.DgradFirst
public import proofs.«01_k».proof.Proof.DgradMid
public import proofs.«01_k».proof.Proof.DgradLast
public import Idealize.ShloMosaic.Lib.Pipeline.KitQuiescent
public import Idealize.ShloMosaic.Lib.Claim
public import Idealize.ShloMosaic.Lib.Pipeline.Covers
public import Idealize.ShloMosaic.Lib.Pipeline.ValueKit.Tiles
public import Idealize.ShloMosaic.Lib.Pointwise

@[expose] public section

set_option maxRecDepth 16384

noncomputable section

namespace Cert.Dgrad.Run

open Cert.Dgrad Cert.Dgrad.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

theorem cond1_iff : ∀ t : Fin cfg0.N, (cond1 (grid0.coords t) = 1#1 ↔ t.val % 11 = 0) := by decide +kernel
theorem cond2_iff : ∀ t : Fin cfg0.N, (k0_cond2 (grid0.coords t) = 1#1 ↔ t.val % 11 < 10) := by decide +kernel
theorem cond3_iff : ∀ t : Fin cfg0.N, (k0_cond3 (grid0.coords t) = 1#1 ↔ ¬ t.val % 11 < 10) := by decide +kernel
theorem off1_eq : ∀ t : Fin cfg0.N, k0_off1 (grid0.coords t) 0 = t.val % 11 ∧ k0_off1 (grid0.coords t) 1 = 0
    ∧ k0_off1 (grid0.coords t) 2 = 0 := by decide +kernel
theorem off2_eq : ∀ t : Fin cfg0.N, k0_off2 (grid0.coords t) 0 = t.val % 11 ∧ k0_off2 (grid0.coords t) 1 = 0
    ∧ k0_off2 (grid0.coords t) 2 = 0 := by decide +kernel

/-- The part of each cut block that lies in its array. -/
theorem xs0 : ∀ t : Fin cfg0.N, win0_0.xsize (grid0.coords t) 0 = 1024
    ∧ win0_0.xsize (grid0.coords t) 1 = if t.val % 11 < 10 then 1024 else 768 := by decide +kernel
theorem xs1 : ∀ t : Fin cfg0.N, win0_1.xsize (grid0.coords t) 1 = 4096
    ∧ win0_1.xsize (grid0.coords t) 0 = if t.val % 11 < 10 then 1024 else 768 := by decide +kernel
theorem xs2 : ∀ t : Fin cfg0.N, win0_2.xsize (grid0.coords t) 1 = 4096
    ∧ win0_2.xsize (grid0.coords t) 0 = if t.val % 11 < 10 then 32 else 24 := by decide +kernel
theorem xs4 : ∀ t : Fin cfg0.N, win0_4.xsize (grid0.coords t) 0 = 1024
    ∧ win0_4.xsize (grid0.coords t) 1 = if t.val % 11 < 10 then 1024 else 768 := by decide +kernel

/-- Which outputs a point leaves unwritten: the product and the row scales, except at the last column block. -/
theorem idle3 (t : Fin cfg0.N) (h : t.val % 11 < 10) : cfg0.idle 3 (grid0.coords t) = true := by
  have h3 : ¬ k0_cond3 (grid0.coords t) = 1#1 := fun e => (cond3_iff t).mp e h
  show (!(k0_cond3 (grid0.coords t) == 1#1)) = true
  simp [h3]
theorem idle5 (t : Fin cfg0.N) (h : t.val % 11 < 10) : cfg0.idle 5 (grid0.coords t) = true := by
  have h3 : ¬ k0_cond3 (grid0.coords t) = 1#1 := fun e => (cond3_iff t).mp e h
  show (!(k0_cond3 (grid0.coords t) == 1#1)) = true
  simp [h3]
theorem live3 (t : Fin cfg0.N) (h : ¬ t.val % 11 < 10) : cfg0.idle 3 (grid0.coords t) = false := by
  show (!(k0_cond3 (grid0.coords t) == 1#1)) = false
  rw [(cond3_iff t).mpr h]; rfl
theorem live5 (t : Fin cfg0.N) (h : ¬ t.val % 11 < 10) : cfg0.idle 5 (grid0.coords t) = false := by
  show (!(k0_cond3 (grid0.coords t) == 1#1)) = false
  rw [(cond3_iff t).mpr h]; rfl
theorem live4 (t : Fin cfg0.N) : cfg0.idle 4 (grid0.coords t) = false := by
  have h2 := cond2_iff t
  have h3 := cond3_iff t
  show (!(k0_cond2 (grid0.coords t) == 1#1) && !(k0_cond3 (grid0.coords t) == 1#1)) = false
  by_cases h : t.val % 11 < 10
  · rw [h2.mpr h]; simp
  · rw [h3.mpr h]; simp

/-! ## What the buffers hold -/

/-- The gradient block of point `t`, the weight codes and scales, zeros where they overhang the arrays. -/
def gblk (c : Dev nD) (t : Fin cfg0.N) : Vec F S1024x1024 .bf16 :=
  win0_0.fill (grid0.coords t) (fun _ => Scalar.ofBits .bf16 0#16) (iblk m c 0 t)
def wblk (c : Dev nD) (t : Fin cfg0.N) : Vec F S1024x4096 .fp8e4m3 :=
  win0_1.fill (grid0.coords t) (fun _ => Scalar.ofBits .fp8e4m3 0#8) (iblk m c 1 t)
def sblk (c : Dev nD) (t : Fin cfg0.N) : Vec F S32x4096 .i8 :=
  win0_2.fill (grid0.coords t) (fun _ => 0#8) (iblk m c 2 t)

/-- The accumulator after the body at point `t`, from what the point starts with. -/
def accStep (c : Dev nD) (t : Fin cfg0.N) (o : Vec F S1024x4096 .f32) : Vec F S1024x4096 .f32 :=
  if t.val % 11 < 10 then accFull (gblk m c t) (wblk m c t) (sblk m c t) o
  else accLast (View.ld (gblk m c t) rdyL) (wblk m c t) (sblk m c t) o

/-- The accumulator after point `n`: started from zeros at the first point of every row block. -/
def accAt (c : Dev nD) : (n : ℕ) → n < cfg0.N → Vec F S1024x4096 .f32
  | 0, h => accStep m c ⟨0, h⟩ k0_pay1
  | n + 1, h => accStep m c ⟨n + 1, h⟩ (if (n + 1) % 11 = 0 then k0_pay1 else accAt c n (Nat.lt_of_succ_lt h))

/-- The codes of point `t`. -/
def codesAt (c : Dev nD) (t : Fin cfg0.N) : Vec F S1024x1024 .fp8e4m3 :=
  if t.val % 11 < 10 then codes (gblk m c t) else View.canon [⟨rdyL, codesL (View.ld (gblk m c t) rdyL)⟩]

/-- The kept exponents before point `n`: the slots its row block has filled so far. -/
def Kept (c : Dev nD) (n : ℕ) (d : Vec F S11x32x1024 .i32) : Prop :=
  ∀ (k : Fin cfg0.N), k.val < n → k.val / 11 = n / 11 → ∀ (a : Fin 32) (b : Fin 1024),
    d (ix3 ⟨k.val % 11, Nat.mod_lt _ (by decide)⟩ a b) = kept (gblk m c k) (ix3 0 a b)
/-- The kept exponents after the last point `t` of a row block, on the rows that are read. -/
def KeptAll (c : Dev nD) (t : Fin cfg0.N) (d : Vec F S11x32x1024 .i32) : Prop :=
  Kept m c t.val d ∧ ∀ (a : Fin 24) (b : Fin 1024),
    d (ix3 (10 : Fin 11) ⟨a.val, by omega⟩ b) = keptL (View.ld (gblk m c t) rdyL) (ix3 0 a b)
/-- The accumulator before point `n`. -/
def AccIs (c : Dev nD) (n : ℕ) (o : Vec F S1024x4096 .f32) : Prop :=
  ∀ (k : ℕ) (hk : k < cfg0.N), n = k + 1 → n % 11 ≠ 0 → o = accAt m c k hk

/-- The row scales of point `t`, a function of the exponents `KeptAll` determines on the rows it reads. -/
def rowsAt (c : Dev nD) (t : Fin cfg0.N) : Vec F S1024x344 .i8 :=
  k0_pay5 (F := F) fun y =>
    if h : (y 0).val < 10 then
      kept (gblk m c ⟨t.val / 11 * 11 + (y 0).val, by
        have ht : t.val < 176 := t.isLt
        show t.val / 11 * 11 + (y 0).val < 176
        omega⟩) (ix3 0 (y 1) (y 2))
    else if h' : (y 1).val < 24 then keptL (View.ld (gblk m c t) rdyL) (ix3 0 ⟨(y 1).val, h'⟩ (y 2))
    else 0#32

/-- The proof data: arrays as the region finds them, every buffer as above, the two kept buffers carried along. -/
def dats (_ : Fin 1) (c : Dev nD) : Dat τ (Elt F) Unit ℕ (UR sig nD τ) ℕ cfg0 c where
  A w := V m c (Pipeline.arrRef spec0 w)
  after w t := match w with
    | ⟨0, _⟩ => gblk m c t
    | ⟨1, _⟩ => wblk m c t
    | ⟨2, _⟩ => sblk m c t
    | ⟨3, _⟩ => k0_pay4 (accAt m c t.val t.isLt)
    | ⟨4, _⟩ => codesAt m c t
    | ⟨5, _⟩ => rowsAt m c t
  Φ t := iprop(∃ o d, ⌜AccIs m c t.val o ∧ Kept m c t.val d⌝
    ∗ owns (c : Thread nD τ) (Memref.whole cc0_scratch0) fullShare o
    ∗ owns (c : Thread nD τ) (Memref.whole cc0_scratch1) fullShare d ∗ ∃ r, prngReg c r)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = gblk m c t := by dsimp only [dats]
theorem after0_1 (c : Dev nD) (t : Fin cfg0.N) : (dats m 0 c).after 1 t = wblk m c t := by dsimp only [dats]
theorem after0_2 (c : Dev nD) (t : Fin cfg0.N) : (dats m 0 c).after 2 t = sblk m c t := by dsimp only [dats]
theorem after0_3 (c : Dev nD) (t : Fin cfg0.N) : (dats m 0 c).after 3 t = k0_pay4 (accAt m c t.val t.isLt) := by dsimp only [dats]
theorem after0_4 (c : Dev nD) (t : Fin cfg0.N) : (dats m 0 c).after 4 t = codesAt m c t := by dsimp only [dats]
theorem after0_5 (c : Dev nD) (t : Fin cfg0.N) : (dats m 0 c).after 5 t = rowsAt m c t := by dsimp only [dats]
/-- What is carried from point to point. -/
def carry (c : Dev nD) (n : ℕ) : sProp 𝕄 :=
  iprop(∃ o d, ⌜AccIs m c n o ∧ Kept m c n d⌝
    ∗ owns (c : Thread nD τ) (Memref.whole cc0_scratch0) fullShare o
    ∗ owns (c : Thread nD τ) (Memref.whole cc0_scratch1) fullShare d ∗ ∃ r, prngReg c r)
theorem Φ_eq (c : Dev nD) (t : Fin (cfg0.N + 1)) : (dats m 0 c).Φ t = carry m c t.val := by dsimp only [dats, carry]

theorem before0_0 (c : Dev nD) (t : Fin cfg0.N) (d) :
    (dats m 0 c).before 0 t d = win0_0.fill (grid0.coords t) d (iblk m c 0 t) := by
  rw [Dat.before_fetched _ _ _ (fetch0_0 t)]
  unfold Dat.fetched Dat.blockOf iblk; rw [A_eq]
theorem before0_1 (c : Dev nD) (t : Fin cfg0.N) (d) :
    (dats m 0 c).before 1 t d = win0_1.fill (grid0.coords t) d (iblk m c 1 t) := by
  rw [Dat.before_fetched _ _ _ (fetch0_1 t)]
  unfold Dat.fetched Dat.blockOf iblk; rw [A_eq]
theorem before0_2 (c : Dev nD) (t : Fin cfg0.N) (d) :
    (dats m 0 c).before 2 t d = win0_2.fill (grid0.coords t) d (iblk m c 2 t) := by
  rw [Dat.before_fetched _ _ _ (fetch0_2 t)]
  unfold Dat.fetched Dat.blockOf iblk; rw [A_eq]

/-! ## Reading through the cuts -/

/-- A cut window's buffer does not depend on its padding where the block lies in the array. -/
theorem fill_at (w : Window sig grid0) (i : grid0.Coords) {α : Type} (d d' : w.block.Idx → α) (g : (w.xblock i).Idx → α)
    (y : w.block.Idx) (h : ∀ a, (y a).val < w.xsize i a) : w.fill i d g y = w.fill i d' g y := by
  have hm : w.moved i y = true := (w.moved_iff i y).mpr h
  unfold Window.fill; rw [dif_pos hm, dif_pos hm]

theorem gfull (c : Dev nD) (t : Fin cfg0.N) (h : t.val % 11 < 10) (d) :
    win0_0.fill (grid0.coords t) d (iblk m c 0 t) = gblk m c t := by
  funext y
  refine fill_at _ _ _ _ _ _ fun a => ?_
  match a with
  | ⟨0, _⟩ => show (y 0).val < win0_0.xsize (grid0.coords t) 0; rw [(xs0 t).1]; exact (y 0).isLt
  | ⟨1, _⟩ => show (y 1).val < win0_0.xsize (grid0.coords t) 1; rw [(xs0 t).2, if_pos h]; exact (y 1).isLt
theorem wfull (c : Dev nD) (t : Fin cfg0.N) (h : t.val % 11 < 10) (d) :
    win0_1.fill (grid0.coords t) d (iblk m c 1 t) = wblk m c t := by
  funext y
  refine fill_at _ _ _ _ _ _ fun a => ?_
  match a with
  | ⟨0, _⟩ => show (y 0).val < win0_1.xsize (grid0.coords t) 0; rw [(xs1 t).2, if_pos h]; exact (y 0).isLt
  | ⟨1, _⟩ => show (y 1).val < win0_1.xsize (grid0.coords t) 1; rw [(xs1 t).1]; exact (y 1).isLt
theorem sfull (c : Dev nD) (t : Fin cfg0.N) (h : t.val % 11 < 10) (d) :
    win0_2.fill (grid0.coords t) d (iblk m c 2 t) = sblk m c t := by
  funext y
  refine fill_at _ _ _ _ _ _ fun a => ?_
  match a with
  | ⟨0, _⟩ => show (y 0).val < win0_2.xsize (grid0.coords t) 0; rw [(xs2 t).2, if_pos h]; exact (y 0).isLt
  | ⟨1, _⟩ => show (y 1).val < win0_2.xsize (grid0.coords t) 1; rw [(xs2 t).1]; exact (y 1).isLt

theorem glast (c : Dev nD) (t : Fin cfg0.N) (h : ¬ t.val % 11 < 10) (d) :
    View.ld (Val := Elt F) (e' := .bf16) (win0_0.fill (grid0.coords t) d (iblk m c 0 t)) rdyL = View.ld (gblk m c t) rdyL := by
  funext y
  show win0_0.fill (grid0.coords t) d (iblk m c 0 t) (rdyL.idx y) = gblk m c t (rdyL.idx y)
  refine fill_at _ _ _ _ _ _ fun a => ?_
  match a with
  | ⟨0, _⟩ => show ((rdyL.idx y) 0).val < win0_0.xsize (grid0.coords t) 0; rw [(xs0 t).1]; exact ((rdyL.idx y) 0).isLt
  | ⟨1, _⟩ =>
    show ((rdyL.idx y) 1).val < win0_0.xsize (grid0.coords t) 1
    have hy : (y 1).val < 768 := (y 1).isLt
    rw [(xs0 t).2, if_neg h, Rect.idx_unit_val]
    show 0 + (y 1).val < 768
    omega
theorem wlast (c : Dev nD) (t : Fin cfg0.N) (h : ¬ t.val % 11 < 10) (d) (r : Rect S1024x4096) (hr : ∀ y, ((r.idx y) 0).val < 768) :
    View.ld (Val := Elt F) (e' := .fp8e4m3) (win0_1.fill (grid0.coords t) d (iblk m c 1 t)) r = View.ld (wblk m c t) r := by
  funext y
  show win0_1.fill (grid0.coords t) d (iblk m c 1 t) (r.idx y) = wblk m c t (r.idx y)
  refine fill_at _ _ _ _ _ _ fun a => ?_
  match a with
  | ⟨0, _⟩ => show ((r.idx y) 0).val < win0_1.xsize (grid0.coords t) 0; rw [(xs1 t).2, if_neg h]; exact hr y
  | ⟨1, _⟩ => show ((r.idx y) 1).val < win0_1.xsize (grid0.coords t) 1; rw [(xs1 t).1]; exact ((r.idx y) 1).isLt
theorem slast (c : Dev nD) (t : Fin cfg0.N) (h : ¬ t.val % 11 < 10) (d) (r : Rect S32x4096) (hr : ∀ y, ((r.idx y) 0).val < 24) :
    View.ld (Val := Elt F) (e' := .i8) (win0_2.fill (grid0.coords t) d (iblk m c 2 t)) r = View.ld (sblk m c t) r := by
  funext y
  show win0_2.fill (grid0.coords t) d (iblk m c 2 t) (r.idx y) = sblk m c t (r.idx y)
  refine fill_at _ _ _ _ _ _ fun a => ?_
  match a with
  | ⟨0, _⟩ => show ((r.idx y) 0).val < win0_2.xsize (grid0.coords t) 0; rw [(xs2 t).2, if_neg h]; exact hr y
  | ⟨1, _⟩ => show ((r.idx y) 1).val < win0_2.xsize (grid0.coords t) 1; rw [(xs2 t).1]; exact ((r.idx y) 1).isLt

theorem accLast_of (w w' : Vec F S1024x4096 .fp8e4m3) (s s' : Vec F S32x4096 .i8) (v : Vec F S1024x768 .bf16) (o : Vec F S1024x4096 .f32)
    (w0 : View.ld w rb0 = View.ld w' rb0) (w1 : View.ld w rb1 = View.ld w' rb1) (w2 : View.ld w rb2 = View.ld w' rb2)
    (w3 : View.ld w rb3 = View.ld w' rb3) (s0 : View.ld s rt0 = View.ld s' rt0) (s1 : View.ld s rt1 = View.ld s' rt1)
    (s2 : View.ld s rt2 = View.ld s' rt2) (s3 : View.ld s rt3 = View.ld s' rt3) : accLast v w s o = accLast v w' s' o := by
  unfold accLast accL0 accL1 accL2 accL3
  rw [w0, w1, w2, w3, s0, s1, s2, s3]

/-- The last block's product reads the weight's first 768 rows and their scales only. -/
theorem accLast_congr (c : Dev nD) (t : Fin cfg0.N) (h : ¬ t.val % 11 < 10) (d1 d2) (v : Vec F S1024x768 .bf16) (o : Vec F S1024x4096 .f32) :
    accLast v (win0_1.fill (grid0.coords t) d1 (iblk m c 1 t)) (win0_2.fill (grid0.coords t) d2 (iblk m c 2 t)) o
      = accLast v (wblk m c t) (sblk m c t) o := by
  have w0 := wlast m c t h d1 rb0 fun y => by
    rw [Rect.idx_unit_val]; have hy : (y 0).val < 768 := (y 0).isLt; show 0 + (y 0).val < 768; omega
  have w1 := wlast m c t h d1 rb1 fun y => by
    rw [Rect.idx_unit_val]; have hy : (y 0).val < 768 := (y 0).isLt; show 0 + (y 0).val < 768; omega
  have w2 := wlast m c t h d1 rb2 fun y => by
    rw [Rect.idx_unit_val]; have hy : (y 0).val < 768 := (y 0).isLt; show 0 + (y 0).val < 768; omega
  have w3 := wlast m c t h d1 rb3 fun y => by
    rw [Rect.idx_unit_val]; have hy : (y 0).val < 768 := (y 0).isLt; show 0 + (y 0).val < 768; omega
  have s0 := slast m c t h d2 rt0 fun y => by
    rw [Rect.idx_unit_val]; have hy : (y 0).val < 24 := (y 0).isLt; show 0 + (y 0).val < 24; omega
  have s1 := slast m c t h d2 rt1 fun y => by
    rw [Rect.idx_unit_val]; have hy : (y 0).val < 24 := (y 0).isLt; show 0 + (y 0).val < 24; omega
  have s2 := slast m c t h d2 rt2 fun y => by
    rw [Rect.idx_unit_val]; have hy : (y 0).val < 24 := (y 0).isLt; show 0 + (y 0).val < 24; omega
  have s3 := slast m c t h d2 rt3 fun y => by
    rw [Rect.idx_unit_val]; have hy : (y 0).val < 24 := (y 0).isLt; show 0 + (y 0).val < 24; omega
  exact accLast_of _ _ _ _ v o w0 w1 w2 w3 s0 s1 s2 s3

theorem agree4 (t : Fin cfg0.N) (h : ¬ t.val % 11 < 10) (p : Vec F S1024x768 .fp8e4m3) (d : Vec F S1024x1024 .fp8e4m3)
    (ha : Agrees [⟨rdyL, p⟩] d) :
    win0_4.cut (grid0.coords t) d = win0_4.cut (grid0.coords t) (View.canon [⟨rdyL, p⟩]) := by
  funext j
  refine ha _ ⟨_, List.mem_singleton.mpr rfl, ?_⟩
  show _ ∈ (rdyL).set
  rw [Rect.mem_set_unit]; intro a
  have h0 := (xs4 t).1
  have h1 := (xs4 t).2; rw [if_neg h] at h1
  match a with
  | ⟨0, _⟩ => exact ⟨Nat.zero_le _, (Nat.zero_add 1024).symm ▸ h0 ▸ (j 0).isLt⟩
  | ⟨1, _⟩ => exact ⟨Nat.zero_le _, (Nat.zero_add 768).symm ▸ h1 ▸ (j 1).isLt⟩

/-! ## The kept exponents -/

theorem kept_step (c : Dev nD) (t : Fin cfg0.N) (h : t.val % 11 < 10) (h2 : k0_cond2 (grid0.coords t) = 1#1) (d e : Vec F S11x32x1024 .i32)
    (hd : Kept m c t.val d) (hu : Upd (slotF (grid0.coords t) h2) (kept (gblk m c t)) d e) : Kept m c (t.val + 1) e := by
  intro k hk hkn a b
  obtain ⟨o0, o1, o2⟩ := off1_eq t
  by_cases hkt : k.val = t.val
  · obtain rfl : k = t := Fin.ext hkt
    refine Eq.trans (congrArg e ?_) (hu.1 (ix3 0 a b))
    funext x
    match x with
    | ⟨0, _⟩ => exact Fin.ext (show k.val % 11 = k0_off1 (grid0.coords k) 0 + 1 * 0 by rw [o0]; omega)
    | ⟨1, _⟩ => exact Fin.ext (show a.val = k0_off1 (grid0.coords k) 1 + 1 * a.val by rw [o1]; omega)
    | ⟨2, _⟩ => exact Fin.ext (show b.val = k0_off1 (grid0.coords k) 2 + 1 * b.val by rw [o2]; omega)
  · refine (hu.2 _ fun hm => ?_).trans (hd k (by omega) (by omega) a b)
    rw [Rect.mem_set_unit] at hm
    have h0 := hm 0
    have h1 : k0_off1 (grid0.coords t) 0 ≤ k.val % 11 := h0.1
    have h2 : k.val % 11 < k0_off1 (grid0.coords t) 0 + 1 := h0.2
    rw [o0] at h1 h2
    omega

theorem kept_last (c : Dev nD) (t : Fin cfg0.N) (h : ¬ t.val % 11 < 10) (h3 : k0_cond3 (grid0.coords t) = 1#1) (d e : Vec F S11x32x1024 .i32)
    (hd : Kept m c t.val d) (hu : Upd (slotL (grid0.coords t) h3) (keptL (View.ld (gblk m c t) rdyL)) d e) : KeptAll m c t e := by
  obtain ⟨o0, o1, o2⟩ := off2_eq t
  refine ⟨fun k hk hkn a b => ?_, fun a b => ?_⟩
  · refine (hu.2 _ fun hm => ?_).trans (hd k hk hkn a b)
    rw [Rect.mem_set_unit] at hm
    have h0 := hm 0
    have h1 : k0_off2 (grid0.coords t) 0 ≤ k.val % 11 := h0.1
    rw [o0] at h1
    omega
  · refine Eq.trans (congrArg e ?_) (hu.1 (ix3 0 a b))
    funext x
    match x with
    | ⟨0, _⟩ => exact Fin.ext (show 10 = k0_off2 (grid0.coords t) 0 + 1 * 0 by rw [o0]; omega)
    | ⟨1, _⟩ => exact Fin.ext (show a.val = k0_off2 (grid0.coords t) 1 + 1 * a.val by rw [o1]; omega)
    | ⟨2, _⟩ => exact Fin.ext (show b.val = k0_off2 (grid0.coords t) 2 + 1 * b.val by rw [o2]; omega)

/-- An entry of the row scales reads one exponent. -/
theorem rows_at (d : Vec F S11x32x1024 .i32) (r : Fin 1024) (b : Fin 344) :
    k0_pay5 (F := F) d (ix2 r b)
      = BitVec.setWidth 8 (IntOp.addi (d (ix3 ⟨b.val / 32, by omega⟩ ⟨b.val % 32, Nat.mod_lt _ (by decide)⟩ r)) 127#32) := by
  unfold k0_pay5
  pointwise

theorem rows_congr (c : Dev nD) (t : Fin cfg0.N) (h : ¬ t.val % 11 < 10) (e : Vec F S11x32x1024 .i32) (hk : KeptAll m c t e) :
    k0_pay5 (F := F) e = rowsAt m c t := by
  unfold rowsAt
  funext y
  rw [eq_ix2 (n0 := 1024) (n1 := 344) y]
  generalize y 0 = r; generalize y 1 = b
  refine (rows_at e r b).trans (Eq.trans ?_ (rows_at _ r b).symm)
  refine congrArg (fun z => BitVec.setWidth 8 (IntOp.addi z 127#32)) ?_
  have hb : b.val < 344 := b.isLt
  have ht : t.val < 176 := t.isLt
  show _ = if h : b.val / 32 < 10 then _ else _
  by_cases h0 : b.val / 32 < 10
  · rw [dif_pos h0]
    refine Eq.trans (congrArg e ?_) (hk.1 ⟨t.val / 11 * 11 + b.val / 32, show _ < 176 by omega⟩ (show _ < _ by dsimp only; omega) (by dsimp only; omega) _ _)
    funext x
    match x with
    | ⟨0, _⟩ => exact Fin.ext (show b.val / 32 = (t.val / 11 * 11 + b.val / 32) % 11 by omega)
    | ⟨1, _⟩ => rfl
    | ⟨2, _⟩ => rfl
  · rw [dif_neg h0]
    have h1 : b.val % 32 < 24 := by omega
    show _ = if h' : b.val % 32 < 24 then _ else _
    rw [dif_pos h1]
    refine Eq.trans (congrArg e ?_) (hk.2 ⟨b.val % 32, h1⟩ r)
    funext x
    match x with
    | ⟨0, _⟩ => exact Fin.ext (show b.val / 32 = 10 by omega)
    | ⟨1, _⟩ => rfl
    | ⟨2, _⟩ => rfl

/-! ## The body at a point -/

/-- A buffer that agrees with `after` on the part inside the array is what the obligation asks of a cut window, -/
theorem leave_loose (c : Dev nD) (t : Fin cfg0.N) (w : Fin cfg0.W) (hi : cfg0.idle w (grid0.coords t) = false) (hl : cfg0.loose w = true)
    (X : (cfg0.win w).block.Idx → Elt F (cfg0.win w).elt)
    (hX : (cfg0.win w).cut (cfg0.grid.coords t) X = (cfg0.win w).cut (cfg0.grid.coords t) ((dats m 0 c).after w t)) :
    owns (c : Thread nD τ) ((cfg0.win w).stage (cfg0.slots t w)) fullShare X ⊢ ((dats m 0 c).leaves w t : sProp 𝕄) := by
  unfold Dat.leaves
  rw [hi, hl]
  dsimp only
  iintro H; iexists X; rw [← hX, Window.fill_cut]; iexact H
/-- and one that holds `after` of an uncut one. -/
theorem leave_exact (c : Dev nD) (t : Fin cfg0.N) (w : Fin cfg0.W) (hi : cfg0.idle w (grid0.coords t) = false) (hl : cfg0.loose w = false)
    (X : (cfg0.win w).block.Idx → Elt F (cfg0.win w).elt) (hX : X = (dats m 0 c).after w t) :
    owns (c : Thread nD τ) ((cfg0.win w).stage (cfg0.slots t w)) fullShare X ⊢ ((dats m 0 c).leaves w t : sProp 𝕄) := by
  subst hX
  unfold Dat.leaves
  rw [hi, hl]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t ∗ (dats m 0 c).leaves 5 t)

theorem acc_zero (c : Dev nD) (t : Fin cfg0.N) (h : t.val % 11 = 0) : accAt m c t.val t.isLt = accStep m c t k0_pay1 := by
  obtain ⟨n, hn⟩ := t
  cases n with
  | zero => rfl
  | succ n => show accStep m c _ (if (n + 1) % 11 = 0 then _ else _) = _; rw [if_pos h]
theorem acc_succ (c : Dev nD) (t : Fin cfg0.N) (h : ¬ t.val % 11 = 0) :
    accAt m c t.val t.isLt = accStep m c t (accAt m c (t.val - 1) (Nat.lt_of_le_of_lt (Nat.sub_le _ _) t.isLt)) := by
  obtain ⟨n, hn⟩ := t
  cases n with
  | zero => exact absurd rfl h
  | succ n => show accStep m c _ (if (n + 1) % 11 = 0 then _ else _) = _; rw [if_neg h]; rfl
theorem acc_is (c : Dev nD) (t : Fin cfg0.N) (h : ¬ t.val % 11 = 0) (o : Vec F S1024x4096 .f32) (ho : AccIs m c t.val o) :
    accAt m c t.val t.isLt = accStep m c t o := by
  rw [acc_succ m c t h, ho (t.val - 1) (Nat.lt_of_le_of_lt (Nat.sub_le _ _) t.isLt) (by omega) h]

theorem acc_next (c : Dev nD) (t : Fin cfg0.N) : AccIs m c (t.val + 1) (accAt m c t.val t.isLt) := by
  intro k hk e _
  obtain rfl : k = t.val := by omega
  rfl

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, Φ_eq]
  rw [show (dats m 0 c).owesAt () t.succ = (dats m 0 c).owesAt () t.castSucc from rfl,
    show (t.castSucc).val = t.val from rfl, show (t.succ).val = t.val + 1 from rfl]
  unfold carry
  iintro ⟨⟨%o, %d, %hod, H8, H9, Hp⟩, Ho, ⟨%d0, H0⟩, ⟨%d1, H1⟩, ⟨%d2, H2⟩, H3, ⟨%d4, H4⟩, H5⟩
  obtain ⟨hoa, hod⟩ := hod
  have hg : win0_0.cut (grid0.coords t) (win0_0.fill (grid0.coords t) d0 (iblk m c 0 t))
      = win0_0.cut (grid0.coords t) ((dats m 0 c).after 0 t) := by
    rw [after0_0]; unfold gblk; rw [Window.cut_fill, Window.cut_fill]
  have hw : win0_1.cut (grid0.coords t) (win0_1.fill (grid0.coords t) d1 (iblk m c 1 t))
      = win0_1.cut (grid0.coords t) ((dats m 0 c).after 1 t) := by
    rw [after0_1]; unfold wblk; rw [Window.cut_fill, Window.cut_fill]
  have hs : win0_2.cut (grid0.coords t) (win0_2.fill (grid0.coords t) d2 (iblk m c 2 t))
      = win0_2.cut (grid0.coords t) ((dats m 0 c).after 2 t) := by
    rw [after0_2]; unfold sblk; rw [Window.cut_fill, Window.cut_fill]
  by_cases hb : t.val % 11 < 10
  · have h2 := (cond2_iff t).mpr hb
    have h3 : ¬ k0_cond3 (grid0.coords t) = 1#1 := fun h => (cond3_iff t).mp h hb
    have f3 : (cfg0.win 3).flush t = false := by
      rw [Bool.eq_false_iff]; intro h; have := (flush0_3 t).mp h; omega
    have f5 : (cfg0.win 5).flush t = false := by
      rw [Bool.eq_false_iff]; intro h; have := (flush0_5 t).mp h; omega
    rw [(dats m 0 c).leaves_idle 3 t (idle3 t hb) f3, (dats m 0 c).leaves_idle 5 t (idle5 t hb) f5]
    have e4 : codes (win0_0.fill (grid0.coords t) d0 (iblk m c 0 t)) = (dats m 0 c).after 4 t := by
      rw [after0_4, gfull m c t hb]; unfold codesAt; rw [if_pos hb]
    have e9 : ∀ e, Upd (slotF (grid0.coords t) h2) (kept (win0_0.fill (grid0.coords t) d0 (iblk m c 0 t))) d e → Kept m c (t.val + 1) e := fun e he => by
      rw [gfull m c t hb] at he; exact kept_step m c t hb h2 d e hod he
    by_cases ha : t.val % 11 = 0
    · have e8 : accFull (win0_0.fill (grid0.coords t) d0 (iblk m c 0 t)) (win0_1.fill (grid0.coords t) d1 (iblk m c 1 t))
          (win0_2.fill (grid0.coords t) d2 (iblk m c 2 t)) k0_pay1 = accAt m c t.val t.isLt := by
        rw [gfull m c t hb, wfull m c t hb, sfull m c t hb, acc_zero m c t ha]; unfold accStep; rw [if_pos hb]
      iapply (step_first c Set.univ (grid0.coords t) ((cond1_iff t).mpr ha) h2 h3 _ _ _ _ _ _ _ _ _ _ _ _ _ _ _ _ _ _ _ d _)
      isplitl [H0]; · iexact H0
      isplitl [H1]; · iexact H1
      isplitl [H2]; · iexact H2
      isplitl [H4]; · iexists _; iexact H4
      isplitl [H8]; · iexists _; iexact H8
      isplitl [H9]; · iexact H9
      rw [e8]
      iintro ⟨H0, H1, H2, H4, H8, ⟨%e, %he, H9⟩⟩
      isplitl [H8 H9 Hp]
      · iexists _; iexists e
        isplitr; · ipureintro; exact ⟨acc_next m c t, e9 e he⟩
        isplitl [H8]; · iexact H8
        isplitl [H9]; · iexact H9
        iexact Hp
      isplitl [Ho]; · iexact Ho
      isplitl [H0]; · iapply (leave_loose m c t 0 rfl rfl _ hg); iexact H0
      isplitl [H1]; · iapply (leave_loose m c t 1 rfl rfl _ hw); iexact H1
      isplitl [H2]; · iapply (leave_loose m c t 2 rfl rfl _ hs); iexact H2
      isplitl [H3]; · iexact H3
      isplitl [H4]; · iapply (leave_loose m c t 4 (live4 t) rfl _ (congrArg _ e4)); iexact H4
      iexact H5
    · have e8 : accFull (win0_0.fill (grid0.coords t) d0 (iblk m c 0 t)) (win0_1.fill (grid0.coords t) d1 (iblk m c 1 t))
          (win0_2.fill (grid0.coords t) d2 (iblk m c 2 t)) o = accAt m c t.val t.isLt := by
        rw [gfull m c t hb, wfull m c t hb, sfull m c t hb, acc_is m c t ha o hoa]; unfold accStep; rw [if_pos hb]
      iapply (step_mid c Set.univ (grid0.coords t) (fun h => ha ((cond1_iff t).mp h)) h2 h3 _ _ _ _ _ _ _ _ _ _ _ _ _ _ _ _ _ _ _ o d _)
      isplitl [H0]; · iexact H0
      isplitl [H1]; · iexact H1
      isplitl [H2]; · iexact H2
      isplitl [H4]; · iexists _; iexact H4
      isplitl [H8]; · iexact H8
      isplitl [H9]; · iexact H9
      rw [e8]
      iintro ⟨H0, H1, H2, H4, H8, ⟨%e, %he, H9⟩⟩
      isplitl [H8 H9 Hp]
      · iexists _; iexists e
        isplitr; · ipureintro; exact ⟨acc_next m c t, e9 e he⟩
        isplitl [H8]; · iexact H8
        isplitl [H9]; · iexact H9
        iexact Hp
      isplitl [Ho]; · iexact Ho
      isplitl [H0]; · iapply (leave_loose m c t 0 rfl rfl _ hg); iexact H0
      isplitl [H1]; · iapply (leave_loose m c t 1 rfl rfl _ hw); iexact H1
      isplitl [H2]; · iapply (leave_loose m c t 2 rfl rfl _ hs); iexact H2
      isplitl [H3]; · iexact H3
      isplitl [H4]; · iapply (leave_loose m c t 4 (live4 t) rfl _ (congrArg _ e4)); iexact H4
      iexact H5
  · have h2 : ¬ k0_cond2 (grid0.coords t) = 1#1 := fun h => hb ((cond2_iff t).mp h)
    have h3 := (cond3_iff t).mpr hb
    have ha : ¬ t.val % 11 = 0 := by omega
    have e8 : accLast (View.ld (Val := Elt F) (e' := .bf16) (win0_0.fill (grid0.coords t) d0 (iblk m c 0 t)) rdyL) (win0_1.fill (grid0.coords t) d1 (iblk m c 1 t))
        (win0_2.fill (grid0.coords t) d2 (iblk m c 2 t)) o = accAt m c t.val t.isLt := by
      rw [glast m c t hb d0, accLast_congr m c t hb d1 d2, acc_is m c t ha o hoa]; unfold accStep; rw [if_neg hb]
    have hA : AccIs m c (t.val + 1) (accLast (View.ld (Val := Elt F) (e' := .bf16) (win0_0.fill (grid0.coords t) d0 (iblk m c 0 t)) rdyL) (win0_1.fill (grid0.coords t) d1 (iblk m c 1 t))
        (win0_2.fill (grid0.coords t) d2 (iblk m c 2 t)) o) := by
      rw [e8]; exact acc_next m c t
    have e3 : k0_pay4 (accLast (View.ld (Val := Elt F) (e' := .bf16) (win0_0.fill (grid0.coords t) d0 (iblk m c 0 t)) rdyL) (win0_1.fill (grid0.coords t) d1 (iblk m c 1 t))
        (win0_2.fill (grid0.coords t) d2 (iblk m c 2 t)) o) = (dats m 0 c).after 3 t := by
      rw [e8, after0_3]
    have e4 : ∀ d, Agrees [⟨rdyL, codesL (View.ld (Val := Elt F) (e' := .bf16) (win0_0.fill (grid0.coords t) d0 (iblk m c 0 t)) rdyL)⟩] d →
        win0_4.cut (grid0.coords t) d = win0_4.cut (grid0.coords t) ((dats m 0 c).after 4 t) := fun d h => by
      rw [glast m c t hb d0] at h; rw [after0_4, agree4 t hb _ d h]; unfold codesAt; rw [if_neg hb]
    have e9 : ∀ e, Upd (slotL (grid0.coords t) h3) (keptL (View.ld (Val := Elt F) (e' := .bf16) (win0_0.fill (grid0.coords t) d0 (iblk m c 0 t)) rdyL)) d e →
        k0_pay5 (F := F) e = (dats m 0 c).after 5 t := fun e he => by
      rw [glast m c t hb d0] at he; rw [after0_5]; exact rows_congr m c t hb e (kept_last m c t hb h3 d e hod he)
    iapply (step_last c Set.univ (grid0.coords t) (fun h => ha ((cond1_iff t).mp h)) h2 h3 _ _ _ _ _ _ _ _ _ _ _ _ _ _ _ _ _ _ _ o d _)
    isplitl [H0]; · iexact H0
    isplitl [H1]; · iexact H1
    isplitl [H2]; · iexact H2
    isplitl [H4]; · iexists _; iexact H4
    isplitl [H8]; · iexact H8
    isplitl [H9]; · iexact H9
    isplitl [H3]; · icases H3 with ⟨%d3, H3⟩; iexists _; iexact H3
    isplitl [H5]; · icases H5 with ⟨%d5, H5⟩; iexists _; iexact H5
    iintro ⟨H0, H1, H2, ⟨%D4, %hD4, H4⟩, H8, H3, ⟨%e, %he, H9, H5⟩⟩
    isplitl [H8 H9 Hp]
    · iexists _; iexists e
      isplitr
      · ipureintro
        refine ⟨hA, fun k hk hkn => ?_⟩
        exact absurd hkn (by omega)
      isplitl [H8]; · iexact H8
      isplitl [H9]; · iexact H9
      iexact Hp
    isplitl [Ho]; · iexact Ho
    isplitl [H0]; · iapply (leave_loose m c t 0 rfl rfl _ hg); iexact H0
    isplitl [H1]; · iapply (leave_loose m c t 1 rfl rfl _ hw); iexact H1
    isplitl [H2]; · iapply (leave_loose m c t 2 rfl rfl _ hs); iexact H2
    isplitl [H3]; · iapply (leave_exact m c t 3 (live3 t hb) rfl _ e3); iexact H3
    isplitl [H4]; · iapply (leave_loose m c t 4 (live4 t) rfl _ (e4 D4 hD4)); iexact H4
    iapply (leave_exact m c t 5 (live5 t hb) rfl _ (e9 e he)); iexact H5

theorem defs₀_row (c : Dev nD) (t : Fin cfg0.N) : defs₀ (F := F) .tc cfg0.body (cfg0.bodyArgs t (cfg0.slots t)) = bodyAt0 t := by
  first | rfl | (unfold defs₀; rw [Defs.onTc_tc])

theorem body_obligation (c : Dev nD) : BodyObligationLoose (dats m 0 c) (defs₀ (F := F)) Variants.none () Set.univ := fun t => by
  rw [bigSep_W0, bigSep_W0, defs₀_row c t]
  exact triple_restated (sound_body m c t) rfl .rfl fun _ => .rfl

/-! ## The run -/

theorem carry_in (c : Dev nD) : Pipeline.ΦA spec0 c ⊢ (dats m 0 c).Φ 0 := by
  rw [Φ_eq]
  unfold Pipeline.ΦA carry
  rw [scopedRest0_eq]
  simp only [← owns_whole]
  iintro ⟨⟨⟨%o, H8⟩, ⟨%d, H9⟩⟩, Hp⟩
  iexists o; iexists d
  isplitr
  · ipureintro
    exact ⟨fun k _ e => absurd e (Nat.succ_ne_zero k).symm, fun k hk => absurd hk (Nat.not_lt_zero _)⟩
  isplitl [H8]; · iexact H8
  isplitl [H9]; · iexact H9
  iexact Hp
theorem carry_out (c : Dev nD) : (dats m 0 c).Φ (Fin.last cfg0.N) ⊢ Pipeline.ΦA spec0 c := by
  rw [Φ_eq]
  unfold Pipeline.ΦA carry
  rw [scopedRest0_eq]
  simp only [← owns_whole]
  iintro ⟨%o, %d, -, H8, H9, Hp⟩
  isplitl [H8 H9]
  · isplitl [H8]
    · iexists o; iexact H8
    · iexists d; iexact H9
  iexact Hp

set_option backward.isDefEq.respectTransparency.types false in
set_option maxHeartbeats 800000 in
/-- Every execution ends with each array at what the pipeline's write-backs make of it, and every counter at zero. -/
theorem run_main_quiescent : θ_run defs (onTc (τ := τ) (main (F := F))) (s₀ m ρ)
    (fun r => Pipeline.FramePost cfgs (dats m) (0 : Fin 1) (V m) r ∧ r.2.sem = fun _ => 0) :=
  Pipeline.θ_run_frame_track (Q' := _) cfgs (dats m) (0 : Fin 1) launch0 defs₀ Variants.none m ρ main
    (hbody := body_obligation m)
    (hshare := fun c => (dats m 0 c).share_full fun _ => rfl) (howed := fun _ _ => rfl)
    (V := V m) (hmain := hmain m Variants.none) (hA := A_eq m) (hin := carry_in m) (hout := carry_out m)

theorem run_main : θ_run defs (onTc (τ := τ) (main (F := F))) (s₀ m ρ) (Pipeline.FramePost cfgs (dats m) (0 : Fin 1) (V m)) :=
  (θ_run defs _ _).mono (fun _ h => h.1) (run_main_quiescent m ρ)

/-- The argument arrays end as they began and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) (run_main m ρ))
    ((θ_run defs _ _).mono (fun _ h => h.2) (run_main_quiescent m ρ))

end Cert.Dgrad.Run

end
-- ==== Proof.DgradIdealBody.lean ====
/- One grid step of the input-gradient kernel, as a statement about its buffers: from any contents of the three input
   blocks, of the accumulator and of the kept exponents, the step ends with the inputs as they were, the accumulator and
   the codes at closed forms and the exponents updated in the point's slot; the last column block also stores the rounded
   accumulator and the row scales. -/
module

public import proofs.«01_k».proof.Proof.Gen.DgradIdeal.Frame
public import proofs.«01_k».proof.Proof.Gen.DgradIdeal.Skeleton
public import Idealize.ShloMosaic.Lib.Pipeline.Value

@[expose] public section

set_option maxRecDepth 16384

noncomputable section

namespace Cert.DgradIdeal.Run

open Cert.DgradIdeal Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The condition under which a step zeroes the accumulator: the first column block. -/
abbrev cond1 (i : grid0.Coords) : BitVec 1 :=
  Scalar.cmpi .ne (Scalar.extui (Scalar.cmpi .eq (BitVec.ofNat 32 (i 1).val) 0#32) : BitVec 32) 0#32

/-- The rectangles the body reads and writes: the gradient block and the 768 columns the last one has, -/
abbrev rdy : Rect S1024x1024 := Rect.unit (s := S1024x1024) ![0, 0] S1024x1024.size inb_S1024x1024_S1024x1024_0_0
abbrev rdyL : Rect S1024x1024 := Rect.unit (s := S1024x1024) ![0, 0] S1024x768.size inb_S1024x1024_S1024x768_0_0
/-- the four column strips of the accumulator and of the weight codes, -/
abbrev ra0 : Rect S1024x4096 := Rect.unit (s := S1024x4096) ![0, 0] S1024x1024.size inb_S1024x4096_S1024x1024_0_0
abbrev ra1 : Rect S1024x4096 := Rect.unit (s := S1024x4096) ![0, 1024] S1024x1024.size inb_S1024x4096_S1024x1024_0_1024
abbrev ra2 : Rect S1024x4096 := Rect.unit (s := S1024x4096) ![0, 2048] S1024x1024.size inb_S1024x4096_S1024x1024_0_2048
abbrev ra3 : Rect S1024x4096 := Rect.unit (s := S1024x4096) ![0, 3072] S1024x1024.size inb_S1024x4096_S1024x1024_0_3072
/-- the strips of the weight codes' first 768 rows, all the last block has, -/
abbrev rb0 : Rect S1024x4096 := Rect.unit (s := S1024x4096) ![0, 0] S768x1024.size inb_S1024x4096_S768x1024_0_0
abbrev rb1 : Rect S1024x4096 := Rect.unit (s := S1024x4096) ![0, 1024] S768x1024.size inb_S1024x4096_S768x1024_0_1024
abbrev rb2 : Rect S1024x4096 := Rect.unit (s := S1024x4096) ![0, 2048] S768x1024.size inb_S1024x4096_S768x1024_0_2048
abbrev rb3 : Rect S1024x4096 := Rect.unit (s := S1024x4096) ![0, 3072] S768x1024.size inb_S1024x4096_S768x1024_0_3072
/-- the strips of the weight scales, -/
abbrev rs0 : Rect S32x4096 := Rect.unit (s := S32x4096) ![0, 0] S32x1024.size inb_S32x4096_S32x1024_0_0
abbrev rs1 : Rect S32x4096 := Rect.unit (s := S32x4096) ![0, 1024] S32x1024.size inb_S32x4096_S32x1024_0_1024
abbrev rs2 : Rect S32x4096 := Rect.unit (s := S32x4096) ![0, 2048] S32x1024.size inb_S32x4096_S32x1024_0_2048
abbrev rs3 : Rect S32x4096 := Rect.unit (s := S32x4096) ![0, 3072] S32x1024.size inb_S32x4096_S32x1024_0_3072
/-- and of their first 24 rows. -/
abbrev rt0 : Rect S32x4096 := Rect.unit (s := S32x4096) ![0, 0] S24x1024.size inb_S32x4096_S24x1024_0_0
abbrev rt1 : Rect S32x4096 := Rect.unit (s := S32x4096) ![0, 1024] S24x1024.size inb_S32x4096_S24x1024_0_1024
abbrev rt2 : Rect S32x4096 := Rect.unit (s := S32x4096) ![0, 2048] S24x1024.size inb_S32x4096_S24x1024_0_2048
abbrev rt3 : Rect S32x4096 := Rect.unit (s := S32x4096) ![0, 3072] S24x1024.size inb_S32x4096_S24x1024_0_3072
/-- The whole result block and the whole row-scale block. -/
abbrev rdx : Rect S1024x4096 := Rect.unit (s := S1024x4096) ![0, 0] S1024x4096.size inb_S1024x4096_S1024x4096_0_0
abbrev rrs : Rect S1024x344 := Rect.unit (s := S1024x344) ![0, 0] S1024x344.size inb_S1024x344_S1024x344_0_0
/-- The slot of the kept exponents a full block writes, and the part of its slot the last one writes. -/
abbrev slotF (i : grid0.Coords) (h : k0_cond2 i = 1#1) : Rect S11x32x1024 := Rect.unit (s := S11x32x1024) (k0_off1 i) S1x32x1024.size (k0_off1_inb i h)
abbrev slotL (i : grid0.Coords) (h : k0_cond3 i = 1#1) : Rect S11x32x1024 := Rect.unit (s := S11x32x1024) (k0_off2 i) S1x24x1024.size (k0_off2_inb i h)

theorem hz2 : (![0, 0] : Fin 2 → Nat) = fun _ => 0 := funext fun a => by fin_cases a <;> rfl
theorem hz3 : (![0, 0, 0] : Fin 3 → Nat) = fun _ => 0 := funext fun a => by fin_cases a <;> rfl

/-! ## A full block -/

/-- The shared exponents of a block of the gradient, as the kernel keeps them, and the power of two each group is scaled by, -/
def expo (v : Vec F S1024x1024 .bf16) : IVec S32x1024 32 := k0_pay8 (k0_pay6 v) (k0_pay7 v) 4#32
def kept (v : Vec F S1024x1024 .bf16) : Vec F S1x32x1024 .i32 := k0_pay9 (k0_pay6 v) (k0_pay7 v) 4#32
def inv (v : Vec F S1024x1024 .bf16) : FVec F S32x32x1024 .bf16 := k0_pay10 (k0_pay6 v) (k0_pay7 v) 4#32
/-- the stored codes, the dequantised block. -/
def codes (v : Vec F S1024x1024 .bf16) : Vec F S1024x1024 .fp8e4m3 := k0_pay11 v (inv v)
def deq (v : Vec F S1024x1024 .bf16) : Vec F S1024x1024 .bf16 := k0_pay12 v (expo v) (inv v)
/-- The accumulator strips after the step, from the strips before it. -/
def acc0 (v : Vec F S1024x1024 .bf16) (w : Vec F S1024x4096 .fp8e4m3) (s : Vec F S32x4096 .i8) (o : Vec F S1024x4096 .f32) : Vec F S1024x1024 .f32 :=
  k0_pay13 v (expo v) (inv v) (View.ld w ra0) (View.ld s rs0) (View.ld o ra0)
def acc1 (v : Vec F S1024x1024 .bf16) (w : Vec F S1024x4096 .fp8e4m3) (s : Vec F S32x4096 .i8) (o : Vec F S1024x4096 .f32) : Vec F S1024x1024 .f32 :=
  k0_pay14 (deq v) (View.ld w ra1) (View.ld s rs1) (View.ld o ra1)
def acc2 (v : Vec F S1024x1024 .bf16) (w : Vec F S1024x4096 .fp8e4m3) (s : Vec F S32x4096 .i8) (o : Vec F S1024x4096 .f32) : Vec F S1024x1024 .f32 :=
  k0_pay15 (deq v) (View.ld w ra2) (View.ld s rs2) (View.ld o ra2)
def acc3 (v : Vec F S1024x1024 .bf16) (w : Vec F S1024x4096 .fp8e4m3) (s : Vec F S32x4096 .i8) (o : Vec F S1024x4096 .f32) : Vec F S1024x1024 .f32 :=
  k0_pay2 (deq v) (View.ld w ra3) (View.ld s rs3) (View.ld o ra3)
/-- The accumulator after the step. -/
def accFull (v : Vec F S1024x1024 .bf16) (w : Vec F S1024x4096 .fp8e4m3) (s : Vec F S32x4096 .i8) (o : Vec F S1024x4096 .f32) : Vec F S1024x4096 .f32 :=
  View.canon [⟨ra3, acc3 v w s o⟩, ⟨ra2, acc2 v w s o⟩, ⟨ra1, acc1 v w s o⟩, ⟨ra0, acc0 v w s o⟩]

/-! ## The last block, 768 columns of it inside the array -/

/-- As above on the 768 columns. -/
def expoL (v : Vec F S1024x768 .bf16) : IVec S24x1024 32 := k0_pay18 (k0_pay16 v) (k0_pay17 v) 4#32
def keptL (v : Vec F S1024x768 .bf16) : Vec F S1x24x1024 .i32 := k0_pay19 (k0_pay16 v) (k0_pay17 v) 4#32
def invL (v : Vec F S1024x768 .bf16) : FVec F S24x32x1024 .bf16 := k0_pay20 (k0_pay16 v) (k0_pay17 v) 4#32
def codesL (v : Vec F S1024x768 .bf16) : Vec F S1024x768 .fp8e4m3 := k0_pay21 v (invL v)
def deqL (v : Vec F S1024x768 .bf16) : Vec F S1024x768 .bf16 := k0_pay22 v (expoL v) (invL v)
def accL0 (v : Vec F S1024x768 .bf16) (w : Vec F S1024x4096 .fp8e4m3) (s : Vec F S32x4096 .i8) (o : Vec F S1024x4096 .f32) : Vec F S1024x1024 .f32 :=
  k0_pay23 v (expoL v) (invL v) (View.ld w rb0) (View.ld s rt0) (View.ld o ra0)
def accL1 (v : Vec F S1024x768 .bf16) (w : Vec F S1024x4096 .fp8e4m3) (s : Vec F S32x4096 .i8) (o : Vec F S1024x4096 .f32) : Vec F S1024x1024 .f32 :=
  k0_pay24 (deqL v) (View.ld w rb1) (View.ld s rt1) (View.ld o ra1)
def accL2 (v : Vec F S1024x768 .bf16) (w : Vec F S1024x4096 .fp8e4m3) (s : Vec F S32x4096 .i8) (o : Vec F S1024x4096 .f32) : Vec F S1024x1024 .f32 :=
  k0_pay25 (deqL v) (View.ld w rb2) (View.ld s rt2) (View.ld o ra2)
def accL3 (v : Vec F S1024x768 .bf16) (w : Vec F S1024x4096 .fp8e4m3) (s : Vec F S32x4096 .i8) (o : Vec F S1024x4096 .f32) : Vec F S1024x1024 .f32 :=
  k0_pay3 (deqL v) (View.ld w rb3) (View.ld s rt3) (View.ld o ra3)
def accLast (v : Vec F S1024x768 .bf16) (w : Vec F S1024x4096 .fp8e4m3) (s : Vec F S32x4096 .i8) (o : Vec F S1024x4096 .f32) : Vec F S1024x4096 .f32 :=
  View.canon [⟨ra3, accL3 v w s o⟩, ⟨ra2, accL2 v w s o⟩, ⟨ra1, accL1 v w s o⟩, ⟨ra0, accL0 v w s o⟩]

/-! ## Reading what was written -/

/-- The strips tile the accumulator. -/
theorem coverFull (p3 p2 p1 p0 : Vec F S1024x1024 .f32) (y : S1024x4096.Idx) :
    ∃ pc ∈ ([⟨ra3, p3⟩, ⟨ra2, p2⟩, ⟨ra1, p1⟩, ⟨ra0, p0⟩] : List (View.Piece (Elt F) S1024x4096 .f32)), y ∈ pc.1.set :=
  View.cover_of_tiled [⟨ra3, p3⟩, ⟨ra2, p2⟩, ⟨ra1, p1⟩, ⟨ra0, p0⟩] ![1024, 1024] (by rfl) y

/-- A load from a strip does not see an earlier write of a strip left of it. -/
theorem readCov_left {sp : Space} (m : View sig .tc sp S1024x4096 .f32) (off sz off' sz' : Fin 2 → Nat)
    (hin : ∀ a, off a + sz a ≤ S1024x4096.size a) (hin' : ∀ a, off' a + sz' a ≤ S1024x4096.size a)
    (w : (Rect.unit (s := S1024x4096) off sz hin).shape.Idx → Elt F .f32) (L : List (View.Piece (Elt F) S1024x4096 .f32))
    (h : off 1 + sz 1 ≤ off' 1) :
    m.readCov (⟨Rect.unit (s := S1024x4096) off sz hin, w⟩ :: L) (Rect.unit (s := S1024x4096) off' sz' hin').toLoadRect
      = m.readCov L (Rect.unit (s := S1024x4096) off' sz' hin').toLoadRect := by
  refine View.readCov_cons_of_disjoint m _ L _ (Finset.disjoint_left.mpr fun y h1 h2 => ?_)
  replace h1 : y ∈ (Rect.unit (s := S1024x4096) off sz hin).set := h1
  rw [Rect.mem_set_unit] at h1 h2
  have e1 := h1 (1 : Fin 2)
  have e2 := h2 (1 : Fin 2)
  omega
/-- After the zeroing write alone, a load reads zeros. -/
theorem readCov_zero {sp : Space} (m : View sig .tc sp S1024x4096 .f32) (hin : ∀ a, (![0, 0] : Fin 2 → Nat) a + (![1024, 4096] : Fin 2 → Nat) a ≤ S1024x4096.size a)
    (w : Vec F S1024x4096 .f32) (r : Rect S1024x4096) :
    m.readCov [⟨Rect.unit (s := S1024x4096) ![0, 0] ![1024, 4096] hin, w⟩] r.toLoadRect = View.ld w r := by
  rw [View.readCov_eq_canon']
  exact congrArg (fun d : Vec F S1024x4096 .f32 => View.ld d r) (View.canon_unit_zero (S := S1024x4096) hz2 _ w)

theorem cover6 (p : Vec F S1024x1024 .fp8e4m3) (y : S1024x1024.Idx) :
    ∃ pc ∈ ([⟨rdy, p⟩] : List (View.Piece (Elt F) S1024x1024 .fp8e4m3)), y ∈ pc.1.set :=
  View.cover_of_tiled [⟨rdy, p⟩] S1024x1024.size (by rfl) y
theorem cover5 (p : Vec F S1024x4096 .bf16) (y : S1024x4096.Idx) :
    ∃ pc ∈ ([⟨rdx, p⟩] : List (View.Piece (Elt F) S1024x4096 .bf16)), y ∈ pc.1.set :=
  View.cover_of_tiled [⟨rdx, p⟩] S1024x4096.size (by rfl) y
theorem cover7 (p : Vec F S1024x344 .i8) (y : S1024x344.Idx) :
    ∃ pc ∈ ([⟨rrs, p⟩] : List (View.Piece (Elt F) S1024x344 .i8)), y ∈ pc.1.set :=
  View.cover_of_tiled [⟨rrs, p⟩] S1024x344.size (by rfl) y

/-- An earlier write under covering ones is not read. -/
theorem canon_more {S : Shape} {e : EltTy} (L : List (View.Piece (Elt F) S e)) (q : View.Piece (Elt F) S e) (y : S.Idx)
    (h : ∃ p ∈ L, y ∈ p.1.set) : View.canon (L ++ [q]) y = View.canon L y := by
  induction L with
  | nil => obtain ⟨_, hp, _⟩ := h; exact absurd hp List.not_mem_nil
  | cons a L ih =>
    by_cases ha : y ∈ a.1.set
    · obtain ⟨r, w⟩ := a
      obtain ⟨x, rfl⟩ : ∃ x, r.emb x = y := r.exists_idx_of_mem ha
      rw [List.cons_append, View.canon_cons_emb, View.canon_cons_emb]
    · rw [List.cons_append, View.canon_cons_of_not_mem _ _ ha, View.canon_cons_of_not_mem _ _ ha]
      refine ih ?_
      obtain ⟨p, hp, hy⟩ := h
      rcases List.mem_cons.mp hp with rfl | hp
      · exact absurd hy ha
      · exact ⟨p, hp, hy⟩
theorem coverFull4 (p3 p2 p1 p0 : Vec F S1024x1024 .f32) (q : View.Piece (Elt F) S1024x4096 .f32) (y : S1024x4096.Idx) :
    ∃ pc ∈ ([⟨ra3, p3⟩, ⟨ra2, p2⟩, ⟨ra1, p1⟩, ⟨ra0, p0⟩, q] : List (View.Piece (Elt F) S1024x4096 .f32)), y ∈ pc.1.set := by
  obtain ⟨p, hp, hy⟩ := coverFull p3 p2 p1 p0 y
  exact ⟨p, List.mem_append_left [q] hp, hy⟩
theorem canon4 (p3 p2 p1 p0 : Vec F S1024x1024 .f32) (q : View.Piece (Elt F) S1024x4096 .f32) :
    View.canon ([⟨ra3, p3⟩, ⟨ra2, p2⟩, ⟨ra1, p1⟩, ⟨ra0, p0⟩, q] : List (View.Piece (Elt F) S1024x4096 .f32))
      = View.canon ([⟨ra3, p3⟩, ⟨ra2, p2⟩, ⟨ra1, p1⟩, ⟨ra0, p0⟩] : List (View.Piece (Elt F) S1024x4096 .f32)) :=
  funext fun y => canon_more [⟨ra3, p3⟩, ⟨ra2, p2⟩, ⟨ra1, p1⟩, ⟨ra0, p0⟩] q y (coverFull p3 p2 p1 p0 y)
/-- The load of the whole accumulator after its strips were written. -/
theorem readCov_strips {sp : Space} (m : View sig .tc sp S1024x4096 .f32) (hin : ∀ a, (![0, 0] : Fin 2 → Nat) a + (![1024, 4096] : Fin 2 → Nat) a ≤ S1024x4096.size a)
    (L : List (View.Piece (Elt F) S1024x4096 .f32)) :
    m.readCov L (Rect.unit (s := S1024x4096) ![0, 0] ![1024, 4096] hin).toLoadRect = View.canon L := by
  rw [View.readCov_eq_canon']
  exact View.ld_unit_zero (S := S1024x4096) hz2 _ _

/-- Contents agreeing with the writes `L` wherever one of them reaches. -/
def Agrees {S : Shape} {e : EltTy} (L : List (View.Piece (Elt F) S e)) (d : S.Idx → Elt F e) : Prop :=
  ∀ y, (∃ p ∈ L, y ∈ p.1.set) → d y = View.canon L y
/-- Contents `e'` that are `p` on the rectangle `r` and `d` off it. -/
def Upd {S : Shape} {e : EltTy} (r : Rect S) (p : r.shape.Idx → Elt F e) (d e' : S.Idx → Elt F e) : Prop :=
  (∀ x, e' (r.emb x) = p x) ∧ ∀ y, y ∉ r.set → e' y = d y
theorem upd_writes {sp : Space} {S : Shape} {e : EltTy} (v : View sig .tc sp S e) (f : v.ty.Contents (Elt F)) (r : Rect S) (p : r.shape.Idx → Elt F e) :
    Upd r p (v.read (Elt F) f) (v.read (Elt F) (v.writes (Elt F) f [⟨r, p⟩])) :=
  ⟨fun x => View.read_writes_cons_emb _ _ r p [] x, fun y hy => by
    rw [View.read_writes_cons_miss _ _ _ _ _ hy]; rfl⟩

end Cert.DgradIdeal.Run

end
-- ==== Proof.DgradIdealFirst.lean ====
/- The input-gradient kernel's step at the first column block of a row block. -/
module

public import proofs.«01_k».proof.Proof.DgradIdealBody

@[expose] public section

set_option maxRecDepth 16384

noncomputable section

namespace Cert.DgradIdeal.Run

open Cert.DgradIdeal Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- A full block at the first point of its row block, where the accumulator is zeroed first. -/
theorem step_first (c : Dev nD) (E : Set ℕ) (i : grid0.Coords) (h1 : cond1 i = 1#1) (h2 : k0_cond2 i = 1#1) (h3 : ¬ k0_cond3 i = 1#1)
    (arg2 : Memref sig .tc .vmem S1024x1024 .bf16) (harg2 : arg2.IsWhole) (arg3 : Memref sig .tc .vmem S1024x4096 .fp8e4m3) (harg3 : arg3.IsWhole) (arg4 : Memref sig .tc .vmem S32x4096 .i8) (harg4 : arg4.IsWhole) (arg5 : Memref sig .tc .vmem S1024x4096 .bf16) (harg5 : arg5.IsWhole) (arg6 : Memref sig .tc .vmem S1024x1024 .fp8e4m3) (harg6 : arg6.IsWhole) (arg7 : Memref sig .tc .vmem S1024x344 .i8) (harg7 : arg7.IsWhole) (arg8 : Memref sig .tc .vmem S1024x4096 .f32) (harg8 : arg8.IsWhole) (arg9 : Memref sig .tc .vmem S11x32x1024 .i32) (harg9 : arg9.IsWhole)
    (v : Vec F S1024x1024 .bf16) (w : Vec F S1024x4096 .fp8e4m3) (s : Vec F S32x4096 .i8) (d : Vec F S11x32x1024 .i32) (K : PUnit → sProp 𝕄) :
    iprop(owns (c : Thread nD τ) arg2 fullShare v ∗ owns (c : Thread nD τ) arg3 fullShare w ∗ owns (c : Thread nD τ) arg4 fullShare s ∗ (∃ d, owns (c : Thread nD τ) arg6 fullShare d) ∗ (∃ d, owns (c : Thread nD τ) arg8 fullShare d) ∗ owns (c : Thread nD τ) arg9 fullShare d
        ∗ (iprop(owns (c : Thread nD τ) arg2 fullShare v ∗ owns (c : Thread nD τ) arg3 fullShare w ∗ owns (c : Thread nD τ) arg4 fullShare s ∗ owns (c : Thread nD τ) arg6 fullShare (codes v) ∗ owns (c : Thread nD τ) arg8 fullShare (accFull v w s k0_pay1) ∗ (∃ e, ⌜Upd (slotF i h2) (kept v) d e⌝ ∗ owns (c : Thread nD τ) arg9 fullShare e)) -∗ K ⟨⟩))
      ⊢ wp frame (wpE (defs₀ (F := F)) Variants.none c none) E (cc0_dgrad i arg2 harg2 arg3 harg3 arg4 harg4 arg5 harg5 arg6 harg6 arg7 harg7 arg8 harg8 arg9 harg9) K := by
  simp only [cc0_dgrad_eq_skeleton]; unfold cc0_dgrad_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%d6, %f6, -, H6⟩, ⟨%d8, %f8, -, H8⟩, ⟨%f9, %hf9, H9⟩, Hk⟩
  subst hf0 hf1 hf2 hf9
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H6]
  · iexists _; isplitr
    swap; · iexact H6
    ipureintro
    rw [View.read_writes_eq_canon _ _ _ (cover6 _)]
    sl_unfold_words
    unfold codes inv
    simp only [View.readAt_eq_ld, View.ld_unit_zero (S := S1024x1024) hz2]
    exact View.canon_unit_zero (S := S1024x1024) hz2 _ _
  isplitl [H8]
  · iexists _; isplitr
    swap; · iexact H8
    ipureintro
    sl_unfold_words
    rw [View.read_writes_eq_canon _ _ _ (coverFull4 _ _ _ _ _)]
    unfold accFull acc0 acc1 acc2 acc3 deq expo inv
    rw [canon4]
    simp (disch := decide) only [readCov_left]
    simp only [readCov_zero]
    simp only [View.readAt_eq_ld, View.ld_unit_zero (S := S1024x1024) hz2]
  iexists _; isplitr
  swap
  · iexists _; isplitr
    swap; · iexact H9
    ipureintro; rfl
  ipureintro
  sl_unfold_words
  unfold kept
  simp only [View.readAt_eq_ld, View.ld_unit_zero (S := S1024x1024) hz2]
  exact upd_writes _ _ _ _

end Cert.DgradIdeal.Run

end
-- ==== Proof.DgradIdealMid.lean ====
/- The input-gradient kernel's step at a later full column block. -/
module

public import proofs.«01_k».proof.Proof.DgradIdealBody

@[expose] public section

set_option maxRecDepth 16384

noncomputable section

namespace Cert.DgradIdeal.Run

open Cert.DgradIdeal Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- A later full block, added to the accumulator. -/
theorem step_mid (c : Dev nD) (E : Set ℕ) (i : grid0.Coords) (h1 : ¬ cond1 i = 1#1) (h2 : k0_cond2 i = 1#1) (h3 : ¬ k0_cond3 i = 1#1)
    (arg2 : Memref sig .tc .vmem S1024x1024 .bf16) (harg2 : arg2.IsWhole) (arg3 : Memref sig .tc .vmem S1024x4096 .fp8e4m3) (harg3 : arg3.IsWhole) (arg4 : Memref sig .tc .vmem S32x4096 .i8) (harg4 : arg4.IsWhole) (arg5 : Memref sig .tc .vmem S1024x4096 .bf16) (harg5 : arg5.IsWhole) (arg6 : Memref sig .tc .vmem S1024x1024 .fp8e4m3) (harg6 : arg6.IsWhole) (arg7 : Memref sig .tc .vmem S1024x344 .i8) (harg7 : arg7.IsWhole) (arg8 : Memref sig .tc .vmem S1024x4096 .f32) (harg8 : arg8.IsWhole) (arg9 : Memref sig .tc .vmem S11x32x1024 .i32) (harg9 : arg9.IsWhole)
    (v : Vec F S1024x1024 .bf16) (w : Vec F S1024x4096 .fp8e4m3) (s : Vec F S32x4096 .i8) (o : Vec F S1024x4096 .f32) (d : Vec F S11x32x1024 .i32) (K : PUnit → sProp 𝕄) :
    iprop(owns (c : Thread nD τ) arg2 fullShare v ∗ owns (c : Thread nD τ) arg3 fullShare w ∗ owns (c : Thread nD τ) arg4 fullShare s ∗ (∃ d, owns (c : Thread nD τ) arg6 fullShare d) ∗ owns (c : Thread nD τ) arg8 fullShare o ∗ owns (c : Thread nD τ) arg9 fullShare d
        ∗ (iprop(owns (c : Thread nD τ) arg2 fullShare v ∗ owns (c : Thread nD τ) arg3 fullShare w ∗ owns (c : Thread nD τ) arg4 fullShare s ∗ owns (c : Thread nD τ) arg6 fullShare (codes v) ∗ owns (c : Thread nD τ) arg8 fullShare (accFull v w s o) ∗ (∃ e, ⌜Upd (slotF i h2) (kept v) d e⌝ ∗ owns (c : Thread nD τ) arg9 fullShare e)) -∗ K ⟨⟩))
      ⊢ wp frame (wpE (defs₀ (F := F)) Variants.none c none) E (cc0_dgrad i arg2 harg2 arg3 harg3 arg4 harg4 arg5 harg5 arg6 harg6 arg7 harg7 arg8 harg8 arg9 harg9) K := by
  simp only [cc0_dgrad_eq_skeleton]; unfold cc0_dgrad_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%d6, %f6, -, H6⟩, ⟨%f8, %hf8, H8⟩, ⟨%f9, %hf9, H9⟩, Hk⟩
  subst hf0 hf1 hf2 hf8 hf9
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H6]
  · iexists _; isplitr
    swap; · iexact H6
    ipureintro
    rw [View.read_writes_eq_canon _ _ _ (cover6 _)]
    sl_unfold_words
    unfold codes inv
    simp only [View.readAt_eq_ld, View.ld_unit_zero (S := S1024x1024) hz2]
    exact View.canon_unit_zero (S := S1024x1024) hz2 _ _
  isplitl [H8]
  · iexists _; isplitr
    swap; · iexact H8
    ipureintro
    rw [View.read_writes_eq_canon _ _ _ (coverFull _ _ _ _)]
    sl_unfold_words
    unfold accFull acc0 acc1 acc2 acc3 deq expo inv
    simp only [View.readAt_eq_ld, View.ld_unit_zero (S := S1024x1024) hz2]
  iexists _; isplitr
  swap
  · iexists _; isplitr
    swap; · iexact H9
    ipureintro; rfl
  ipureintro
  sl_unfold_words
  unfold kept
  simp only [View.readAt_eq_ld, View.ld_unit_zero (S := S1024x1024) hz2]
  exact upd_writes _ _ _ _

end Cert.DgradIdeal.Run

end
-- ==== Proof.DgradIdealLast.lean ====
/- The input-gradient kernel's step at the last, cut column block. -/
module

public import proofs.«01_k».proof.Proof.DgradIdealBody

@[expose] public section

set_option maxRecDepth 16384

noncomputable section

namespace Cert.DgradIdeal.Run

open Cert.DgradIdeal Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The last block: added to the accumulator, which is then stored rounded beside the row scales. -/
theorem step_last (c : Dev nD) (E : Set ℕ) (i : grid0.Coords) (h1 : ¬ cond1 i = 1#1) (h2 : ¬ k0_cond2 i = 1#1) (h3 : k0_cond3 i = 1#1)
    (arg2 : Memref sig .tc .vmem S1024x1024 .bf16) (harg2 : arg2.IsWhole) (arg3 : Memref sig .tc .vmem S1024x4096 .fp8e4m3) (harg3 : arg3.IsWhole) (arg4 : Memref sig .tc .vmem S32x4096 .i8) (harg4 : arg4.IsWhole) (arg5 : Memref sig .tc .vmem S1024x4096 .bf16) (harg5 : arg5.IsWhole) (arg6 : Memref sig .tc .vmem S1024x1024 .fp8e4m3) (harg6 : arg6.IsWhole) (arg7 : Memref sig .tc .vmem S1024x344 .i8) (harg7 : arg7.IsWhole) (arg8 : Memref sig .tc .vmem S1024x4096 .f32) (harg8 : arg8.IsWhole) (arg9 : Memref sig .tc .vmem S11x32x1024 .i32) (harg9 : arg9.IsWhole)
    (v : Vec F S1024x1024 .bf16) (w : Vec F S1024x4096 .fp8e4m3) (s : Vec F S32x4096 .i8) (o : Vec F S1024x4096 .f32) (d : Vec F S11x32x1024 .i32) (K : PUnit → sProp 𝕄) :
    iprop(owns (c : Thread nD τ) arg2 fullShare v ∗ owns (c : Thread nD τ) arg3 fullShare w ∗ owns (c : Thread nD τ) arg4 fullShare s ∗ (∃ d, owns (c : Thread nD τ) arg6 fullShare d) ∗ owns (c : Thread nD τ) arg8 fullShare o ∗ owns (c : Thread nD τ) arg9 fullShare d ∗ (∃ d, owns (c : Thread nD τ) arg5 fullShare d) ∗ (∃ d, owns (c : Thread nD τ) arg7 fullShare d)
        ∗ (iprop(owns (c : Thread nD τ) arg2 fullShare v ∗ owns (c : Thread nD τ) arg3 fullShare w ∗ owns (c : Thread nD τ) arg4 fullShare s ∗ (∃ d, ⌜Agrees [⟨rdyL, codesL (View.ld v rdyL)⟩] d⌝ ∗ owns (c : Thread nD τ) arg6 fullShare d) ∗ owns (c : Thread nD τ) arg8 fullShare (accLast (View.ld v rdyL) w s o) ∗ owns (c : Thread nD τ) arg5 fullShare (k0_pay4 (accLast (View.ld v rdyL) w s o)) ∗ (∃ e, ⌜Upd (slotL i h3) (keptL (View.ld v rdyL)) d e⌝ ∗ owns (c : Thread nD τ) arg9 fullShare e ∗ owns (c : Thread nD τ) arg7 fullShare (k0_pay5 e))) -∗ K ⟨⟩))
      ⊢ wp frame (wpE (defs₀ (F := F)) Variants.none c none) E (cc0_dgrad i arg2 harg2 arg3 harg3 arg4 harg4 arg5 harg5 arg6 harg6 arg7 harg7 arg8 harg8 arg9 harg9) K := by
  simp only [cc0_dgrad_eq_skeleton]; unfold cc0_dgrad_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%d6, %f6, -, H6⟩, ⟨%f8, %hf8, H8⟩, ⟨%f9, %hf9, H9⟩, ⟨%d5, %f5, -, H5⟩, ⟨%d7, %f7, -, H7⟩, Hk⟩
  subst hf0 hf1 hf2 hf8 hf9
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H6]
  · iexists _; isplitr
    swap
    · iexists _; isplitr
      swap; · iexact H6
      ipureintro; rfl
    ipureintro
    intro y hy
    sl_unfold_words
    unfold codesL invL at *
    simp only [View.readAt_eq_ld] at *
    exact View.read_writes_apply_eq_canon _ _ y _ hy
  isplitl [H8]
  · iexists _; isplitr
    swap; · iexact H8
    ipureintro
    sl_unfold_words
    rw [View.read_writes_eq_canon _ _ _ (coverFull _ _ _ _)]
    unfold accLast accL0 accL1 accL2 accL3 deqL expoL invL
    simp only [View.readAt_eq_ld]
  isplitl [H5]
  · iexists _; isplitr
    swap; · iexact H5
    ipureintro
    rw [View.read_writes_eq_canon _ _ _ (cover5 _)]
    sl_unfold_words
    unfold accLast accL0 accL1 accL2 accL3 deqL expoL invL
    simp only [View.readAt_eq_ld]
    refine (View.canon_unit_zero (S := S1024x4096) hz2 _ _).trans ?_
    exact congrArg k0_pay4 (readCov_strips _ _ _)
  iexists _; isplitr
  swap
  · isplitl [H9]
    · iexists _; isplitr
      swap; · iexact H9
      ipureintro; rfl
    · iexists _; isplitr
      swap; · iexact H7
      ipureintro
      rw [View.read_writes_eq_canon _ _ _ (cover7 _)]
      sl_unfold_words
      refine (View.canon_unit_zero (S := S1024x344) hz2 _ _).trans ?_
      refine congrArg k0_pay5 ?_
      simp only [View.readAt_eq_ld]
      exact View.ld_unit_zero (S := S11x32x1024) hz3 _ _
  ipureintro
  sl_unfold_words
  unfold keptL
  simp only [View.readAt_eq_ld]
  exact upd_writes _ _ _ _

end Cert.DgradIdeal.Run

end
-- ==== Proof.DgradIdealRun.lean ====
/- The whole run of the input-gradient kernel: what each buffer holds after every grid point, what the two kept buffers hold
   between points (the accumulator as a recursion over the points, the exponents slot by slot), the pipeline's obligation
   for the body, and the run of the program from any memory. -/
module

public import proofs.«01_k».proof.Proof.DgradIdealFirst
public import proofs.«01_k».proof.Proof.DgradIdealMid
public import proofs.«01_k».proof.Proof.DgradIdealLast
public import Idealize.ShloMosaic.Lib.Pipeline.KitQuiescent
public import Idealize.ShloMosaic.Lib.Claim
public import Idealize.ShloMosaic.Lib.Pipeline.Covers
public import Idealize.ShloMosaic.Lib.Pipeline.ValueKit.Tiles
public import Idealize.ShloMosaic.Lib.Pointwise

@[expose] public section

set_option maxRecDepth 16384

noncomputable section

namespace Cert.DgradIdeal.Run

open Cert.DgradIdeal Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

theorem cond1_iff : ∀ t : Fin cfg0.N, (cond1 (grid0.coords t) = 1#1 ↔ t.val % 11 = 0) := by decide +kernel
theorem cond2_iff : ∀ t : Fin cfg0.N, (k0_cond2 (grid0.coords t) = 1#1 ↔ t.val % 11 < 10) := by decide +kernel
theorem cond3_iff : ∀ t : Fin cfg0.N, (k0_cond3 (grid0.coords t) = 1#1 ↔ ¬ t.val % 11 < 10) := by decide +kernel
theorem off1_eq : ∀ t : Fin cfg0.N, k0_off1 (grid0.coords t) 0 = t.val % 11 ∧ k0_off1 (grid0.coords t) 1 = 0
    ∧ k0_off1 (grid0.coords t) 2 = 0 := by decide +kernel
theorem off2_eq : ∀ t : Fin cfg0.N, k0_off2 (grid0.coords t) 0 = t.val % 11 ∧ k0_off2 (grid0.coords t) 1 = 0
    ∧ k0_off2 (grid0.coords t) 2 = 0 := by decide +kernel

/-- The part of each cut block that lies in its array. -/
theorem xs0 : ∀ t : Fin cfg0.N, win0_0.xsize (grid0.coords t) 0 = 1024
    ∧ win0_0.xsize (grid0.coords t) 1 = if t.val % 11 < 10 then 1024 else 768 := by decide +kernel
theorem xs1 : ∀ t : Fin cfg0.N, win0_1.xsize (grid0.coords t) 1 = 4096
    ∧ win0_1.xsize (grid0.coords t) 0 = if t.val % 11 < 10 then 1024 else 768 := by decide +kernel
theorem xs2 : ∀ t : Fin cfg0.N, win0_2.xsize (grid0.coords t) 1 = 4096
    ∧ win0_2.xsize (grid0.coords t) 0 = if t.val % 11 < 10 then 32 else 24 := by decide +kernel
theorem xs4 : ∀ t : Fin cfg0.N, win0_4.xsize (grid0.coords t) 0 = 1024
    ∧ win0_4.xsize (grid0.coords t) 1 = if t.val % 11 < 10 then 1024 else 768 := by decide +kernel

/-- Which outputs a point leaves unwritten: the product and the row scales, except at the last column block. -/
theorem idle3 (t : Fin cfg0.N) (h : t.val % 11 < 10) : cfg0.idle 3 (grid0.coords t) = true := by
  have h3 : ¬ k0_cond3 (grid0.coords t) = 1#1 := fun e => (cond3_iff t).mp e h
  show (!(k0_cond3 (grid0.coords t) == 1#1)) = true
  simp [h3]
theorem idle5 (t : Fin cfg0.N) (h : t.val % 11 < 10) : cfg0.idle 5 (grid0.coords t) = true := by
  have h3 : ¬ k0_cond3 (grid0.coords t) = 1#1 := fun e => (cond3_iff t).mp e h
  show (!(k0_cond3 (grid0.coords t) == 1#1)) = true
  simp [h3]
theorem live3 (t : Fin cfg0.N) (h : ¬ t.val % 11 < 10) : cfg0.idle 3 (grid0.coords t) = false := by
  show (!(k0_cond3 (grid0.coords t) == 1#1)) = false
  rw [(cond3_iff t).mpr h]; rfl
theorem live5 (t : Fin cfg0.N) (h : ¬ t.val % 11 < 10) : cfg0.idle 5 (grid0.coords t) = false := by
  show (!(k0_cond3 (grid0.coords t) == 1#1)) = false
  rw [(cond3_iff t).mpr h]; rfl
theorem live4 (t : Fin cfg0.N) : cfg0.idle 4 (grid0.coords t) = false := by
  have h2 := cond2_iff t
  have h3 := cond3_iff t
  show (!(k0_cond2 (grid0.coords t) == 1#1) && !(k0_cond3 (grid0.coords t) == 1#1)) = false
  by_cases h : t.val % 11 < 10
  · rw [h2.mpr h]; simp
  · rw [h3.mpr h]; simp

/-! ## What the buffers hold -/

/-- The gradient block of point `t`, the weight codes and scales, zeros where they overhang the arrays. -/
def gblk (c : Dev nD) (t : Fin cfg0.N) : Vec F S1024x1024 .bf16 :=
  win0_0.fill (grid0.coords t) (fun _ => Scalar.ofBits .bf16 0#16) (iblk m c 0 t)
def wblk (c : Dev nD) (t : Fin cfg0.N) : Vec F S1024x4096 .fp8e4m3 :=
  win0_1.fill (grid0.coords t) (fun _ => Scalar.ofBits .fp8e4m3 0#8) (iblk m c 1 t)
def sblk (c : Dev nD) (t : Fin cfg0.N) : Vec F S32x4096 .i8 :=
  win0_2.fill (grid0.coords t) (fun _ => 0#8) (iblk m c 2 t)

/-- The accumulator after the body at point `t`, from what the point starts with. -/
def accStep (c : Dev nD) (t : Fin cfg0.N) (o : Vec F S1024x4096 .f32) : Vec F S1024x4096 .f32 :=
  if t.val % 11 < 10 then accFull (gblk m c t) (wblk m c t) (sblk m c t) o
  else accLast (View.ld (gblk m c t) rdyL) (wblk m c t) (sblk m c t) o

/-- The accumulator after point `n`: started from zeros at the first point of every row block. -/
def accAt (c : Dev nD) : (n : ℕ) → n < cfg0.N → Vec F S1024x4096 .f32
  | 0, h => accStep m c ⟨0, h⟩ k0_pay1
  | n + 1, h => accStep m c ⟨n + 1, h⟩ (if (n + 1) % 11 = 0 then k0_pay1 else accAt c n (Nat.lt_of_succ_lt h))

/-- The codes of point `t`. -/
def codesAt (c : Dev nD) (t : Fin cfg0.N) : Vec F S1024x1024 .fp8e4m3 :=
  if t.val % 11 < 10 then codes (gblk m c t) else View.canon [⟨rdyL, codesL (View.ld (gblk m c t) rdyL)⟩]

/-- The kept exponents before point `n`: the slots its row block has filled so far. -/
def Kept (c : Dev nD) (n : ℕ) (d : Vec F S11x32x1024 .i32) : Prop :=
  ∀ (k : Fin cfg0.N), k.val < n → k.val / 11 = n / 11 → ∀ (a : Fin 32) (b : Fin 1024),
    d (ix3 ⟨k.val % 11, Nat.mod_lt _ (by decide)⟩ a b) = kept (gblk m c k) (ix3 0 a b)
/-- The kept exponents after the last point `t` of a row block, on the rows that are read. -/
def KeptAll (c : Dev nD) (t : Fin cfg0.N) (d : Vec F S11x32x1024 .i32) : Prop :=
  Kept m c t.val d ∧ ∀ (a : Fin 24) (b : Fin 1024),
    d (ix3 (10 : Fin 11) ⟨a.val, by omega⟩ b) = keptL (View.ld (gblk m c t) rdyL) (ix3 0 a b)
/-- The accumulator before point `n`. -/
def AccIs (c : Dev nD) (n : ℕ) (o : Vec F S1024x4096 .f32) : Prop :=
  ∀ (k : ℕ) (hk : k < cfg0.N), n = k + 1 → n % 11 ≠ 0 → o = accAt m c k hk

/-- The row scales of point `t`, a function of the exponents `KeptAll` determines on the rows it reads. -/
def rowsAt (c : Dev nD) (t : Fin cfg0.N) : Vec F S1024x344 .i8 :=
  k0_pay5 (F := F) fun y =>
    if h : (y 0).val < 10 then
      kept (gblk m c ⟨t.val / 11 * 11 + (y 0).val, by
        have ht : t.val < 176 := t.isLt
        show t.val / 11 * 11 + (y 0).val < 176
        omega⟩) (ix3 0 (y 1) (y 2))
    else if h' : (y 1).val < 24 then keptL (View.ld (gblk m c t) rdyL) (ix3 0 ⟨(y 1).val, h'⟩ (y 2))
    else 0#32

/-- The proof data: arrays as the region finds them, every buffer as above, the two kept buffers carried along. -/
def dats (_ : Fin 1) (c : Dev nD) : Dat τ (Elt F) Unit ℕ (UR sig nD τ) ℕ cfg0 c where
  A w := V m c (Pipeline.arrRef spec0 w)
  after w t := match w with
    | ⟨0, _⟩ => gblk m c t
    | ⟨1, _⟩ => wblk m c t
    | ⟨2, _⟩ => sblk m c t
    | ⟨3, _⟩ => k0_pay4 (accAt m c t.val t.isLt)
    | ⟨4, _⟩ => codesAt m c t
    | ⟨5, _⟩ => rowsAt m c t
  Φ t := iprop(∃ o d, ⌜AccIs m c t.val o ∧ Kept m c t.val d⌝
    ∗ owns (c : Thread nD τ) (Memref.whole cc0_scratch0) fullShare o
    ∗ owns (c : Thread nD τ) (Memref.whole cc0_scratch1) fullShare d ∗ ∃ r, prngReg c r)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = gblk m c t := by dsimp only [dats]
theorem after0_1 (c : Dev nD) (t : Fin cfg0.N) : (dats m 0 c).after 1 t = wblk m c t := by dsimp only [dats]
theorem after0_2 (c : Dev nD) (t : Fin cfg0.N) : (dats m 0 c).after 2 t = sblk m c t := by dsimp only [dats]
theorem after0_3 (c : Dev nD) (t : Fin cfg0.N) : (dats m 0 c).after 3 t = k0_pay4 (accAt m c t.val t.isLt) := by dsimp only [dats]
theorem after0_4 (c : Dev nD) (t : Fin cfg0.N) : (dats m 0 c).after 4 t = codesAt m c t := by dsimp only [dats]
theorem after0_5 (c : Dev nD) (t : Fin cfg0.N) : (dats m 0 c).after 5 t = rowsAt m c t := by dsimp only [dats]
/-- What is carried from point to point. -/
def carry (c : Dev nD) (n : ℕ) : sProp 𝕄 :=
  iprop(∃ o d, ⌜AccIs m c n o ∧ Kept m c n d⌝
    ∗ owns (c : Thread nD τ) (Memref.whole cc0_scratch0) fullShare o
    ∗ owns (c : Thread nD τ) (Memref.whole cc0_scratch1) fullShare d ∗ ∃ r, prngReg c r)
theorem Φ_eq (c : Dev nD) (t : Fin (cfg0.N + 1)) : (dats m 0 c).Φ t = carry m c t.val := by dsimp only [dats, carry]

theorem before0_0 (c : Dev nD) (t : Fin cfg0.N) (d) :
    (dats m 0 c).before 0 t d = win0_0.fill (grid0.coords t) d (iblk m c 0 t) := by
  rw [Dat.before_fetched _ _ _ (fetch0_0 t)]
  unfold Dat.fetched Dat.blockOf iblk; rw [A_eq]
theorem before0_1 (c : Dev nD) (t : Fin cfg0.N) (d) :
    (dats m 0 c).before 1 t d = win0_1.fill (grid0.coords t) d (iblk m c 1 t) := by
  rw [Dat.before_fetched _ _ _ (fetch0_1 t)]
  unfold Dat.fetched Dat.blockOf iblk; rw [A_eq]
theorem before0_2 (c : Dev nD) (t : Fin cfg0.N) (d) :
    (dats m 0 c).before 2 t d = win0_2.fill (grid0.coords t) d (iblk m c 2 t) := by
  rw [Dat.before_fetched _ _ _ (fetch0_2 t)]
  unfold Dat.fetched Dat.blockOf iblk; rw [A_eq]

/-! ## Reading through the cuts -/

/-- A cut window's buffer does not depend on its padding where the block lies in the array. -/
theorem fill_at (w : Window sig grid0) (i : grid0.Coords) {α : Type} (d d' : w.block.Idx → α) (g : (w.xblock i).Idx → α)
    (y : w.block.Idx) (h : ∀ a, (y a).val < w.xsize i a) : w.fill i d g y = w.fill i d' g y := by
  have hm : w.moved i y = true := (w.moved_iff i y).mpr h
  unfold Window.fill; rw [dif_pos hm, dif_pos hm]

theorem gfull (c : Dev nD) (t : Fin cfg0.N) (h : t.val % 11 < 10) (d) :
    win0_0.fill (grid0.coords t) d (iblk m c 0 t) = gblk m c t := by
  funext y
  refine fill_at _ _ _ _ _ _ fun a => ?_
  match a with
  | ⟨0, _⟩ => show (y 0).val < win0_0.xsize (grid0.coords t) 0; rw [(xs0 t).1]; exact (y 0).isLt
  | ⟨1, _⟩ => show (y 1).val < win0_0.xsize (grid0.coords t) 1; rw [(xs0 t).2, if_pos h]; exact (y 1).isLt
theorem wfull (c : Dev nD) (t : Fin cfg0.N) (h : t.val % 11 < 10) (d) :
    win0_1.fill (grid0.coords t) d (iblk m c 1 t) = wblk m c t := by
  funext y
  refine fill_at _ _ _ _ _ _ fun a => ?_
  match a with
  | ⟨0, _⟩ => show (y 0).val < win0_1.xsize (grid0.coords t) 0; rw [(xs1 t).2, if_pos h]; exact (y 0).isLt
  | ⟨1, _⟩ => show (y 1).val < win0_1.xsize (grid0.coords t) 1; rw [(xs1 t).1]; exact (y 1).isLt
theorem sfull (c : Dev nD) (t : Fin cfg0.N) (h : t.val % 11 < 10) (d) :
    win0_2.fill (grid0.coords t) d (iblk m c 2 t) = sblk m c t := by
  funext y
  refine fill_at _ _ _ _ _ _ fun a => ?_
  match a with
  | ⟨0, _⟩ => show (y 0).val < win0_2.xsize (grid0.coords t) 0; rw [(xs2 t).2, if_pos h]; exact (y 0).isLt
  | ⟨1, _⟩ => show (y 1).val < win0_2.xsize (grid0.coords t) 1; rw [(xs2 t).1]; exact (y 1).isLt

theorem glast (c : Dev nD) (t : Fin cfg0.N) (h : ¬ t.val % 11 < 10) (d) :
    View.ld (Val := Elt F) (e' := .bf16) (win0_0.fill (grid0.coords t) d (iblk m c 0 t)) rdyL = View.ld (gblk m c t) rdyL := by
  funext y
  show win0_0.fill (grid0.coords t) d (iblk m c 0 t) (rdyL.idx y) = gblk m c t (rdyL.idx y)
  refine fill_at _ _ _ _ _ _ fun a => ?_
  match a with
  | ⟨0, _⟩ => show ((rdyL.idx y) 0).val < win0_0.xsize (grid0.coords t) 0; rw [(xs0 t).1]; exact ((rdyL.idx y) 0).isLt
  | ⟨1, _⟩ =>
    show ((rdyL.idx y) 1).val < win0_0.xsize (grid0.coords t) 1
    have hy : (y 1).val < 768 := (y 1).isLt
    rw [(xs0 t).2, if_neg h, Rect.idx_unit_val]
    show 0 + (y 1).val < 768
    omega
theorem wlast (c : Dev nD) (t : Fin cfg0.N) (h : ¬ t.val % 11 < 10) (d) (r : Rect S1024x4096) (hr : ∀ y, ((r.idx y) 0).val < 768) :
    View.ld (Val := Elt F) (e' := .fp8e4m3) (win0_1.fill (grid0.coords t) d (iblk m c 1 t)) r = View.ld (wblk m c t) r := by
  funext y
  show win0_1.fill (grid0.coords t) d (iblk m c 1 t) (r.idx y) = wblk m c t (r.idx y)
  refine fill_at _ _ _ _ _ _ fun a => ?_
  match a with
  | ⟨0, _⟩ => show ((r.idx y) 0).val < win0_1.xsize (grid0.coords t) 0; rw [(xs1 t).2, if_neg h]; exact hr y
  | ⟨1, _⟩ => show ((r.idx y) 1).val < win0_1.xsize (grid0.coords t) 1; rw [(xs1 t).1]; exact ((r.idx y) 1).isLt
theorem slast (c : Dev nD) (t : Fin cfg0.N) (h : ¬ t.val % 11 < 10) (d) (r : Rect S32x4096) (hr : ∀ y, ((r.idx y) 0).val < 24) :
    View.ld (Val := Elt F) (e' := .i8) (win0_2.fill (grid0.coords t) d (iblk m c 2 t)) r = View.ld (sblk m c t) r := by
  funext y
  show win0_2.fill (grid0.coords t) d (iblk m c 2 t) (r.idx y) = sblk m c t (r.idx y)
  refine fill_at _ _ _ _ _ _ fun a => ?_
  match a with
  | ⟨0, _⟩ => show ((r.idx y) 0).val < win0_2.xsize (grid0.coords t) 0; rw [(xs2 t).2, if_neg h]; exact hr y
  | ⟨1, _⟩ => show ((r.idx y) 1).val < win0_2.xsize (grid0.coords t) 1; rw [(xs2 t).1]; exact ((r.idx y) 1).isLt

theorem accLast_of (w w' : Vec F S1024x4096 .fp8e4m3) (s s' : Vec F S32x4096 .i8) (v : Vec F S1024x768 .bf16) (o : Vec F S1024x4096 .f32)
    (w0 : View.ld w rb0 = View.ld w' rb0) (w1 : View.ld w rb1 = View.ld w' rb1) (w2 : View.ld w rb2 = View.ld w' rb2)
    (w3 : View.ld w rb3 = View.ld w' rb3) (s0 : View.ld s rt0 = View.ld s' rt0) (s1 : View.ld s rt1 = View.ld s' rt1)
    (s2 : View.ld s rt2 = View.ld s' rt2) (s3 : View.ld s rt3 = View.ld s' rt3) : accLast v w s o = accLast v w' s' o := by
  unfold accLast accL0 accL1 accL2 accL3
  rw [w0, w1, w2, w3, s0, s1, s2, s3]

/-- The last block's product reads the weight's first 768 rows and their scales only. -/
theorem accLast_congr (c : Dev nD) (t : Fin cfg0.N) (h : ¬ t.val % 11 < 10) (d1 d2) (v : Vec F S1024x768 .bf16) (o : Vec F S1024x4096 .f32) :
    accLast v (win0_1.fill (grid0.coords t) d1 (iblk m c 1 t)) (win0_2.fill (grid0.coords t) d2 (iblk m c 2 t)) o
      = accLast v (wblk m c t) (sblk m c t) o := by
  have w0 := wlast m c t h d1 rb0 fun y => by
    rw [Rect.idx_unit_val]; have hy : (y 0).val < 768 := (y 0).isLt; show 0 + (y 0).val < 768; omega
  have w1 := wlast m c t h d1 rb1 fun y => by
    rw [Rect.idx_unit_val]; have hy : (y 0).val < 768 := (y 0).isLt; show 0 + (y 0).val < 768; omega
  have w2 := wlast m c t h d1 rb2 fun y => by
    rw [Rect.idx_unit_val]; have hy : (y 0).val < 768 := (y 0).isLt; show 0 + (y 0).val < 768; omega
  have w3 := wlast m c t h d1 rb3 fun y => by
    rw [Rect.idx_unit_val]; have hy : (y 0).val < 768 := (y 0).isLt; show 0 + (y 0).val < 768; omega
  have s0 := slast m c t h d2 rt0 fun y => by
    rw [Rect.idx_unit_val]; have hy : (y 0).val < 24 := (y 0).isLt; show 0 + (y 0).val < 24; omega
  have s1 := slast m c t h d2 rt1 fun y => by
    rw [Rect.idx_unit_val]; have hy : (y 0).val < 24 := (y 0).isLt; show 0 + (y 0).val < 24; omega
  have s2 := slast m c t h d2 rt2 fun y => by
    rw [Rect.idx_unit_val]; have hy : (y 0).val < 24 := (y 0).isLt; show 0 + (y 0).val < 24; omega
  have s3 := slast m c t h d2 rt3 fun y => by
    rw [Rect.idx_unit_val]; have hy : (y 0).val < 24 := (y 0).isLt; show 0 + (y 0).val < 24; omega
  exact accLast_of _ _ _ _ v o w0 w1 w2 w3 s0 s1 s2 s3

theorem agree4 (t : Fin cfg0.N) (h : ¬ t.val % 11 < 10) (p : Vec F S1024x768 .fp8e4m3) (d : Vec F S1024x1024 .fp8e4m3)
    (ha : Agrees [⟨rdyL, p⟩] d) :
    win0_4.cut (grid0.coords t) d = win0_4.cut (grid0.coords t) (View.canon [⟨rdyL, p⟩]) := by
  funext j
  refine ha _ ⟨_, List.mem_singleton.mpr rfl, ?_⟩
  show _ ∈ (rdyL).set
  rw [Rect.mem_set_unit]; intro a
  have h0 := (xs4 t).1
  have h1 := (xs4 t).2; rw [if_neg h] at h1
  match a with
  | ⟨0, _⟩ => exact ⟨Nat.zero_le _, (Nat.zero_add 1024).symm ▸ h0 ▸ (j 0).isLt⟩
  | ⟨1, _⟩ => exact ⟨Nat.zero_le _, (Nat.zero_add 768).symm ▸ h1 ▸ (j 1).isLt⟩

/-! ## The kept exponents -/

theorem kept_step (c : Dev nD) (t : Fin cfg0.N) (h : t.val % 11 < 10) (h2 : k0_cond2 (grid0.coords t) = 1#1) (d e : Vec F S11x32x1024 .i32)
    (hd : Kept m c t.val d) (hu : Upd (slotF (grid0.coords t) h2) (kept (gblk m c t)) d e) : Kept m c (t.val + 1) e := by
  intro k hk hkn a b
  obtain ⟨o0, o1, o2⟩ := off1_eq t
  by_cases hkt : k.val = t.val
  · obtain rfl : k = t := Fin.ext hkt
    refine Eq.trans (congrArg e ?_) (hu.1 (ix3 0 a b))
    funext x
    match x with
    | ⟨0, _⟩ => exact Fin.ext (show k.val % 11 = k0_off1 (grid0.coords k) 0 + 1 * 0 by rw [o0]; omega)
    | ⟨1, _⟩ => exact Fin.ext (show a.val = k0_off1 (grid0.coords k) 1 + 1 * a.val by rw [o1]; omega)
    | ⟨2, _⟩ => exact Fin.ext (show b.val = k0_off1 (grid0.coords k) 2 + 1 * b.val by rw [o2]; omega)
  · refine (hu.2 _ fun hm => ?_).trans (hd k (by omega) (by omega) a b)
    rw [Rect.mem_set_unit] at hm
    have h0 := hm 0
    have h1 : k0_off1 (grid0.coords t) 0 ≤ k.val % 11 := h0.1
    have h2 : k.val % 11 < k0_off1 (grid0.coords t) 0 + 1 := h0.2
    rw [o0] at h1 h2
    omega

theorem kept_last (c : Dev nD) (t : Fin cfg0.N) (h : ¬ t.val % 11 < 10) (h3 : k0_cond3 (grid0.coords t) = 1#1) (d e : Vec F S11x32x1024 .i32)
    (hd : Kept m c t.val d) (hu : Upd (slotL (grid0.coords t) h3) (keptL (View.ld (gblk m c t) rdyL)) d e) : KeptAll m c t e := by
  obtain ⟨o0, o1, o2⟩ := off2_eq t
  refine ⟨fun k hk hkn a b => ?_, fun a b => ?_⟩
  · refine (hu.2 _ fun hm => ?_).trans (hd k hk hkn a b)
    rw [Rect.mem_set_unit] at hm
    have h0 := hm 0
    have h1 : k0_off2 (grid0.coords t) 0 ≤ k.val % 11 := h0.1
    rw [o0] at h1
    omega
  · refine Eq.trans (congrArg e ?_) (hu.1 (ix3 0 a b))
    funext x
    match x with
    | ⟨0, _⟩ => exact Fin.ext (show 10 = k0_off2 (grid0.coords t) 0 + 1 * 0 by rw [o0]; omega)
    | ⟨1, _⟩ => exact Fin.ext (show a.val = k0_off2 (grid0.coords t) 1 + 1 * a.val by rw [o1]; omega)
    | ⟨2, _⟩ => exact Fin.ext (show b.val = k0_off2 (grid0.coords t) 2 + 1 * b.val by rw [o2]; omega)

/-- An entry of the row scales reads one exponent. -/
theorem rows_at (d : Vec F S11x32x1024 .i32) (r : Fin 1024) (b : Fin 344) :
    k0_pay5 (F := F) d (ix2 r b)
      = BitVec.setWidth 8 (IntOp.addi (d (ix3 ⟨b.val / 32, by omega⟩ ⟨b.val % 32, Nat.mod_lt _ (by decide)⟩ r)) 127#32) := by
  unfold k0_pay5
  pointwise

theorem rows_congr (c : Dev nD) (t : Fin cfg0.N) (h : ¬ t.val % 11 < 10) (e : Vec F S11x32x1024 .i32) (hk : KeptAll m c t e) :
    k0_pay5 (F := F) e = rowsAt m c t := by
  unfold rowsAt
  funext y
  rw [eq_ix2 (n0 := 1024) (n1 := 344) y]
  generalize y 0 = r; generalize y 1 = b
  refine (rows_at e r b).trans (Eq.trans ?_ (rows_at _ r b).symm)
  refine congrArg (fun z => BitVec.setWidth 8 (IntOp.addi z 127#32)) ?_
  have hb : b.val < 344 := b.isLt
  have ht : t.val < 176 := t.isLt
  show _ = if h : b.val / 32 < 10 then _ else _
  by_cases h0 : b.val / 32 < 10
  · rw [dif_pos h0]
    refine Eq.trans (congrArg e ?_) (hk.1 ⟨t.val / 11 * 11 + b.val / 32, show _ < 176 by omega⟩ (show _ < _ by dsimp only; omega) (by dsimp only; omega) _ _)
    funext x
    match x with
    | ⟨0, _⟩ => exact Fin.ext (show b.val / 32 = (t.val / 11 * 11 + b.val / 32) % 11 by omega)
    | ⟨1, _⟩ => rfl
    | ⟨2, _⟩ => rfl
  · rw [dif_neg h0]
    have h1 : b.val % 32 < 24 := by omega
    show _ = if h' : b.val % 32 < 24 then _ else _
    rw [dif_pos h1]
    refine Eq.trans (congrArg e ?_) (hk.2 ⟨b.val % 32, h1⟩ r)
    funext x
    match x with
    | ⟨0, _⟩ => exact Fin.ext (show b.val / 32 = 10 by omega)
    | ⟨1, _⟩ => rfl
    | ⟨2, _⟩ => rfl

/-! ## The body at a point -/

/-- A buffer that agrees with `after` on the part inside the array is what the obligation asks of a cut window, -/
theorem leave_loose (c : Dev nD) (t : Fin cfg0.N) (w : Fin cfg0.W) (hi : cfg0.idle w (grid0.coords t) = false) (hl : cfg0.loose w = true)
    (X : (cfg0.win w).block.Idx → Elt F (cfg0.win w).elt)
    (hX : (cfg0.win w).cut (cfg0.grid.coords t) X = (cfg0.win w).cut (cfg0.grid.coords t) ((dats m 0 c).after w t)) :
    owns (c : Thread nD τ) ((cfg0.win w).stage (cfg0.slots t w)) fullShare X ⊢ ((dats m 0 c).leaves w t : sProp 𝕄) := by
  unfold Dat.leaves
  rw [hi, hl]
  dsimp only
  iintro H; iexists X; rw [← hX, Window.fill_cut]; iexact H
/-- and one that holds `after` of an uncut one. -/
theorem leave_exact (c : Dev nD) (t : Fin cfg0.N) (w : Fin cfg0.W) (hi : cfg0.idle w (grid0.coords t) = false) (hl : cfg0.loose w = false)
    (X : (cfg0.win w).block.Idx → Elt F (cfg0.win w).elt) (hX : X = (dats m 0 c).after w t) :
    owns (c : Thread nD τ) ((cfg0.win w).stage (cfg0.slots t w)) fullShare X ⊢ ((dats m 0 c).leaves w t : sProp 𝕄) := by
  subst hX
  unfold Dat.leaves
  rw [hi, hl]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t ∗ (dats m 0 c).leaves 5 t)

theorem acc_zero (c : Dev nD) (t : Fin cfg0.N) (h : t.val % 11 = 0) : accAt m c t.val t.isLt = accStep m c t k0_pay1 := by
  obtain ⟨n, hn⟩ := t
  cases n with
  | zero => rfl
  | succ n => show accStep m c _ (if (n + 1) % 11 = 0 then _ else _) = _; rw [if_pos h]
theorem acc_succ (c : Dev nD) (t : Fin cfg0.N) (h : ¬ t.val % 11 = 0) :
    accAt m c t.val t.isLt = accStep m c t (accAt m c (t.val - 1) (Nat.lt_of_le_of_lt (Nat.sub_le _ _) t.isLt)) := by
  obtain ⟨n, hn⟩ := t
  cases n with
  | zero => exact absurd rfl h
  | succ n => show accStep m c _ (if (n + 1) % 11 = 0 then _ else _) = _; rw [if_neg h]; rfl
theorem acc_is (c : Dev nD) (t : Fin cfg0.N) (h : ¬ t.val % 11 = 0) (o : Vec F S1024x4096 .f32) (ho : AccIs m c t.val o) :
    accAt m c t.val t.isLt = accStep m c t o := by
  rw [acc_succ m c t h, ho (t.val - 1) (Nat.lt_of_le_of_lt (Nat.sub_le _ _) t.isLt) (by omega) h]

theorem acc_next (c : Dev nD) (t : Fin cfg0.N) : AccIs m c (t.val + 1) (accAt m c t.val t.isLt) := by
  intro k hk e _
  obtain rfl : k = t.val := by omega
  rfl

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, Φ_eq]
  rw [show (dats m 0 c).owesAt () t.succ = (dats m 0 c).owesAt () t.castSucc from rfl,
    show (t.castSucc).val = t.val from rfl, show (t.succ).val = t.val + 1 from rfl]
  unfold carry
  iintro ⟨⟨%o, %d, %hod, H8, H9, Hp⟩, Ho, ⟨%d0, H0⟩, ⟨%d1, H1⟩, ⟨%d2, H2⟩, H3, ⟨%d4, H4⟩, H5⟩
  obtain ⟨hoa, hod⟩ := hod
  have hg : win0_0.cut (grid0.coords t) (win0_0.fill (grid0.coords t) d0 (iblk m c 0 t))
      = win0_0.cut (grid0.coords t) ((dats m 0 c).after 0 t) := by
    rw [after0_0]; unfold gblk; rw [Window.cut_fill, Window.cut_fill]
  have hw : win0_1.cut (grid0.coords t) (win0_1.fill (grid0.coords t) d1 (iblk m c 1 t))
      = win0_1.cut (grid0.coords t) ((dats m 0 c).after 1 t) := by
    rw [after0_1]; unfold wblk; rw [Window.cut_fill, Window.cut_fill]
  have hs : win0_2.cut (grid0.coords t) (win0_2.fill (grid0.coords t) d2 (iblk m c 2 t))
      = win0_2.cut (grid0.coords t) ((dats m 0 c).after 2 t) := by
    rw [after0_2]; unfold sblk; rw [Window.cut_fill, Window.cut_fill]
  by_cases hb : t.val % 11 < 10
  · have h2 := (cond2_iff t).mpr hb
    have h3 : ¬ k0_cond3 (grid0.coords t) = 1#1 := fun h => (cond3_iff t).mp h hb
    have f3 : (cfg0.win 3).flush t = false := by
      rw [Bool.eq_false_iff]; intro h; have := (flush0_3 t).mp h; omega
    have f5 : (cfg0.win 5).flush t = false := by
      rw [Bool.eq_false_iff]; intro h; have := (flush0_5 t).mp h; omega
    rw [(dats m 0 c).leaves_idle 3 t (idle3 t hb) f3, (dats m 0 c).leaves_idle 5 t (idle5 t hb) f5]
    have e4 : codes (win0_0.fill (grid0.coords t) d0 (iblk m c 0 t)) = (dats m 0 c).after 4 t := by
      rw [after0_4, gfull m c t hb]; unfold codesAt; rw [if_pos hb]
    have e9 : ∀ e, Upd (slotF (grid0.coords t) h2) (kept (win0_0.fill (grid0.coords t) d0 (iblk m c 0 t))) d e → Kept m c (t.val + 1) e := fun e he => by
      rw [gfull m c t hb] at he; exact kept_step m c t hb h2 d e hod he
    by_cases ha : t.val % 11 = 0
    · have e8 : accFull (win0_0.fill (grid0.coords t) d0 (iblk m c 0 t)) (win0_1.fill (grid0.coords t) d1 (iblk m c 1 t))
          (win0_2.fill (grid0.coords t) d2 (iblk m c 2 t)) k0_pay1 = accAt m c t.val t.isLt := by
        rw [gfull m c t hb, wfull m c t hb, sfull m c t hb, acc_zero m c t ha]; unfold accStep; rw [if_pos hb]
      iapply (step_first c Set.univ (grid0.coords t) ((cond1_iff t).mpr ha) h2 h3 _ _ _ _ _ _ _ _ _ _ _ _ _ _ _ _ _ _ _ d _)
      isplitl [H0]; · iexact H0
      isplitl [H1]; · iexact H1
      isplitl [H2]; · iexact H2
      isplitl [H4]; · iexists _; iexact H4
      isplitl [H8]; · iexists _; iexact H8
      isplitl [H9]; · iexact H9
      rw [e8]
      iintro ⟨H0, H1, H2, H4, H8, ⟨%e, %he, H9⟩⟩
      isplitl [H8 H9 Hp]
      · iexists _; iexists e
        isplitr; · ipureintro; exact ⟨acc_next m c t, e9 e he⟩
        isplitl [H8]; · iexact H8
        isplitl [H9]; · iexact H9
        iexact Hp
      isplitl [Ho]; · iexact Ho
      isplitl [H0]; · iapply (leave_loose m c t 0 rfl rfl _ hg); iexact H0
      isplitl [H1]; · iapply (leave_loose m c t 1 rfl rfl _ hw); iexact H1
      isplitl [H2]; · iapply (leave_loose m c t 2 rfl rfl _ hs); iexact H2
      isplitl [H3]; · iexact H3
      isplitl [H4]; · iapply (leave_loose m c t 4 (live4 t) rfl _ (congrArg _ e4)); iexact H4
      iexact H5
    · have e8 : accFull (win0_0.fill (grid0.coords t) d0 (iblk m c 0 t)) (win0_1.fill (grid0.coords t) d1 (iblk m c 1 t))
          (win0_2.fill (grid0.coords t) d2 (iblk m c 2 t)) o = accAt m c t.val t.isLt := by
        rw [gfull m c t hb, wfull m c t hb, sfull m c t hb, acc_is m c t ha o hoa]; unfold accStep; rw [if_pos hb]
      iapply (step_mid c Set.univ (grid0.coords t) (fun h => ha ((cond1_iff t).mp h)) h2 h3 _ _ _ _ _ _ _ _ _ _ _ _ _ _ _ _ _ _ _ o d _)
      isplitl [H0]; · iexact H0
      isplitl [H1]; · iexact H1
      isplitl [H2]; · iexact H2
      isplitl [H4]; · iexists _; iexact H4
      isplitl [H8]; · iexact H8
      isplitl [H9]; · iexact H9
      rw [e8]
      iintro ⟨H0, H1, H2, H4, H8, ⟨%e, %he, H9⟩⟩
      isplitl [H8 H9 Hp]
      · iexists _; iexists e
        isplitr; · ipureintro; exact ⟨acc_next m c t, e9 e he⟩
        isplitl [H8]; · iexact H8
        isplitl [H9]; · iexact H9
        iexact Hp
      isplitl [Ho]; · iexact Ho
      isplitl [H0]; · iapply (leave_loose m c t 0 rfl rfl _ hg); iexact H0
      isplitl [H1]; · iapply (leave_loose m c t 1 rfl rfl _ hw); iexact H1
      isplitl [H2]; · iapply (leave_loose m c t 2 rfl rfl _ hs); iexact H2
      isplitl [H3]; · iexact H3
      isplitl [H4]; · iapply (leave_loose m c t 4 (live4 t) rfl _ (congrArg _ e4)); iexact H4
      iexact H5
  · have h2 : ¬ k0_cond2 (grid0.coords t) = 1#1 := fun h => hb ((cond2_iff t).mp h)
    have h3 := (cond3_iff t).mpr hb
    have ha : ¬ t.val % 11 = 0 := by omega
    have e8 : accLast (View.ld (Val := Elt F) (e' := .bf16) (win0_0.fill (grid0.coords t) d0 (iblk m c 0 t)) rdyL) (win0_1.fill (grid0.coords t) d1 (iblk m c 1 t))
        (win0_2.fill (grid0.coords t) d2 (iblk m c 2 t)) o = accAt m c t.val t.isLt := by
      rw [glast m c t hb d0, accLast_congr m c t hb d1 d2, acc_is m c t ha o hoa]; unfold accStep; rw [if_neg hb]
    have hA : AccIs m c (t.val + 1) (accLast (View.ld (Val := Elt F) (e' := .bf16) (win0_0.fill (grid0.coords t) d0 (iblk m c 0 t)) rdyL) (win0_1.fill (grid0.coords t) d1 (iblk m c 1 t))
        (win0_2.fill (grid0.coords t) d2 (iblk m c 2 t)) o) := by
      rw [e8]; exact acc_next m c t
    have e3 : k0_pay4 (accLast (View.ld (Val := Elt F) (e' := .bf16) (win0_0.fill (grid0.coords t) d0 (iblk m c 0 t)) rdyL) (win0_1.fill (grid0.coords t) d1 (iblk m c 1 t))
        (win0_2.fill (grid0.coords t) d2 (iblk m c 2 t)) o) = (dats m 0 c).after 3 t := by
      rw [e8, after0_3]
    have e4 : ∀ d, Agrees [⟨rdyL, codesL (View.ld (Val := Elt F) (e' := .bf16) (win0_0.fill (grid0.coords t) d0 (iblk m c 0 t)) rdyL)⟩] d →
        win0_4.cut (grid0.coords t) d = win0_4.cut (grid0.coords t) ((dats m 0 c).after 4 t) := fun d h => by
      rw [glast m c t hb d0] at h; rw [after0_4, agree4 t hb _ d h]; unfold codesAt; rw [if_neg hb]
    have e9 : ∀ e, Upd (slotL (grid0.coords t) h3) (keptL (View.ld (Val := Elt F) (e' := .bf16) (win0_0.fill (grid0.coords t) d0 (iblk m c 0 t)) rdyL)) d e →
        k0_pay5 (F := F) e = (dats m 0 c).after 5 t := fun e he => by
      rw [glast m c t hb d0] at he; rw [after0_5]; exact rows_congr m c t hb e (kept_last m c t hb h3 d e hod he)
    iapply (step_last c Set.univ (grid0.coords t) (fun h => ha ((cond1_iff t).mp h)) h2 h3 _ _ _ _ _ _ _ _ _ _ _ _ _ _ _ _ _ _ _ o d _)
    isplitl [H0]; · iexact H0
    isplitl [H1]; · iexact H1
    isplitl [H2]; · iexact H2
    isplitl [H4]; · iexists _; iexact H4
    isplitl [H8]; · iexact H8
    isplitl [H9]; · iexact H9
    isplitl [H3]; · icases H3 with ⟨%d3, H3⟩; iexists _; iexact H3
    isplitl [H5]; · icases H5 with ⟨%d5, H5⟩; iexists _; iexact H5
    iintro ⟨H0, H1, H2, ⟨%D4, %hD4, H4⟩, H8, H3, ⟨%e, %he, H9, H5⟩⟩
    isplitl [H8 H9 Hp]
    · iexists _; iexists e
      isplitr
      · ipureintro
        refine ⟨hA, fun k hk hkn => ?_⟩
        exact absurd hkn (by omega)
      isplitl [H8]; · iexact H8
      isplitl [H9]; · iexact H9
      iexact Hp
    isplitl [Ho]; · iexact Ho
    isplitl [H0]; · iapply (leave_loose m c t 0 rfl rfl _ hg); iexact H0
    isplitl [H1]; · iapply (leave_loose m c t 1 rfl rfl _ hw); iexact H1
    isplitl [H2]; · iapply (leave_loose m c t 2 rfl rfl _ hs); iexact H2
    isplitl [H3]; · iapply (leave_exact m c t 3 (live3 t hb) rfl _ e3); iexact H3
    isplitl [H4]; · iapply (leave_loose m c t 4 (live4 t) rfl _ (e4 D4 hD4)); iexact H4
    iapply (leave_exact m c t 5 (live5 t hb) rfl _ (e9 e he)); iexact H5

theorem defs₀_row (c : Dev nD) (t : Fin cfg0.N) : defs₀ (F := F) .tc cfg0.body (cfg0.bodyArgs t (cfg0.slots t)) = bodyAt0 t := by
  first | rfl | (unfold defs₀; rw [Defs.onTc_tc])

theorem body_obligation (c : Dev nD) : BodyObligationLoose (dats m 0 c) (defs₀ (F := F)) Variants.none () Set.univ := fun t => by
  rw [bigSep_W0, bigSep_W0, defs₀_row c t]
  exact triple_restated (sound_body m c t) rfl .rfl fun _ => .rfl

/-! ## The run -/

theorem carry_in (c : Dev nD) : Pipeline.ΦA spec0 c ⊢ (dats m 0 c).Φ 0 := by
  rw [Φ_eq]
  unfold Pipeline.ΦA carry
  rw [scopedRest0_eq]
  simp only [← owns_whole]
  iintro ⟨⟨⟨%o, H8⟩, ⟨%d, H9⟩⟩, Hp⟩
  iexists o; iexists d
  isplitr
  · ipureintro
    exact ⟨fun k _ e => absurd e (Nat.succ_ne_zero k).symm, fun k hk => absurd hk (Nat.not_lt_zero _)⟩
  isplitl [H8]; · iexact H8
  isplitl [H9]; · iexact H9
  iexact Hp
theorem carry_out (c : Dev nD) : (dats m 0 c).Φ (Fin.last cfg0.N) ⊢ Pipeline.ΦA spec0 c := by
  rw [Φ_eq]
  unfold Pipeline.ΦA carry
  rw [scopedRest0_eq]
  simp only [← owns_whole]
  iintro ⟨%o, %d, -, H8, H9, Hp⟩
  isplitl [H8 H9]
  · isplitl [H8]
    · iexists o; iexact H8
    · iexists d; iexact H9
  iexact Hp

set_option backward.isDefEq.respectTransparency.types false in
set_option maxHeartbeats 800000 in
/-- Every execution ends with each array at what the pipeline's write-backs make of it, and every counter at zero. -/
theorem run_main_quiescent : θ_run defs (onTc (τ := τ) (main (F := F))) (s₀ m ρ)
    (fun r => Pipeline.FramePost cfgs (dats m) (0 : Fin 1) (V m) r ∧ r.2.sem = fun _ => 0) :=
  Pipeline.θ_run_frame_track (Q' := _) cfgs (dats m) (0 : Fin 1) launch0 defs₀ Variants.none m ρ main
    (hbody := body_obligation m)
    (hshare := fun c => (dats m 0 c).share_full fun _ => rfl) (howed := fun _ _ => rfl)
    (V := V m) (hmain := hmain m Variants.none) (hA := A_eq m) (hin := carry_in m) (hout := carry_out m)

theorem run_main : θ_run defs (onTc (τ := τ) (main (F := F))) (s₀ m ρ) (Pipeline.FramePost cfgs (dats m) (0 : Fin 1) (V m)) :=
  (θ_run defs _ _).mono (fun _ h => h.1) (run_main_quiescent m ρ)

/-- The argument arrays end as they began and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) (run_main m ρ))
    ((θ_run defs _ _).mono (fun _ h => h.2) (run_main_quiescent m ρ))

end Cert.DgradIdeal.Run

end
-- ==== Proof.MxScalar.lean ====
/- The scalar side of the block quantiser over the extended reals: a power of two built from its exponent field, the
   exponent found by a search over that field, the same exponent by a logarithm, and the code and the value of one
   entry stated both ways. -/
module

public import Idealize.ShloMosaic.PureOps.Ideal
public import Idealize.ShloMosaic.Lib.Pointwise

@[expose] public section

set_option maxRecDepth 16384

noncomputable section

namespace Cert.Mx

open Idealize.ShloMosaic

/-! ## Powers of two by their exponent field -/

/-- The f32 with exponent field `e` and nothing else. -/
def pw (e : BitVec 32) : EReal := Ideal.ofBits .f32 (IntOp.shli .vector e 23#32)

/-- Its value by the field: zero, a power of two, infinity. -/
def pwN (k : ℕ) : EReal := if k = 0 then 0 else if k = 255 then ⊤ else (((2 : ℝ) ^ ((k : ℤ) - 127) : ℝ) : EReal)

theorem fields : ∀ k : Fin 256, (((IntOp.shli .vector (BitVec.ofNat 32 k.val) 23#32).extractLsb' 31 1) == 1#1) = false
    ∧ ((IntOp.shli .vector (BitVec.ofNat 32 k.val) 23#32).extractLsb' 23 8).toNat = k.val
    ∧ ((IntOp.shli .vector (BitVec.ofNat 32 k.val) 23#32).extractLsb' 0 23).toNat = 0 := by decide +kernel

theorem ieee_pow (b : BitVec 32) (k : ℕ) (h1 : (b.extractLsb' 31 1 == 1#1) = false) (h2 : (b.extractLsb' 23 8).toNat = k)
    (h3 : (b.extractLsb' 0 23).toNat = 0) : Ideal.ieee 8 23 b = pwN k := by
  have h1' : (b.extractLsb' (8 + 23) 1 == 1#1) = false := h1
  unfold Ideal.ieee pwN
  simp only [h1', h2, h3]
  by_cases h0 : k = 0
  · subst h0; simp
  by_cases h255 : k = 255
  · subst h255; simp
  · have hk : ¬ k = 2 ^ 8 - 1 := by omega
    rw [if_neg hk, if_neg h0, if_neg h0, if_neg h255]
    refine congrArg _ ?_
    have h2' : (2 : ℝ) ≠ 0 := by norm_num
    have e : (((2 : ℕ) ^ 23 + 0 : ℕ) : ℝ) = (2 : ℝ) ^ (23 : ℤ) := by norm_num
    rw [if_neg (by simp), one_mul, e, ← zpow_add₀ h2']
    refine congrArg _ ?_
    norm_num
    try ring

theorem pw_ofNat (k : ℕ) (h : k < 256) : pw (BitVec.ofNat 32 k) = pwN k := by
  obtain ⟨h1, h2, h3⟩ := fields ⟨k, h⟩
  exact ieee_pow _ k h1 h2 h3

/-- The power of two of an integer exponent, as f32 holds it, by the exponential. -/
def ePow (d : BitVec 32) : EReal :=
  Scalar.select (IntOp.cmpi .slt d 4294967170#32) (Ideal.ofBits .f32 0x00000000#32)
    (Scalar.select (IntOp.cmpi .sgt d 127#32) (Ideal.ofBits .f32 0x7F800000#32)
      (FloatOps.exp2 (F := Ideal) (φ := .f32) (FloatOps.sitofp (F := Ideal) .f32 d)))

theorem zero_bits : Ideal.ofBits .f32 0x00000000#32 = 0 := by simp [Ideal.ofBits, Ideal.ieee]
theorem inf_bits : Ideal.ofBits .f32 0x7F800000#32 = ⊤ := by simp [Ideal.ofBits, Ideal.ieee]
theorem ninf_bits : Ideal.ofBits .f32 0xFF800000#32 = ⊥ := by simp [Ideal.ofBits, Ideal.ieee]
theorem ninf_bits16 : Ideal.ofBits .bf16 0xFF80#16 = ⊥ := by simp [Ideal.ofBits, Ideal.ieee]

theorem expo_ints : ∀ k : Fin 256, (BitVec.ofNat 32 k.val - 127#32).toInt = (k.val : ℤ) - 127
    ∧ (IntOp.cmpi .slt (BitVec.ofNat 32 k.val - 127#32) 4294967170#32 = if k.val = 0 then 1#1 else 0#1)
    ∧ (IntOp.cmpi .sgt (BitVec.ofNat 32 k.val - 127#32) 127#32 = if k.val = 255 then 1#1 else 0#1) := by decide +kernel

theorem ePow_ofNat (k : ℕ) (h : k < 256) : ePow (BitVec.ofNat 32 k - 127#32) = pwN k := by
  obtain ⟨h1, h2, h3⟩ := expo_ints ⟨k, h⟩
  dsimp only at h1 h2 h3
  unfold ePow pwN
  rw [h2, h3, zero_bits, inf_bits]
  by_cases h0 : k = 0
  · subst h0; rfl
  by_cases h255 : k = 255
  · subst h255; rfl
  · rw [if_neg h0, if_neg h255, if_neg h0, if_neg h255]
    show Ideal.exp2 ((((BitVec.ofNat 32 k - 127#32).toInt : ℤ) : ℝ) : EReal) = _
    rw [h1]
    show ((Real.rpow 2 (((k : ℤ) - 127 : ℤ) : ℝ) : ℝ) : EReal) = _
    congr 1
    exact Real.rpow_intCast 2 _

/-! ## The exponent, by a search over the field -/

/-- One step of the search: the field grows by `s` where its power of two stays at most `x`. -/
def pick (x : EReal) (f s : BitVec 32) : BitVec 32 :=
  Scalar.select (FloatOps.cmpf (F := Ideal) (φ := .f32) .ole (pw (IntOp.addi f s)) x) (IntOp.addi f s) f

theorem pick_eq (x : EReal) (f s : BitVec 32) : pick x f s = if pw (f + s) ≤ x then f + s else f := by
  unfold pick
  show (if BitVec.ofBool (decide (pw (f + s) ≤ x)) = 1#1 then f + s else f) = _
  by_cases h : pw (f + s) ≤ x <;> simp [h]

theorem pick_spec (x : EReal) (f s : ℕ) (hs : 0 < s) (hf : f + 2 * s ≤ 256) (lo : pwN f ≤ x)
    (hi : f + 2 * s < 256 → x < pwN (f + 2 * s)) :
    ∃ f', pick x (BitVec.ofNat 32 f) (BitVec.ofNat 32 s) = BitVec.ofNat 32 f' ∧ f' + s ≤ 256 ∧ pwN f' ≤ x
      ∧ (f' + s < 256 → x < pwN (f' + s)) := by
  rw [pick_eq, ← BitVec.ofNat_add, pw_ofNat _ (by omega)]
  by_cases h : pwN (f + s) ≤ x
  · refine ⟨f + s, if_pos h, by omega, h, fun h' => ?_⟩
    have := hi (by omega)
    rwa [show f + s + s = f + 2 * s by omega]
  · exact ⟨f, if_neg h, by omega, lo, fun _ => not_le.mp h⟩

/-- The first five steps, -/
def find5 (x : EReal) : BitVec 32 := pick x (pick x (pick x (pick x (pick x 0#32 128#32) 64#32) 32#32) 16#32) 8#32
/-- the exponent from where they end and the next step. -/
def expoFrom (x : EReal) (f s : BitVec 32) : BitVec 32 :=
  Scalar.select (IntOp.ori (IntOp.cmpi .eq (pick x (pick x (pick x f s) 2#32) 1#32) 0#32)
      (IntOp.cmpi .eq (pick x (pick x (pick x f s) 2#32) 1#32) 255#32)) 0#32
    (IntOp.subi (pick x (pick x (pick x f s) 2#32) 1#32) 126#32)
/-- The exponent of `x`: `x` lies in `[2^(e-1), 2^e)`; zero below the normal numbers. -/
def kexp (x : EReal) : BitVec 32 := expoFrom x (find5 x) 4#32

theorem find_spec (x : EReal) (h0 : 0 ≤ x) :
    ∃ f, pick x (pick x (pick x (find5 x) 4#32) 2#32) 1#32 = BitVec.ofNat 32 f ∧ f < 256 ∧ pwN f ≤ x
      ∧ (f + 1 < 256 → x < pwN (f + 1)) := by
  obtain ⟨f1, e1, a1, l1, u1⟩ := pick_spec x 0 128 (by norm_num) (by norm_num) (by simpa [pwN] using h0) (by omega)
  obtain ⟨f2, e2, a2, l2, u2⟩ := pick_spec x f1 64 (by norm_num) (by omega) l1 u1
  obtain ⟨f3, e3, a3, l3, u3⟩ := pick_spec x f2 32 (by norm_num) (by omega) l2 u2
  obtain ⟨f4, e4, a4, l4, u4⟩ := pick_spec x f3 16 (by norm_num) (by omega) l3 u3
  obtain ⟨f5, e5, a5, l5, u5⟩ := pick_spec x f4 8 (by norm_num) (by omega) l4 u4
  obtain ⟨f6, e6, a6, l6, u6⟩ := pick_spec x f5 4 (by norm_num) (by omega) l5 u5
  obtain ⟨f7, e7, a7, l7, u7⟩ := pick_spec x f6 2 (by norm_num) (by omega) l6 u6
  obtain ⟨f8, e8, a8, l8, u8⟩ := pick_spec x f7 1 (by norm_num) (by omega) l7 u7
  refine ⟨f8, ?_, by omega, l8, u8⟩
  unfold find5
  rw [show (0#32) = BitVec.ofNat 32 0 from rfl, show (128#32) = BitVec.ofNat 32 128 from rfl, e1, e2, e3, e4, e5, e6, e7, e8]

theorem pwN_pos (k : ℕ) (h : 0 < k) (h' : k < 255) : pwN k = (((2 : ℝ) ^ ((k : ℤ) - 127) : ℝ) : EReal) := by
  unfold pwN; rw [if_neg (by omega), if_neg (by omega)]

theorem pwN_mono {a b : ℕ} (ha : 0 < a) (hab : a ≤ b) (hb : b < 256) : pwN a ≤ pwN b := by
  by_cases h : b = 255
  · subst h; simp [pwN]
  · rw [pwN_pos a ha (by omega), pwN_pos b (by omega) (by omega), EReal.coe_le_coe_iff]
    exact zpow_le_zpow_right₀ (by norm_num) (by omega)

theorem field_ints : ∀ k : Fin 247, Scalar.select (IntOp.ori (IntOp.cmpi .eq (BitVec.ofNat 32 k.val) 0#32)
      (IntOp.cmpi .eq (BitVec.ofNat 32 k.val) 255#32)) 0#32 (IntOp.subi (BitVec.ofNat 32 k.val) 126#32)
    = if k.val = 0 then 0#32 else BitVec.ofNat 32 k.val - 126#32 := by decide +kernel

/-- What the search finds. -/
theorem kexp_spec (x : EReal) (h0 : 0 ≤ x) (h1 : x < pwN 247) :
    (x < pwN 1 ∧ kexp x = 0#32)
    ∨ ∃ k : ℕ, 0 < k ∧ k < 247 ∧ pwN k ≤ x ∧ x < pwN (k + 1) ∧ kexp x = BitVec.ofNat 32 k - 126#32 := by
  obtain ⟨f, e, hf, lo, hi⟩ := find_spec x h0
  have hlt : f < 247 := by
    by_contra hc
    exact absurd (lt_of_le_of_lt ((pwN_mono (by norm_num) (by omega) hf).trans lo) h1) (lt_irrefl _)
  have hk : kexp x = if f = 0 then 0#32 else BitVec.ofNat 32 f - 126#32 := by
    unfold kexp expoFrom; rw [e]; exact field_ints ⟨f, hlt⟩
  by_cases hz : f = 0
  · subst hz; exact .inl ⟨hi (by norm_num), by rw [hk]; rfl⟩
  · exact .inr ⟨f, by omega, hlt, lo, hi (by omega), by rw [hk, if_neg hz]⟩

/-! ## The exponent, by a logarithm -/

/-- The exponent by the floor of the base-two logarithm. -/
def lexp (x : EReal) : BitVec 32 :=
  Scalar.select (FloatOps.cmpf (F := Ideal) (φ := .f32) .olt x (Ideal.ofBits .f32 0x00800000#32)) 0#32
    (IntOp.addi (FloatOps.fptosi (F := Ideal) (φ := .f32) 32 (FloatOps.floor (F := Ideal) (φ := .f32)
      (FloatOps.divf (F := Ideal) (φ := .f32) (FloatOps.log (F := Ideal) (φ := .f32) x)
        (FloatOps.log (F := Ideal) (φ := .f32) (Ideal.ofBits .f32 0x40000000#32))))) 1#32)

theorem least_bits : Ideal.ofBits .f32 0x00800000#32 = pwN 1 := pw_ofNat 1 (by norm_num)
theorem two_bits : Ideal.ofBits .f32 0x40000000#32 = ((2 : ℝ) : EReal) := by
  refine (pw_ofNat 128 (by norm_num)).trans ?_
  rw [pwN_pos _ (by norm_num) (by norm_num)]; norm_num

theorem lexp_eq (x : EReal) : lexp x = if x < pwN 1 then 0#32
    else Ideal.fptosi 32 (Ideal.liftRound Int.floor (Ideal.div (Ideal.log x) (Ideal.log ((2 : ℝ) : EReal)))) + 1#32 := by
  unfold lexp
  rw [least_bits, two_bits]
  show (if BitVec.ofBool (decide (x < pwN 1)) = 1#1 then _ else _) = _
  by_cases h : x < pwN 1
  · rw [if_pos h, if_pos (by simp [h])]
  · rw [if_neg h, if_neg (by simp [h])]; rfl

theorem int_ints : ∀ k : Fin 247, BitVec.ofInt 32 ((k.val : ℤ) - 127) + 1#32 = BitVec.ofNat 32 k.val - 126#32 := by
  decide +kernel

theorem floor_log (r : ℝ) (k : ℤ) (h1 : (2 : ℝ) ^ k ≤ r) (h2 : r < (2 : ℝ) ^ (k + 1)) :
    ⌊Real.log r * (Real.log 2)⁻¹⌋ = k := by
  have hr : 0 < r := lt_of_lt_of_le (by positivity) h1
  have hl : 0 < Real.log 2 := Real.log_pos (by norm_num)
  rw [Int.floor_eq_iff, ← div_eq_mul_inv, le_div_iff₀ hl, div_lt_iff₀ hl]
  constructor
  · rw [← Real.log_zpow]; exact Real.log_le_log (by positivity) h1
  · have := Real.log_lt_log hr h2
    rw [Real.log_zpow] at this; push_cast at this; exact this

/-- The two exponents are one on every block of bf16 numbers. -/
theorem lexp_eq_kexp (x : EReal) (h0 : 0 ≤ x) (h1 : x < pwN 247) : lexp x = kexp x := by
  rw [lexp_eq]
  rcases kexp_spec x h0 h1 with ⟨hx, hk⟩ | ⟨k, hk0, hk1, lo, hi, hk⟩
  · rw [if_pos hx, hk]
  · rw [if_neg (not_lt.mpr ((pwN_mono (by norm_num) hk0 (by omega)).trans lo)), hk]
    rw [pwN_pos k hk0 (by omega)] at lo
    rw [pwN_pos (k + 1) (by omega) (by omega)] at hi
    induction x with
    | bot => exact absurd (le_bot_iff.mp lo) (EReal.coe_ne_bot _)
    | top => exact absurd hi (by simp)
    | coe r =>
      rw [EReal.coe_le_coe_iff] at lo
      rw [EReal.coe_lt_coe_iff] at hi
      have hr : 0 < r := lt_of_lt_of_le (by positivity) lo
      have hl : 0 < Real.log 2 := Real.log_pos (by norm_num)
      have hf := floor_log r ((k : ℤ) - 127) lo (by rw [show (k : ℤ) - 127 + 1 = ((k + 1 : ℕ) : ℤ) - 127 by push_cast; ring]; exact hi)
      have e1 : Ideal.log (r : EReal) = ((Real.log r : ℝ) : EReal) := by
        show (if r ≤ 0 then (⊥ : EReal) else _) = _; rw [if_neg (not_le.mpr hr)]
      have e2 : Ideal.log ((2 : ℝ) : EReal) = ((Real.log 2 : ℝ) : EReal) := by
        show (if (2 : ℝ) ≤ 0 then (⊥ : EReal) else _) = _; rw [if_neg (by norm_num)]
      have e3 : Ideal.div ((Real.log r : ℝ) : EReal) ((Real.log 2 : ℝ) : EReal) = ((Real.log r * (Real.log 2)⁻¹ : ℝ) : EReal) := by
        unfold Ideal.div
        rw [if_neg (by rw [EReal.coe_eq_zero]; exact hl.ne'), ← EReal.coe_inv, ← EReal.coe_mul]
      rw [e1, e2, e3]
      show Ideal.fptosi 32 (((⌊Real.log r * (Real.log 2)⁻¹⌋ : ℤ) : ℝ) : EReal) + 1#32 = _
      rw [hf]
      have e4 : Ideal.fptosi 32 ((((k : ℤ) - 127 : ℤ) : ℝ) : EReal) = BitVec.ofInt 32 ((k : ℤ) - 127) := by
        show BitVec.ofInt 32 (max _ (min _ (if 0 ≤ (((k : ℤ) - 127 : ℤ) : ℝ) then ⌊(((k : ℤ) - 127 : ℤ) : ℝ)⌋ else ⌈(((k : ℤ) - 127 : ℤ) : ℝ)⌉))) = _
        rw [Int.floor_intCast, Int.ceil_intCast, ite_self]
        refine congrArg _ ?_
        norm_num
        omega
      rw [e4]; exact int_ints ⟨k, hk1⟩

/-! ## One entry, both ways

    `x` is its block's greatest magnitude over 448 and `v` the entry. -/

/-- The code, the value it stands for and the block's scale, with powers of two built from their fields. -/
def kcode (x v : EReal) : EReal :=
  min (Ideal.ofBits .f32 0x43E00000#32) (max (Ideal.ofBits .f32 0xC3E00000#32)
    (v * pw (IntOp.addi (IntOp.subi 0#32 (kexp x)) 127#32)))
def kdeq (x v : EReal) : EReal := kcode x v * pw (IntOp.addi (kexp x) 127#32)
def kscale (x : EReal) : BitVec 8 := BitVec.setWidth 8 (IntOp.addi (kexp x) 127#32)
/-- The value of code `v` under scale `s`. -/
def kval (s : BitVec 8) (v : EReal) : EReal := v * pw (BitVec.setWidth 32 s)

/-- The same by logarithm and exponential. -/
def rcode (x v : EReal) : EReal :=
  min (Ideal.ofBits .f32 0x43E00000#32) (max (Ideal.ofBits .f32 0xC3E00000#32) (v * ePow (IntOp.subi 0#32 (lexp x))))
def rscale (x : EReal) : BitVec 8 := BitVec.setWidth 8 (IntOp.addi (lexp x) 127#32)
def rval (s : BitVec 8) (v : EReal) : EReal := v * ePow (IntOp.subi (BitVec.setWidth 32 s) 127#32)

theorem kexp_form (x : EReal) (h0 : 0 ≤ x) (h1 : x < pwN 247) :
    ∃ k : ℕ, 0 < k ∧ k < 248 ∧ kexp x = BitVec.ofNat 32 k - 126#32 := by
  rcases kexp_spec x h0 h1 with ⟨_, h⟩ | ⟨k, a, b, _, _, h⟩
  · exact ⟨126, by norm_num, by norm_num, h⟩
  · exact ⟨k, a, by omega, h⟩

theorem scale_ints : ∀ k : Fin 248, 0 < k.val →
    IntOp.addi (IntOp.subi 0#32 (BitVec.ofNat 32 k.val - 126#32)) 127#32 = BitVec.ofNat 32 (253 - k.val)
    ∧ IntOp.subi 0#32 (BitVec.ofNat 32 k.val - 126#32) = BitVec.ofNat 32 (253 - k.val) - 127#32
    ∧ IntOp.addi (BitVec.ofNat 32 k.val - 126#32) 127#32 = BitVec.ofNat 32 (k.val + 1)
    ∧ BitVec.setWidth 32 (BitVec.setWidth 8 (IntOp.addi (BitVec.ofNat 32 k.val - 126#32) 127#32)) = BitVec.ofNat 32 (k.val + 1) := by
  decide +kernel

theorem rval_eq (s : BitVec 8) (v : EReal) : rval s v = kval s v := by
  have h : BitVec.setWidth 32 s = BitVec.ofNat 32 s.toNat := by
    apply BitVec.eq_of_toNat_eq; simp
  unfold rval kval
  rw [h, pw_ofNat _ s.isLt]
  exact congrArg _ (ePow_ofNat _ s.isLt)

variable (x v : EReal) (h0 : 0 ≤ x) (h1 : x < pwN 247)
include h0 h1

theorem rcode_eq : rcode x v = kcode x v := by
  obtain ⟨k, a, b, e⟩ := kexp_form x h0 h1
  obtain ⟨i1, i2, _, _⟩ := scale_ints ⟨k, b⟩ a
  dsimp only at i1 i2
  unfold rcode kcode
  rw [lexp_eq_kexp x h0 h1, e, i1, i2, pw_ofNat _ (by omega), ePow_ofNat _ (by omega)]
theorem rscale_eq : rscale x = kscale x := by unfold rscale kscale; rw [lexp_eq_kexp x h0 h1]
theorem rdeq_eq : rval (rscale x) (rcode x v) = kdeq x v := by
  rw [rval_eq, rcode_eq x v h0 h1, rscale_eq x h0 h1]
  obtain ⟨k, a, b, e⟩ := kexp_form x h0 h1
  obtain ⟨_, _, i3, i4⟩ := scale_ints ⟨k, b⟩ a
  dsimp only at i3 i4
  unfold kval kdeq kscale
  rw [e, i4, i3]

omit h0 h1

/-! ## A block's greatest magnitude -/

/-- The greatest magnitude of the `32` entries, over 448. -/
def peak (f : Fin 32 → EReal) : EReal :=
  Finset.univ.fold max ⊥ (fun k => max (f k) (-(f k))) * Ideal.ofBits .f32 0x3B124925#32

theorem recip_bits : Ideal.ofBits .f32 0x3B124925#32 = ((9586981 * (2 : ℝ) ^ (-32 : ℤ) : ℝ) : EReal) := by
  simp [Ideal.ofBits, Ideal.ieee, -EReal.coe_mul]

theorem peak_bounds (f : Fin 32 → EReal) (B : ℝ) (hB : B ≤ (2 : ℝ) ^ (128 : ℕ)) (hf : ∀ k, max (f k) (-(f k)) ≤ (B : EReal)) :
    0 ≤ peak f ∧ peak f < pwN 247 := by
  have hpos : ∀ z : EReal, 0 ≤ max z (-z) := fun z => by
    rcases le_total 0 z with h | h
    · exact le_max_of_le_left h
    · exact le_max_of_le_right (by simpa using EReal.neg_le_neg_iff.mpr h)
  have h0 : 0 ≤ Finset.univ.fold max ⊥ (fun k => max (f k) (-(f k))) :=
    (Finset.le_fold_max _).mpr (.inr ⟨0, Finset.mem_univ _, hpos _⟩)
  have h1 : Finset.univ.fold max ⊥ (fun k => max (f k) (-(f k))) ≤ (B : EReal) :=
    (Finset.fold_max_le _).mpr ⟨bot_le, fun k _ => hf k⟩
  unfold peak
  rw [recip_bits]
  generalize Finset.univ.fold max ⊥ (fun k => max (f k) (-(f k))) = a at h0 h1
  induction a with
  | bot => exact absurd h0 (by simp)
  | top => exact absurd h1 (by simp)
  | coe r =>
    rw [EReal.coe_le_coe_iff] at h1
    have h0' : 0 ≤ r := by exact_mod_cast h0
    rw [← EReal.coe_mul, pwN_pos _ (by norm_num) (by norm_num)]
    constructor
    · exact_mod_cast (by positivity : 0 ≤ r * (9586981 * (2 : ℝ) ^ (-32 : ℤ)))
    · rw [EReal.coe_lt_coe_iff]
      calc r * (9586981 * (2 : ℝ) ^ (-32 : ℤ)) ≤ 2 ^ (128 : ℕ) * (9586981 * (2 : ℝ) ^ (-32 : ℤ)) :=
            mul_le_mul_of_nonneg_right (h1.trans hB) (by positivity)
        _ < _ := by norm_num

end Cert.Mx
end
-- ==== Proof.DgradIdealValue.lean ====
/- What one grid step of the input-gradient kernel computes, read entry by entry over the extended reals: the codes and
   exponents of its gradient block, and the product the step adds to the accumulator. -/
module

public import proofs.«01_k».proof.Proof.DgradIdealBody
public import proofs.«01_k».proof.Proof.MxScalar
public import Idealize.ShloMosaic.Lib.Pointwise
public import Idealize.ShloMosaic.PureOps.Ideal.Laws

@[expose] public section

set_option maxRecDepth 16384

noncomputable section

namespace Cert.DgradIdeal.Run

open Cert.DgradIdeal Cert.DgradIdeal.Gen Cert.Mx
open Idealize.ShloMosaic

/-- A maximum down the middle axis, as a fold over that axis. -/
theorem max_at {n0 n1 n2 : ℕ} {φ : FTy} {t : Shape} (src : FVec Ideal ⟨3, ![n0, n1, n2]⟩ φ) (acc : BitVec φ.bits)
    (h : (⟨3, ![n0, n1, n2]⟩ : Shape).Reduces [1] t) (hφ) (ha) (j : t.Idx) :
    multiReduction (F := Ideal) .maximumf [1] t src acc h hφ ha j
      = (Finset.univ : Finset (Fin n1)).fold max (Ideal.ofBits φ acc) (fun k => src (ix3 ⟨(j ⟨0, h.lt_r3_a1_0⟩).val, Shape.coordLt (j ⟨0, h.lt_r3_a1_0⟩) h.size_r3_a1_0⟩ k ⟨(j ⟨1, h.lt_r3_a1_1⟩).val, Shape.coordLt (j ⟨1, h.lt_r3_a1_1⟩) h.size_r3_a1_1⟩)) :=
  (multiReduction_maximumf_eq_fold ..).trans (h.fold_fiber_r3_a1 ..)

/-! ## A full block -/

section
variable (v : Vec Ideal S1024x1024 .bf16)

/-- The gradient's magnitudes in groups of 32 columns; the block's magnitude, its exponent, the inverse scale; -/
def mags : FVec Ideal S32x32x1024 .bf16 :=
  shapeCast S32x32x1024 (transpose S1024x1024 [1, 0] (absf (F := Ideal) v) transposes_S1024x1024_p1_0_S1024x1024) shapeCasts_S1024x1024_S32x32x1024
theorem mags_at (b : Fin 32) (k : Fin 32) (t : Fin 1024) :
    mags v (ix3 b k t) = max (v (ix2 t ⟨b.val * 32 + k.val, by omega⟩)) (-(v (ix2 t ⟨b.val * 32 + k.val, by omega⟩))) := by
  pointwise [mags]
  rfl
theorem peak_of_mags : k0_pay6 (F := Ideal) v
    = mulf (extf .f32 (multiReduction .maximumf [1] S32x1024 (mags v) 0xFF80#16 reduces_S32x32x1024_S32x1024 (.inr rfl) rfl) bitsLt_bf16_f32)
      (broadcast S32x1024 (Scalar.ofBits .f32 0x3B124925#32)) := rfl
theorem max_of (x : FVec Ideal S32x32x1024 .bf16) (hr hφ ha) (b : Fin 32) (t : Fin 1024) :
    multiReduction (F := Ideal) .maximumf [1] S32x1024 x 0xFF80#16 hr hφ ha (ix2 b t)
      = (Finset.univ : Finset (Fin 32)).fold max ⊥ (fun k => x (ix3 b k t)) := by
  rw [max_at, ninf_bits16]
  rfl
theorem scaled_of (p : FVec Ideal S32x1024 .bf16) (i : S32x1024.Idx) :
    mulf (extf .f32 p bitsLt_bf16_f32) (broadcast S32x1024 (Scalar.ofBits .f32 0x3B124925#32)) i = p i * Ideal.ofBits .f32 0x3B124925#32 := rfl
theorem peak_at (b : Fin 32) (t : Fin 1024) :
    k0_pay6 (F := Ideal) v (ix2 b t) = peak (fun k => v (ix2 t ⟨b.val * 32 + k.val, by omega⟩)) := by
  have h := max_of (mags v) reduces_S32x32x1024_S32x1024 (.inr rfl) rfl b t
  simp only [mags_at] at h
  unfold peak
  rw [← h]
  exact (congrFun (peak_of_mags v) _).trans (scaled_of _ _)
/-- one step of the search, a block's exponents at once, -/
def pickV (x : FVec Ideal S32x1024 .f32) (f s : IVec S32x1024 32) : IVec S32x1024 32 :=
  select (cmpf .ole (bitcastToFloat .f32 (shli (addi f s) (broadcast S32x1024 23#32))) x) (addi f s) f
theorem pickV_at (x : FVec Ideal S32x1024 .f32) (f s : IVec S32x1024 32) (i : S32x1024.Idx) :
    pickV x f s i = pick (x i) (f i) (s i) := (rfl)
theorem search : k0_pay7 (F := Ideal) v = pickV (k0_pay6 v) (pickV (k0_pay6 v) (pickV (k0_pay6 v) (pickV (k0_pay6 v)
    (pickV (k0_pay6 v) (broadcast _ 0#32) (broadcast _ 128#32)) (broadcast _ 64#32)) (broadcast _ 32#32)) (broadcast _ 16#32))
    (broadcast _ 8#32) := by
  unfold k0_pay7
  generalize k0_pay6 (F := Ideal) v = x
  rfl
theorem search_at (i : S32x1024.Idx) : k0_pay7 (F := Ideal) v i = find5 (k0_pay6 (F := Ideal) v i) := by
  rw [search]
  generalize k0_pay6 (F := Ideal) v = x
  rw [pickV_at, pickV_at, pickV_at, pickV_at, pickV_at]
  rfl
theorem field_at (x : FVec Ideal S32x1024 .f32) (f : IVec S32x1024 32) (s : BitVec 32) (i : S32x1024.Idx) :
    k0_pay8 (F := Ideal) x f s i = expoFrom (x i) (f i) s := rfl
theorem expo_at (b : Fin 32) (t : Fin 1024) :
    expo (F := Ideal) v (ix2 b t) = kexp (peak (fun k => v (ix2 t ⟨b.val * 32 + k.val, by omega⟩))) := by
  unfold expo
  rw [field_at, search_at, peak_at]
  rfl
theorem kept_of_expo (x : FVec Ideal S32x1024 .f32) (f : IVec S32x1024 32) (s : BitVec 32) (a : Fin 1) (b : Fin 32) (t : Fin 1024) :
    k0_pay9 (F := Ideal) x f s (ix3 a b t) = k0_pay8 (F := Ideal) x f s (ix2 b t) := by
  unfold k0_pay9
  generalize k0_pay8 (F := Ideal) x f s = e
  pointwise
theorem kept_at (a : Fin 1) (b : Fin 32) (t : Fin 1024) :
    kept (F := Ideal) v (ix3 a b t) = kexp (peak (fun k => v (ix2 t ⟨b.val * 32 + k.val, by omega⟩))) := by
  unfold kept
  rw [kept_of_expo, ← expo_at]
  rfl
theorem inv_of_expo (x : FVec Ideal S32x1024 .f32) (f : IVec S32x1024 32) (s : BitVec 32) (b : Fin 32) (k : Fin 32) (t : Fin 1024) :
    k0_pay10 (F := Ideal) x f s (ix3 b k t) = pw (IntOp.addi (IntOp.subi 0#32 (k0_pay8 (F := Ideal) x f s (ix2 b t))) 127#32) := by
  unfold k0_pay10
  generalize k0_pay8 (F := Ideal) x f s = e
  pointwise
  rfl
theorem inv_at (b : Fin 32) (k : Fin 32) (t : Fin 1024) :
    inv (F := Ideal) v (ix3 b k t)
      = pw (IntOp.addi (IntOp.subi 0#32 (kexp (peak (fun k => v (ix2 t ⟨b.val * 32 + k.val, by omega⟩))))) 127#32) := by
  unfold inv
  rw [inv_of_expo, ← expo_at]
  rfl
/-- the codes, the values they stand for. -/
theorem code_at (i : FVec Ideal S32x32x1024 .bf16) (r : Fin 1024) (c : Fin 1024) :
    k0_pay11 (F := Ideal) v i (ix2 r c) = min (Ideal.ofBits .f32 0x43E00000#32) (max (Ideal.ofBits .f32 0xC3E00000#32)
      (v (ix2 r c) * i (ix3 ⟨c.val / 32, by omega⟩ ⟨c.val % 32, by omega⟩ r))) := by
  pointwise [k0_pay11]
theorem codes_at (r : Fin 1024) (c : Fin 1024) :
    codes (F := Ideal) v (ix2 r c)
      = kcode (peak (fun k => v (ix2 r ⟨c.val / 32 * 32 + k.val, by omega⟩))) (v (ix2 r c)) := by
  unfold codes
  rw [code_at, inv_at]
  rfl
theorem value_at (e : IVec S32x1024 32) (i : FVec Ideal S32x32x1024 .bf16) (r : Fin 1024) (c : Fin 1024) :
    k0_pay12 (F := Ideal) v e i (ix2 r c)
      = k0_pay11 (F := Ideal) v i (ix2 r c) * pw (IntOp.addi (e (ix2 ⟨c.val / 32, by omega⟩ r)) 127#32) := by
  unfold k0_pay12
  generalize k0_pay11 (F := Ideal) v i = d
  pointwise
  rfl
theorem deq_at (r : Fin 1024) (c : Fin 1024) :
    deq (F := Ideal) v (ix2 r c)
      = kdeq (peak (fun k => v (ix2 r ⟨c.val / 32 * 32 + k.val, by omega⟩))) (v (ix2 r c)) := by
  have h := codes_at v r c
  unfold codes at h
  unfold deq
  rw [value_at, expo_at, h]
  rfl

/-- One strip's product. -/
def dot (d : Vec Ideal S1024x1024 .bf16) (x : Vec Ideal S1024x1024 .fp8e4m3) (s : Vec Ideal S32x1024 .i8) (r : Fin 1024) (c : Fin 1024) : EReal :=
  ∑ k : Fin 1024, d (ix2 r k) * kval (s (ix2 ⟨k.val / 32, by omega⟩ c)) (x (ix2 k c))

variable (d : Vec Ideal S1024x1024 .bf16) (x : Vec Ideal S1024x1024 .fp8e4m3) (s : Vec Ideal S32x1024 .i8) (o : Vec Ideal S1024x1024 .f32)
  (r : Fin 1024) (c : Fin 1024)

theorem dot0_at (e : IVec S32x1024 32) (i : FVec Ideal S32x32x1024 .bf16) :
    k0_pay13 (F := Ideal) v e i x s o (ix2 r c) = o (ix2 r c) + dot (k0_pay12 (F := Ideal) v e i) x s r c := by
  unfold k0_pay13
  generalize k0_pay12 (F := Ideal) v e i = d
  pointwise
  rfl
theorem dot1_at : k0_pay14 (F := Ideal) d x s o (ix2 r c) = o (ix2 r c) + dot d x s r c := by
  pointwise [k0_pay14]
  rfl
theorem dot2_at : k0_pay15 (F := Ideal) d x s o (ix2 r c) = o (ix2 r c) + dot d x s r c := by
  pointwise [k0_pay15]
  rfl
theorem dot3_at : k0_pay2 (F := Ideal) d x s o (ix2 r c) = o (ix2 r c) + dot d x s r c := by
  pointwise [k0_pay2]
  rfl
end

/-! ## The last block, 768 columns wide -/

section
variable (v : Vec Ideal S1024x768 .bf16)

/-- The gradient's magnitudes in groups of 32 columns; the block's magnitude, its exponent, the inverse scale; -/
def magsL : FVec Ideal S24x32x1024 .bf16 :=
  shapeCast S24x32x1024 (transpose S768x1024 [1, 0] (absf (F := Ideal) v) transposes_S1024x768_p1_0_S768x1024) shapeCasts_S768x1024_S24x32x1024
theorem magsL_at (b : Fin 24) (k : Fin 32) (t : Fin 1024) :
    magsL v (ix3 b k t) = max (v (ix2 t ⟨b.val * 32 + k.val, by omega⟩)) (-(v (ix2 t ⟨b.val * 32 + k.val, by omega⟩))) := by
  pointwise [magsL]
  rfl
theorem peak_of_magsL : k0_pay16 (F := Ideal) v
    = mulf (extf .f32 (multiReduction .maximumf [1] S24x1024 (magsL v) 0xFF80#16 reduces_S24x32x1024_S24x1024 (.inr rfl) rfl) bitsLt_bf16_f32)
      (broadcast S24x1024 (Scalar.ofBits .f32 0x3B124925#32)) := rfl
theorem max_ofL (x : FVec Ideal S24x32x1024 .bf16) (hr hφ ha) (b : Fin 24) (t : Fin 1024) :
    multiReduction (F := Ideal) .maximumf [1] S24x1024 x 0xFF80#16 hr hφ ha (ix2 b t)
      = (Finset.univ : Finset (Fin 32)).fold max ⊥ (fun k => x (ix3 b k t)) := by
  rw [max_at, ninf_bits16]
  rfl
theorem scaled_ofL (p : FVec Ideal S24x1024 .bf16) (i : S24x1024.Idx) :
    mulf (extf .f32 p bitsLt_bf16_f32) (broadcast S24x1024 (Scalar.ofBits .f32 0x3B124925#32)) i = p i * Ideal.ofBits .f32 0x3B124925#32 := rfl
theorem peakL_at (b : Fin 24) (t : Fin 1024) :
    k0_pay16 (F := Ideal) v (ix2 b t) = peak (fun k => v (ix2 t ⟨b.val * 32 + k.val, by omega⟩)) := by
  have h := max_ofL (magsL v) reduces_S24x32x1024_S24x1024 (.inr rfl) rfl b t
  simp only [magsL_at] at h
  unfold peak
  rw [← h]
  exact (congrFun (peak_of_magsL v) _).trans (scaled_ofL _ _)
/-- one step of the search, a block's exponents at once, -/
def pickVL (x : FVec Ideal S24x1024 .f32) (f s : IVec S24x1024 32) : IVec S24x1024 32 :=
  select (cmpf .ole (bitcastToFloat .f32 (shli (addi f s) (broadcast S24x1024 23#32))) x) (addi f s) f
theorem pickVL_at (x : FVec Ideal S24x1024 .f32) (f s : IVec S24x1024 32) (i : S24x1024.Idx) :
    pickVL x f s i = pick (x i) (f i) (s i) := (rfl)
theorem searchL : k0_pay17 (F := Ideal) v = pickVL (k0_pay16 v) (pickVL (k0_pay16 v) (pickVL (k0_pay16 v) (pickVL (k0_pay16 v)
    (pickVL (k0_pay16 v) (broadcast _ 0#32) (broadcast _ 128#32)) (broadcast _ 64#32)) (broadcast _ 32#32)) (broadcast _ 16#32))
    (broadcast _ 8#32) := by
  unfold k0_pay17
  generalize k0_pay16 (F := Ideal) v = x
  rfl
theorem searchL_at (i : S24x1024.Idx) : k0_pay17 (F := Ideal) v i = find5 (k0_pay16 (F := Ideal) v i) := by
  rw [searchL]
  generalize k0_pay16 (F := Ideal) v = x
  rw [pickVL_at, pickVL_at, pickVL_at, pickVL_at, pickVL_at]
  rfl
theorem fieldL_at (x : FVec Ideal S24x1024 .f32) (f : IVec S24x1024 32) (s : BitVec 32) (i : S24x1024.Idx) :
    k0_pay18 (F := Ideal) x f s i = expoFrom (x i) (f i) s := rfl
theorem expoL_at (b : Fin 24) (t : Fin 1024) :
    expoL (F := Ideal) v (ix2 b t) = kexp (peak (fun k => v (ix2 t ⟨b.val * 32 + k.val, by omega⟩))) := by
  unfold expoL
  rw [fieldL_at, searchL_at, peakL_at]
  rfl
theorem kept_of_expoL (x : FVec Ideal S24x1024 .f32) (f : IVec S24x1024 32) (s : BitVec 32) (a : Fin 1) (b : Fin 24) (t : Fin 1024) :
    k0_pay19 (F := Ideal) x f s (ix3 a b t) = k0_pay18 (F := Ideal) x f s (ix2 b t) := by
  unfold k0_pay19
  generalize k0_pay18 (F := Ideal) x f s = e
  pointwise
theorem keptL_at (a : Fin 1) (b : Fin 24) (t : Fin 1024) :
    keptL (F := Ideal) v (ix3 a b t) = kexp (peak (fun k => v (ix2 t ⟨b.val * 32 + k.val, by omega⟩))) := by
  unfold keptL
  rw [kept_of_expoL, ← expoL_at]
  rfl
theorem inv_of_expoL (x : FVec Ideal S24x1024 .f32) (f : IVec S24x1024 32) (s : BitVec 32) (b : Fin 24) (k : Fin 32) (t : Fin 1024) :
    k0_pay20 (F := Ideal) x f s (ix3 b k t) = pw (IntOp.addi (IntOp.subi 0#32 (k0_pay18 (F := Ideal) x f s (ix2 b t))) 127#32) := by
  unfold k0_pay20
  generalize k0_pay18 (F := Ideal) x f s = e
  pointwise
  rfl
theorem invL_at (b : Fin 24) (k : Fin 32) (t : Fin 1024) :
    invL (F := Ideal) v (ix3 b k t)
      = pw (IntOp.addi (IntOp.subi 0#32 (kexp (peak (fun k => v (ix2 t ⟨b.val * 32 + k.val, by omega⟩))))) 127#32) := by
  unfold invL
  rw [inv_of_expoL, ← expoL_at]
  rfl
/-- the codes, the values they stand for. -/
theorem codeL_at (i : FVec Ideal S24x32x1024 .bf16) (r : Fin 1024) (c : Fin 768) :
    k0_pay21 (F := Ideal) v i (ix2 r c) = min (Ideal.ofBits .f32 0x43E00000#32) (max (Ideal.ofBits .f32 0xC3E00000#32)
      (v (ix2 r c) * i (ix3 ⟨c.val / 32, by omega⟩ ⟨c.val % 32, by omega⟩ r))) := by
  pointwise [k0_pay21]
theorem codesL_at (r : Fin 1024) (c : Fin 768) :
    codesL (F := Ideal) v (ix2 r c)
      = kcode (peak (fun k => v (ix2 r ⟨c.val / 32 * 32 + k.val, by omega⟩))) (v (ix2 r c)) := by
  unfold codesL
  rw [codeL_at, invL_at]
  rfl
theorem valueL_at (e : IVec S24x1024 32) (i : FVec Ideal S24x32x1024 .bf16) (r : Fin 1024) (c : Fin 768) :
    k0_pay22 (F := Ideal) v e i (ix2 r c)
      = k0_pay21 (F := Ideal) v i (ix2 r c) * pw (IntOp.addi (e (ix2 ⟨c.val / 32, by omega⟩ r)) 127#32) := by
  unfold k0_pay22
  generalize k0_pay21 (F := Ideal) v i = d
  pointwise
  rfl
theorem deqL_at (r : Fin 1024) (c : Fin 768) :
    deqL (F := Ideal) v (ix2 r c)
      = kdeq (peak (fun k => v (ix2 r ⟨c.val / 32 * 32 + k.val, by omega⟩))) (v (ix2 r c)) := by
  have h := codesL_at v r c
  unfold codesL at h
  unfold deqL
  rw [valueL_at, expoL_at, h]
  rfl

/-- One strip's product. -/
def dotL (d : Vec Ideal S1024x768 .bf16) (x : Vec Ideal S768x1024 .fp8e4m3) (s : Vec Ideal S24x1024 .i8) (r : Fin 1024) (c : Fin 1024) : EReal :=
  ∑ k : Fin 768, d (ix2 r k) * kval (s (ix2 ⟨k.val / 32, by omega⟩ c)) (x (ix2 k c))

variable (d : Vec Ideal S1024x768 .bf16) (x : Vec Ideal S768x1024 .fp8e4m3) (s : Vec Ideal S24x1024 .i8) (o : Vec Ideal S1024x1024 .f32)
  (r : Fin 1024) (c : Fin 1024)

theorem dot0L_at (e : IVec S24x1024 32) (i : FVec Ideal S24x32x1024 .bf16) :
    k0_pay23 (F := Ideal) v e i x s o (ix2 r c) = o (ix2 r c) + dotL (k0_pay22 (F := Ideal) v e i) x s r c := by
  unfold k0_pay23
  generalize k0_pay22 (F := Ideal) v e i = d
  pointwise
  rfl
theorem dot1L_at : k0_pay24 (F := Ideal) d x s o (ix2 r c) = o (ix2 r c) + dotL d x s r c := by
  pointwise [k0_pay24]
  rfl
theorem dot2L_at : k0_pay25 (F := Ideal) d x s o (ix2 r c) = o (ix2 r c) + dotL d x s r c := by
  pointwise [k0_pay25]
  rfl
theorem dot3L_at : k0_pay3 (F := Ideal) d x s o (ix2 r c) = o (ix2 r c) + dotL d x s r c := by
  pointwise [k0_pay3]
  rfl
end

end Cert.DgradIdeal.Run
end
-- ==== Proof.MxArray.lean ====
/- Arrays read at natural-number positions, and the arrays of the weight gradient: its codes, its scales and the product,
   as functions of the argument arrays, with the quantiser of `MxScalar`. -/
module

public import proofs.«01_k».proof.Proof.MxScalar

@[expose] public section

set_option maxRecDepth 16384

noncomputable section

namespace Cert.Mx

open Idealize.ShloMosaic

/-- An array at a position, taken modulo its sizes. -/
def at2 {a b : ℕ} [NeZero a] [NeZero b] {α : Type} (A : (⟨2, ![a, b]⟩ : Shape).Idx → α) (p q : ℕ) : α :=
  A (ix2 (Fin.ofNat a p) (Fin.ofNat b q))
def at3 {a b c : ℕ} [NeZero a] [NeZero b] [NeZero c] {α : Type} (A : (⟨3, ![a, b, c]⟩ : Shape).Idx → α) (p q r : ℕ) : α :=
  A (ix3 (Fin.ofNat a p) (Fin.ofNat b q) (Fin.ofNat c r))

theorem ofNat_fin {a : ℕ} [NeZero a] (p : Fin a) : Fin.ofNat a p.val = p := Fin.ext (Nat.mod_eq_of_lt p.isLt)
theorem at2_fin {a b : ℕ} [NeZero a] [NeZero b] {α : Type} (A : (⟨2, ![a, b]⟩ : Shape).Idx → α) (p : Fin a) (q : Fin b) :
    A (ix2 p q) = at2 A p.val q.val := by
  unfold at2; rw [ofNat_fin, ofNat_fin]
theorem at3_fin {a b c : ℕ} [NeZero a] [NeZero b] [NeZero c] {α : Type} (A : (⟨3, ![a, b, c]⟩ : Shape).Idx → α)
    (p : Fin a) (q : Fin b) (r : Fin c) : A (ix3 p q r) = at3 A p.val q.val r.val := by
  unfold at3; rw [ofNat_fin, ofNat_fin, ofNat_fin]
/-- An array at an index whose coordinates are those of a position in range. -/
theorem at2_of {a b : ℕ} [NeZero a] [NeZero b] {α : Type} (A : (⟨2, ![a, b]⟩ : Shape).Idx → α) (i : (⟨2, ![a, b]⟩ : Shape).Idx)
    (p q : ℕ) (hp : (i 0).val = p) (hq : (i 1).val = q) : A i = at2 A p q := by
  subst hp; subst hq
  rw [← at2_fin (a := a) (b := b) A (i 0) (i 1)]
  exact congrArg A (eq_ix2 i)
theorem at3_of {a b c : ℕ} [NeZero a] [NeZero b] [NeZero c] {α : Type} (A : (⟨3, ![a, b, c]⟩ : Shape).Idx → α)
    (i : (⟨3, ![a, b, c]⟩ : Shape).Idx) (p q r : ℕ) (hp : (i 0).val = p) (hq : (i 1).val = q) (hr : (i 2).val = r) :
    A i = at3 A p q r := by
  subst hp; subst hq; subst hr
  rw [← at3_fin (a := a) (b := b) (c := c) A (i 0) (i 1) (i 2)]
  exact congrArg A (eq_ix3 i)

/-! ## The weight gradient's arrays -/

abbrev Grad : Type := (⟨2, ![16384, 11008]⟩ : Shape).Idx → EReal
abbrev Acts : Type := (⟨2, ![16384, 4096]⟩ : Shape).Idx → EReal
abbrev ActScales : Type := (⟨3, ![32, 16, 4096]⟩ : Shape).Idx → BitVec 8

/-- The magnitude of block `b` of 32 rows in column `n`. -/
def colPeak (A : Grad) (b n : ℕ) : EReal := peak (fun k : Fin 32 => at2 A (b * 32 + k.val) n)
/-- The code and the value at row `t`, column `n`; the scale of block `b`. -/
def colCode (A : Grad) (t n : ℕ) : EReal := kcode (colPeak A (t / 32) n) (at2 A t n)
def colValue (A : Grad) (t n : ℕ) : EReal := kdeq (colPeak A (t / 32) n) (at2 A t n)
def colScale (A : Grad) (b n : ℕ) : BitVec 8 := kscale (colPeak A b n)
/-- An activation's value. -/
def actValue (X : Acts) (S : ActScales) (t q : ℕ) : EReal := kval (at3 S (t / 512) (t / 32 % 16) q) (at2 X t q)
/-- The first `T` rows' part of the product. -/
def dotTo (A : Grad) (X : Acts) (S : ActScales) (T n q : ℕ) : EReal :=
  ∑ t ∈ Finset.range T, colValue A t n * actValue X S t q

theorem dotTo_add (A : Grad) (X : Acts) (S : ActScales) (T K n q : ℕ) :
    dotTo A X S (T + K) n q = dotTo A X S T n q + ∑ k : Fin K, colValue A (T + k.val) n * actValue X S (T + k.val) q := by
  unfold dotTo
  rw [Finset.sum_range_add]
  refine congrArg _ ?_
  exact Finset.sum_range (fun k => colValue A (T + k) n * actValue X S (T + k) q)

/-! ## The same by logarithm and exponential, on gradients within the bf16 range -/

/-- Every entry's magnitude is at most the largest bf16 number's. -/
def Within (A : Grad) : Prop := ∀ i, max (A i) (-(A i)) ≤ Ideal.ofBits .bf16 0x7F7F#16

theorem max_bits : Ideal.ofBits .bf16 0x7F7F#16 = ((255 * (2 : ℝ) ^ (120 : ℤ) : ℝ) : EReal) := by
  simp [Ideal.ofBits, Ideal.ieee, -EReal.coe_mul]

theorem colPeak_bounds (A : Grad) (h : Within A) (b n : ℕ) : 0 ≤ colPeak A b n ∧ colPeak A b n < pwN 247 :=
  peak_bounds _ (255 * (2 : ℝ) ^ (120 : ℤ)) (by norm_num) fun _ => max_bits ▸ h _

theorem rcode_col (A : Grad) (h : Within A) (t n : ℕ) : rcode (colPeak A (t / 32) n) (at2 A t n) = colCode A t n :=
  rcode_eq _ _ (colPeak_bounds A h _ _).1 (colPeak_bounds A h _ _).2
theorem rscale_col (A : Grad) (h : Within A) (b n : ℕ) : rscale (colPeak A b n) = colScale A b n :=
  rscale_eq _ (colPeak_bounds A h _ _).1 (colPeak_bounds A h _ _).2
theorem rval_col (A : Grad) (h : Within A) (t n : ℕ) :
    rval (rscale (colPeak A (t / 32) n)) (rcode (colPeak A (t / 32) n) (at2 A t n)) = colValue A t n :=
  rdeq_eq _ _ (colPeak_bounds A h _ _).1 (colPeak_bounds A h _ _).2

end Cert.Mx
end
-- ==== Proof.MxRow.lean ====
/- The arrays of the input gradient: its codes, its scales and the product, as functions of the argument arrays, with the
   quantiser of `MxScalar` along the rows. -/
module

public import proofs.«01_k».proof.Proof.MxArray

@[expose] public section

set_option maxRecDepth 16384

noncomputable section

namespace Cert.Mx

open Idealize.ShloMosaic

abbrev Weights : Type := (⟨2, ![11008, 4096]⟩ : Shape).Idx → EReal
abbrev WeightScales : Type := (⟨2, ![344, 4096]⟩ : Shape).Idx → BitVec 8

/-- The magnitude of block `b` of 32 columns in row `t`. -/
def rowPeak (A : Grad) (t b : ℕ) : EReal := peak (fun k : Fin 32 => at2 A t (b * 32 + k.val))
/-- The code and the value at row `t`, column `n`; the scale of block `b`. -/
def rowCode (A : Grad) (t n : ℕ) : EReal := kcode (rowPeak A t (n / 32)) (at2 A t n)
def rowValue (A : Grad) (t n : ℕ) : EReal := kdeq (rowPeak A t (n / 32)) (at2 A t n)
def rowScale (A : Grad) (t b : ℕ) : BitVec 8 := kscale (rowPeak A t b)
/-- A weight's value. -/
def weightValue (W : Weights) (S : WeightScales) (n q : ℕ) : EReal := kval (at2 S (n / 32) q) (at2 W n q)
/-- The first `N` columns' part of the product. -/
def rowDotTo (A : Grad) (W : Weights) (S : WeightScales) (N t q : ℕ) : EReal :=
  ∑ n ∈ Finset.range N, rowValue A t n * weightValue W S n q

theorem rowDotTo_add (A : Grad) (W : Weights) (S : WeightScales) (N K t q : ℕ) :
    rowDotTo A W S (N + K) t q
      = rowDotTo A W S N t q + ∑ k ∈ Finset.range K, rowValue A t (N + k) * weightValue W S (N + k) q := by
  unfold rowDotTo
  rw [Finset.sum_range_add]

/-! ## The same by logarithm and exponential, on gradients within the bf16 range -/

theorem rowPeak_bounds (A : Grad) (h : Within A) (t b : ℕ) : 0 ≤ rowPeak A t b ∧ rowPeak A t b < pwN 247 :=
  peak_bounds _ (255 * (2 : ℝ) ^ (120 : ℤ)) (by norm_num) fun _ => max_bits ▸ h _

theorem rcode_row (A : Grad) (h : Within A) (t n : ℕ) : rcode (rowPeak A t (n / 32)) (at2 A t n) = rowCode A t n :=
  rcode_eq _ _ (rowPeak_bounds A h _ _).1 (rowPeak_bounds A h _ _).2
theorem rscale_row (A : Grad) (h : Within A) (t b : ℕ) : rscale (rowPeak A t b) = rowScale A t b :=
  rscale_eq _ (rowPeak_bounds A h _ _).1 (rowPeak_bounds A h _ _).2
theorem rval_row (A : Grad) (h : Within A) (t n : ℕ) :
    rval (rscale (rowPeak A t (n / 32))) (rcode (rowPeak A t (n / 32)) (at2 A t n)) = rowValue A t n :=
  rdeq_eq _ _ (rowPeak_bounds A h _ _).1 (rowPeak_bounds A h _ _).2

end Cert.Mx
end
-- ==== Proof.DgradIdealArray.lean ====
/- What the input-gradient kernel leaves in its three result arrays: the accumulator after every grid point as the part of
   the product its columns so far make, and from it, from each point's codes and from the kept exponents, the arrays after
   the last point. -/
module

public import proofs.«01_k».proof.Proof.DgradIdealRun
public import proofs.«01_k».proof.Proof.DgradIdealValue
public import proofs.«01_k».proof.Proof.MxRow

@[expose] public section

set_option maxRecDepth 16384

noncomputable section

namespace Cert.DgradIdeal.Run

open Cert.DgradIdeal Cert.DgradIdeal.Gen Cert.Mx
open Idealize.ShloMosaic Idealize.ShloMosaic.TcCoe
open Idealize.SL.Sem
open Idealize.ShloMosaic.Pipeline (Dat Window)

/-! ## The accumulator after one step -/

/-- A read through a rectangle. -/
theorem ld_at {S : Shape} {e : EltTy} (x : S.Idx → Elt Ideal e) (off sz : Fin S.rank → ℕ) (inb : ∀ a, off a + sz a ≤ S.size a)
    (i : (Rect.unit (s := S) off sz inb).shape.Idx) (j : S.Idx) (h : ∀ a, (j a).val = off a + (i a).val) :
    View.ld (Val := Elt Ideal) (e' := e) x (Rect.unit off sz inb) i = x j :=
  congrArg x (funext fun a => Fin.ext (by rw [Rect.idx_unit_val]; exact (h a).symm))

section
variable (x : Vec Ideal S1024x4096 .fp8e4m3) (s : Vec Ideal S32x4096 .i8) (o : Vec Ideal S1024x4096 .f32) (q : Fin 4096)

/-- A step's product at a row and a column, in a full block and in the last. -/
def stepDot (d : Fin 1024 → EReal) : EReal :=
  ∑ k : Fin 1024, d k * kval (s (ix2 ⟨k.val / 32, by omega⟩ q)) (x (ix2 k q))
def stepDotL (d : Fin 768 → EReal) : EReal :=
  ∑ k : Fin 768, d k * kval (s (ix2 ⟨k.val / 32, by omega⟩ q)) (x (ix2 ⟨k.val, by omega⟩ q))

/-- A strip's product is the step's. -/
theorem strip_dot (off : ℕ) (hx hs) (d : Vec Ideal S1024x1024 .bf16) (r : Fin 1024) (b : Fin 1024) (hq : q.val = off + b.val) :
    dot d (View.ld (Val := Elt Ideal) (e' := .fp8e4m3) x (Rect.unit (s := S1024x4096) ![0, off] S1024x1024.size hx))
      (View.ld (Val := Elt Ideal) (e' := .i8) s (Rect.unit (s := S32x4096) ![0, off] S32x1024.size hs)) r b
      = stepDot x s q (fun k => d (ix2 r k)) := by
  unfold dot stepDot
  refine Finset.sum_congr rfl fun k _ => congrArg₂ (fun z w : EReal => d (ix2 r k) * (w * z)) ?_ ?_
  · refine congrArg (fun z : BitVec 8 => pw (BitVec.setWidth 32 z)) (ld_at (e := .i8) s _ _ _ _ _ fun a => ?_)
    match a with
    | ⟨0, _⟩ => exact (Nat.zero_add _).symm
    | ⟨1, _⟩ => exact hq
  · refine ld_at (e := .fp8e4m3) x _ _ _ _ _ fun a => ?_
    match a with
    | ⟨0, _⟩ => exact (Nat.zero_add _).symm
    | ⟨1, _⟩ => exact hq
theorem strip_dotL (off : ℕ) (hx hs) (d : Vec Ideal S1024x768 .bf16) (r : Fin 1024) (b : Fin 1024) (hq : q.val = off + b.val) :
    dotL d (View.ld (Val := Elt Ideal) (e' := .fp8e4m3) x (Rect.unit (s := S1024x4096) ![0, off] S768x1024.size hx))
      (View.ld (Val := Elt Ideal) (e' := .i8) s (Rect.unit (s := S32x4096) ![0, off] S24x1024.size hs)) r b
      = stepDotL x s q (fun k => d (ix2 r k)) := by
  unfold dotL stepDotL
  refine Finset.sum_congr rfl fun k _ => congrArg₂ (fun z w : EReal => d (ix2 r k) * (w * z)) ?_ ?_
  · refine congrArg (fun z : BitVec 8 => pw (BitVec.setWidth 32 z)) (ld_at (e := .i8) s _ _ _ _ _ fun a => ?_)
    match a with
    | ⟨0, _⟩ => exact (Nat.zero_add _).symm
    | ⟨1, _⟩ => exact hq
  · refine ld_at (e := .fp8e4m3) x _ _ _ _ _ fun a => ?_
    match a with
    | ⟨0, _⟩ => exact (Nat.zero_add _).symm
    | ⟨1, _⟩ => exact hq

/-- A strip of the accumulator. -/
theorem strip_acc (off : ℕ) (ho) (r : Fin 1024) (i : (⟨2, ![1024, 1024]⟩ : Shape).Idx) (h0 : r.val = (i 0).val) (hq : q.val = off + (i 1).val) :
    View.ld (Val := Elt Ideal) (e' := .f32) o (Rect.unit (s := S1024x4096) ![0, off] ![1024, 1024] ho) i = o (ix2 r q) := by
  refine ld_at (e := .f32) o _ _ _ _ _ fun a => ?_
  match a with
  | ⟨0, _⟩ => exact h0.trans (Nat.zero_add _).symm
  | ⟨1, _⟩ => exact hq

theorem accFull_at (v : Vec Ideal S1024x1024 .bf16) (r : Fin 1024) :
    accFull v x s o (ix2 r q) = o (ix2 r q) + stepDot x s q (fun k => deq v (ix2 r k)) := by
  unfold accFull
  canon_tiles i hi using coverFull _ _ _ _ _
  · obtain rfl : r = i 0 := Fin.ext hi0
    have e := dot3_at (deq v) (View.ld x ra3) (View.ld s rs3) (View.ld o ra3) (i 0) (i 1)
    rw [ix2_eta (n0 := 1024) (n1 := 1024) i] at e
    exact e.trans (congrArg₂ (· + ·) (strip_acc o q 3072 _ _ i rfl hi1) (strip_dot x s q 3072 _ _ _ _ _ hi1))
  · obtain rfl : r = i 0 := Fin.ext hi0
    have e := dot2_at (deq v) (View.ld x ra2) (View.ld s rs2) (View.ld o ra2) (i 0) (i 1)
    rw [ix2_eta (n0 := 1024) (n1 := 1024) i] at e
    exact e.trans (congrArg₂ (· + ·) (strip_acc o q 2048 _ _ i rfl hi1) (strip_dot x s q 2048 _ _ _ _ _ hi1))
  · obtain rfl : r = i 0 := Fin.ext hi0
    have e := dot1_at (deq v) (View.ld x ra1) (View.ld s rs1) (View.ld o ra1) (i 0) (i 1)
    rw [ix2_eta (n0 := 1024) (n1 := 1024) i] at e
    exact e.trans (congrArg₂ (· + ·) (strip_acc o q 1024 _ _ i rfl hi1) (strip_dot x s q 1024 _ _ _ _ _ hi1))
  · obtain rfl : r = i 0 := Fin.ext hi0
    have e := dot0_at v (View.ld x ra0) (View.ld s rs0) (View.ld o ra0) (i 0) (i 1) (expo v) (inv v)
    rw [ix2_eta (n0 := 1024) (n1 := 1024) i] at e
    have hq : q.val = 0 + (i 1).val := hi1.trans (Nat.zero_add _).symm
    exact e.trans (congrArg₂ (· + ·) (strip_acc o q 0 _ _ i rfl hq) (strip_dot x s q 0 _ _ _ _ _ hq))

theorem accLast_at (v : Vec Ideal S1024x768 .bf16) (r : Fin 1024) :
    accLast v x s o (ix2 r q) = o (ix2 r q) + stepDotL x s q (fun k => deqL v (ix2 r k)) := by
  unfold accLast
  canon_tiles i hi using coverFull _ _ _ _ _
  · obtain rfl : r = i 0 := Fin.ext hi0
    have e := dot3L_at (deqL v) (View.ld x rb3) (View.ld s rt3) (View.ld o ra3) (i 0) (i 1)
    rw [ix2_eta (n0 := 1024) (n1 := 1024) i] at e
    exact e.trans (congrArg₂ (· + ·) (strip_acc o q 3072 _ _ i rfl hi1) (strip_dotL x s q 3072 _ _ _ _ _ hi1))
  · obtain rfl : r = i 0 := Fin.ext hi0
    have e := dot2L_at (deqL v) (View.ld x rb2) (View.ld s rt2) (View.ld o ra2) (i 0) (i 1)
    rw [ix2_eta (n0 := 1024) (n1 := 1024) i] at e
    exact e.trans (congrArg₂ (· + ·) (strip_acc o q 2048 _ _ i rfl hi1) (strip_dotL x s q 2048 _ _ _ _ _ hi1))
  · obtain rfl : r = i 0 := Fin.ext hi0
    have e := dot1L_at (deqL v) (View.ld x rb1) (View.ld s rt1) (View.ld o ra1) (i 0) (i 1)
    rw [ix2_eta (n0 := 1024) (n1 := 1024) i] at e
    exact e.trans (congrArg₂ (· + ·) (strip_acc o q 1024 _ _ i rfl hi1) (strip_dotL x s q 1024 _ _ _ _ _ hi1))
  · obtain rfl : r = i 0 := Fin.ext hi0
    have e := dot0L_at v (View.ld x rb0) (View.ld s rt0) (View.ld o ra0) (i 0) (i 1) (expoL v) (invL v)
    rw [ix2_eta (n0 := 1024) (n1 := 1024) i] at e
    have hq : q.val = 0 + (i 1).val := hi1.trans (Nat.zero_add _).symm
    exact e.trans (congrArg₂ (· + ·) (strip_acc o q 0 _ _ i rfl hq) (strip_dotL x s q 0 _ _ _ _ _ hq))

end

/-! ## The blocks of a point, in the arrays -/

variable (m : (ℓ : Loc nD τ sig) → Buf (Elt Ideal) ℓ) (ρ : Dev nD → PrngReg) (c : Dev nD)

abbrev gradA : Grad := m ((c : Thread nD τ).loc main_arg0)
abbrev weightsA : Weights := m ((c : Thread nD τ).loc main_arg1)
abbrev scalesA : WeightScales := m ((c : Thread nD τ).loc main_arg2)

theorem index_0 : ∀ t : Fin cfg0.N, win0_0.index t 0 = t.val / 11 ∧ win0_0.index t 1 = t.val % 11 := by decide +kernel
theorem index_1 : ∀ t : Fin cfg0.N, win0_1.index t 0 = t.val % 11 ∧ win0_1.index t 1 = 0 := by decide +kernel
theorem index_2 : ∀ t : Fin cfg0.N, win0_2.index t 0 = t.val % 11 ∧ win0_2.index t 1 = 0 := by decide +kernel
theorem index_3 : ∀ t : Fin cfg0.N, win0_3.index t 0 = t.val / 11 ∧ win0_3.index t 1 = 0 := by decide +kernel
theorem index_4 : ∀ t : Fin cfg0.N, win0_4.index t 0 = t.val / 11 ∧ win0_4.index t 1 = t.val % 11 := by decide +kernel
theorem index_5 : ∀ t : Fin cfg0.N, win0_5.index t 0 = t.val / 11 ∧ win0_5.index t 1 = 0 := by decide +kernel
theorem xs3 : ∀ t : Fin cfg0.N, win0_3.xsize (grid0.coords t) 0 = 1024 ∧ win0_3.xsize (grid0.coords t) 1 = 4096 := by decide +kernel
theorem xs5 : ∀ t : Fin cfg0.N, win0_5.xsize (grid0.coords t) 0 = 1024 ∧ win0_5.xsize (grid0.coords t) 1 = 344 := by decide +kernel

/-- How many columns of point `t`'s block the array has. -/
abbrev ext (t : Fin cfg0.N) : ℕ := if t.val % 11 < 10 then 1024 else 768

theorem gblk_at (t : Fin cfg0.N) (r : Fin 1024) (k : Fin 1024) (hk : k.val < ext t) :
    gblk m c t (ix2 r k) = at2 (gradA m c) (1024 * (t.val / 11) + r.val) (1024 * (t.val % 11) + k.val) := by
  have hm : win0_0.moved (grid0.coords t) (ix2 r k : S1024x1024.Idx) = true := (win0_0.moved_iff _ _).mpr fun a => by
    match a with
    | ⟨0, _⟩ => show r.val < win0_0.xsize (grid0.coords t) 0; rw [(xs0 t).1]; exact r.isLt
    | ⟨1, _⟩ => show k.val < win0_0.xsize (grid0.coords t) 1; rw [(xs0 t).2]; exact hk
  unfold gblk Window.fill
  rw [dif_pos hm]
  unfold iblk
  rw [View.read_apply]
  refine at2_of (gradA m c) _ _ _ ?_ ?_
  · show win0_0.index t 0 * 1024 + 1 * r.val = _; rw [(index_0 t).1]; omega
  · show win0_0.index t 1 * 1024 + 1 * k.val = _; rw [(index_0 t).2]; omega
theorem wblk_at (t : Fin cfg0.N) (k : Fin 1024) (q : Fin 4096) (hk : k.val < ext t) :
    wblk m c t (ix2 k q) = at2 (weightsA m c) (1024 * (t.val % 11) + k.val) q.val := by
  have hm : win0_1.moved (grid0.coords t) (ix2 k q : S1024x4096.Idx) = true := (win0_1.moved_iff _ _).mpr fun a => by
    match a with
    | ⟨0, _⟩ => show k.val < win0_1.xsize (grid0.coords t) 0; rw [(xs1 t).2]; exact hk
    | ⟨1, _⟩ => show q.val < win0_1.xsize (grid0.coords t) 1; rw [(xs1 t).1]; exact q.isLt
  unfold wblk Window.fill
  rw [dif_pos hm]
  unfold iblk
  rw [View.read_apply]
  refine at2_of (weightsA m c) _ _ _ ?_ ?_
  · show win0_1.index t 0 * 1024 + 1 * k.val = _; rw [(index_1 t).1]; omega
  · show win0_1.index t 1 * 4096 + 1 * q.val = _; rw [(index_1 t).2]; omega
theorem sblk_at (t : Fin cfg0.N) (b : Fin 32) (q : Fin 4096) (hb : b.val * 32 < ext t) :
    sblk m c t (ix2 b q) = at2 (scalesA m c) (32 * (t.val % 11) + b.val) q.val := by
  have hm : win0_2.moved (grid0.coords t) (ix2 b q : S32x4096.Idx) = true := (win0_2.moved_iff _ _).mpr fun a => by
    match a with
    | ⟨0, _⟩ =>
      show b.val < win0_2.xsize (grid0.coords t) 0
      rw [(xs2 t).2]
      unfold ext at hb
      split_ifs at hb ⊢ <;> omega
    | ⟨1, _⟩ => show q.val < win0_2.xsize (grid0.coords t) 1; rw [(xs2 t).1]; exact q.isLt
  unfold sblk Window.fill
  rw [dif_pos hm]
  unfold iblk
  rw [View.read_apply]
  refine at2_of (scalesA m c) _ _ _ ?_ ?_
  · show win0_2.index t 0 * 32 + 1 * b.val = _; rw [(index_2 t).1]; omega
  · show win0_2.index t 1 * 4096 + 1 * q.val = _; rw [(index_2 t).2]; omega

theorem ext_le (t : Fin cfg0.N) : ext t ≤ 1024 := by unfold ext; split_ifs <;> omega

/-- The magnitudes of a point's blocks. -/
theorem peak_blk (t : Fin cfg0.N) (r : Fin 1024) (a : ℕ) (ha : a * 32 + 32 ≤ ext t) (ha' : ∀ k : Fin 32, a * 32 + k.val < 1024)
    (R : ℕ) (hR : R = 1024 * (t.val / 11) + r.val) (b : ℕ) (hb : b = 32 * (t.val % 11) + a) :
    peak (fun k => gblk m c t (ix2 r ⟨a * 32 + k.val, ha' k⟩)) = rowPeak (gradA m c) R b := by
  subst hb hR
  unfold rowPeak
  refine congrArg peak (funext fun k => ?_)
  rw [gblk_at m c t r _ (by show a * 32 + k.val < ext t; omega)]
  refine congrArg (at2 (gradA m c) (1024 * (t.val / 11) + r.val)) ?_
  show 1024 * (t.val % 11) + (a * 32 + k.val) = _
  omega
theorem block_in (t : Fin cfg0.N) (k : ℕ) (hk : k < ext t) : k / 32 * 32 + 32 ≤ ext t := by
  unfold ext at hk ⊢
  split_ifs at hk ⊢ <;> omega

/-- The last block's columns. -/
theorem ldL_at (g : Vec Ideal S1024x1024 .bf16) (r : Fin 1024) (k : Fin 768) :
    View.ld (Val := Elt Ideal) (e' := .bf16) g rdyL (ix2 r k) = g (ix2 r ⟨k.val, by omega⟩) := by
  refine ld_at (e := .bf16) g _ _ _ _ _ fun a => ?_
  match a with
  | ⟨0, _⟩ => exact (Nat.zero_add _).symm
  | ⟨1, _⟩ => exact (Nat.zero_add _).symm

theorem codes_blk (t : Fin cfg0.N) (r : Fin 1024) (k : Fin 1024) (hk : k.val < ext t) :
    codesAt m c t (ix2 r k) = rowCode (gradA m c) (1024 * (t.val / 11) + r.val) (1024 * (t.val % 11) + k.val) := by
  have hp := peak_blk m c t r (k.val / 32) (block_in t k.val hk) (fun _ => by omega) _ rfl ((1024 * (t.val % 11) + k.val) / 32) (by omega)
  have hv := gblk_at m c t r k hk
  unfold codesAt rowCode
  rw [← hp, ← hv]
  by_cases h : t.val % 11 < 10
  · rw [if_pos h]; exact codes_at _ _ _
  · rw [if_neg h]
    have hk' : k.val < 768 := by unfold ext at hk; rwa [if_neg h] at hk
    have e : (ix2 r k : S1024x1024.Idx) = rdyL.emb (ix2 r ⟨k.val, hk'⟩ : S1024x768.Idx) := by
      funext a; apply Fin.ext; rw [Rect.emb_apply]
      match a with
      | ⟨0, _⟩ => show r.val = 0 + 1 * r.val; omega
      | ⟨1, _⟩ => show k.val = 0 + 1 * k.val; omega
    have e2 := View.canon_cons_emb (Val := Elt Ideal) (e := .fp8e4m3) rdyL (codesL (View.ld (gblk m c t) rdyL)) [] (ix2 r ⟨k.val, hk'⟩ : S1024x768.Idx)
    rw [← e] at e2
    refine e2.trans ((codesL_at _ _ _).trans ?_)
    exact congrArg₂ kcode (congrArg peak (funext fun _ => ldL_at _ _ _)) (ldL_at _ _ _)

/-- The kept exponents of a point, in a full block and in the last. -/
theorem kept_blk (t : Fin cfg0.N) (h : t.val % 11 < 10) (r : Fin 1024) (a : Fin 32) (R : ℕ) (hR : R = 1024 * (t.val / 11) + r.val)
    (b : ℕ) (hb : b = 32 * (t.val % 11) + a.val) :
    kept (gblk m c t) (ix3 0 a r) = kexp (rowPeak (gradA m c) R b) := by
  have he : ext t = 1024 := if_pos h
  rw [kept_at]
  exact congrArg kexp (peak_blk m c t r a.val (by rw [he]; omega) (fun _ => by omega) R hR b hb)
theorem keptL_blk (t : Fin cfg0.N) (h : ¬ t.val % 11 < 10) (r : Fin 1024) (a : Fin 24) (R : ℕ) (hR : R = 1024 * (t.val / 11) + r.val)
    (b : ℕ) (hb : b = 32 * (t.val % 11) + a.val) :
    keptL (View.ld (gblk m c t) rdyL) (ix3 0 a r) = kexp (rowPeak (gradA m c) R b) := by
  have he : ext t = 768 := if_neg h
  rw [keptL_at]
  refine congrArg kexp (Eq.trans (congrArg peak (funext fun k => ldL_at (gblk m c t) r ⟨a.val * 32 + k.val, by omega⟩)) ?_)
  exact peak_blk m c t r a.val (by rw [he]; omega) (fun _ => by omega) R hR b hb

/-- The row scales of the last point of a row block. -/
theorem rows_blk (t : Fin cfg0.N) (ht : t.val % 11 = 10) (r : Fin 1024) (b : Fin 344) :
    rowsAt m c t (ix2 r b) = rowScale (gradA m c) (1024 * (t.val / 11) + r.val) b.val := by
  have hb : b.val < 344 := b.isLt
  have hN : t.val < 176 := t.isLt
  unfold rowsAt rowScale kscale
  refine (rows_at _ r b).trans ?_
  refine congrArg (fun z => BitVec.setWidth 8 (IntOp.addi z 127#32)) ?_
  show (if h : b.val / 32 < 10 then _ else _) = _
  by_cases h0 : b.val / 32 < 10
  · rw [dif_pos h0]
    have hu : t.val / 11 * 11 + b.val / 32 < cfg0.N := by show _ < 176; omega
    have key := kept_blk m c ⟨t.val / 11 * 11 + b.val / 32, hu⟩ (by show (t.val / 11 * 11 + b.val / 32) % 11 < 10; omega) r
      ⟨b.val % 32, by omega⟩ (1024 * (t.val / 11) + r.val) (by show _ = 1024 * ((t.val / 11 * 11 + b.val / 32) / 11) + r.val; omega)
      b.val (by show _ = 32 * ((t.val / 11 * 11 + b.val / 32) % 11) + b.val % 32; omega)
    exact key
  · rw [dif_neg h0]
    have h1 : b.val % 32 < 24 := by omega
    show (if h' : b.val % 32 < 24 then _ else _) = _
    rw [dif_pos h1]
    exact keptL_blk m c t (by omega) r ⟨b.val % 32, h1⟩ _ rfl b.val (by show _ = 32 * (t.val % 11) + b.val % 32; omega)

/-- A step's product is its block's columns' part of the whole. -/
theorem step_at (t : Fin cfg0.N) (o : Vec Ideal S1024x4096 .f32) (r : Fin 1024) (q : Fin 4096) :
    accStep m c t o (ix2 r q) = o (ix2 r q)
      + ∑ k ∈ Finset.range (ext t), rowValue (gradA m c) (1024 * (t.val / 11) + r.val) (1024 * (t.val % 11) + k)
          * weightValue (weightsA m c) (scalesA m c) (1024 * (t.val % 11) + k) q.val := by
  unfold accStep
  by_cases h : t.val % 11 < 10
  · have he : ext t = 1024 := if_pos h
    rw [if_pos h, accFull_at, he, Finset.sum_range]
    refine congrArg _ ?_
    unfold stepDot
    refine Finset.sum_congr rfl fun k _ => ?_
    have hk : k.val < ext t := by rw [he]; exact k.isLt
    unfold rowValue weightValue
    rw [← gblk_at m c t r k hk, ← peak_blk m c t r (k.val / 32) (block_in t k.val hk) (fun _ => by omega) _ rfl ((1024 * (t.val % 11) + k.val) / 32) (by omega),
      wblk_at m c t k q hk, sblk_at m c t ⟨k.val / 32, by omega⟩ q (by show k.val / 32 * 32 < ext t; omega)]
    have h1 : (1024 * (t.val % 11) + k.val) / 32 = 32 * (t.val % 11) + k.val / 32 := by omega
    rw [h1]
    exact congrArg (fun z : EReal => z * _) (deq_at _ _ _)
  · have he : ext t = 768 := if_neg h
    rw [if_neg h, accLast_at, he, Finset.sum_range]
    refine congrArg _ ?_
    unfold stepDotL
    refine Finset.sum_congr rfl fun k _ => ?_
    have hk : k.val < ext t := by rw [he]; exact k.isLt
    unfold rowValue weightValue
    rw [← gblk_at m c t r ⟨k.val, by omega⟩ hk, ← peak_blk m c t r (k.val / 32) (block_in t k.val hk) (fun _ => by omega) _ rfl ((1024 * (t.val % 11) + k.val) / 32) (by omega),
      wblk_at m c t ⟨k.val, by omega⟩ q hk, sblk_at m c t ⟨k.val / 32, by omega⟩ q (by show k.val / 32 * 32 < ext t; omega)]
    have h1 : (1024 * (t.val % 11) + k.val) / 32 = 32 * (t.val % 11) + k.val / 32 := by omega
    rw [h1]
    refine congrArg (fun z : EReal => z * _) ((deqL_at _ _ _).trans ?_)
    exact congrArg₂ kdeq (congrArg peak (funext fun _ => ldL_at _ _ _)) (ldL_at _ _ _)

theorem zero_at (r : Fin 1024) (q : Fin 4096) : k0_pay1 (F := Ideal) (ix2 r q) = 0 := by
  pointwise [k0_pay1]

/-- The accumulator after a point: the product over the columns up to and with the point's. -/
theorem acc_at : ∀ (n : ℕ) (hn : n < cfg0.N) (r : Fin 1024) (q : Fin 4096),
    accAt m c n hn (ix2 r q)
      = rowDotTo (gradA m c) (weightsA m c) (scalesA m c) (1024 * (n % 11) + ext ⟨n, hn⟩) (1024 * (n / 11) + r.val) q.val := by
  intro n
  induction n with
  | zero =>
    intro hn r q
    rw [acc_zero m c ⟨0, hn⟩ rfl, step_at m c ⟨0, hn⟩ _ r q, zero_at, rowDotTo_add]
    refine congrArg (· + _) ?_
    simp [rowDotTo]
  | succ n ih =>
    intro hn r q
    rw [rowDotTo_add]
    by_cases h : (n + 1) % 11 = 0
    · rw [acc_zero m c ⟨n + 1, hn⟩ h, step_at m c ⟨n + 1, hn⟩ _ r q, zero_at]
      refine congrArg (· + _) ?_
      rw [h]
      simp [rowDotTo]
    · rw [acc_succ m c ⟨n + 1, hn⟩ h, step_at m c ⟨n + 1, hn⟩ _ r q]
      refine congrArg (· + _) ?_
      refine (ih (Nat.lt_of_succ_lt hn) r q).trans ?_
      have he : ext ⟨n, Nat.lt_of_succ_lt hn⟩ = 1024 := if_pos (by show n % 11 < 10; omega)
      have e1 : 1024 * (n % 11) + 1024 = 1024 * ((n + 1) % 11) := by omega
      have e2 : n / 11 = (n + 1) / 11 := by omega
      rw [he, e1, e2]

/-! ## The result arrays -/

/-- The product, the codes, the scales. -/
def dxA : Buf (Elt Ideal) ((c : Thread nD τ).loc main_v0_0) :=
  fun i : S16384x4096.Idx => rowDotTo (gradA m c) (weightsA m c) (scalesA m c) 11008 (i 0).val (i 1).val
def rcA : Buf (Elt Ideal) ((c : Thread nD τ).loc main_v0_1) :=
  fun i : S16384x11008.Idx => rowCode (gradA m c) (i 0).val (i 1).val
def rsA : Buf (Elt Ideal) ((c : Thread nD τ).loc main_v0_2) :=
  fun i : S16384x344.Idx => rowScale (gradA m c) (i 0).val (i 1).val

theorem dxA_apply (i : S16384x4096.Idx) {a b : ℕ} (h0 : a = (i 0).val) (h1 : b = (i 1).val) :
    rowDotTo (gradA m c) (weightsA m c) (scalesA m c) 11008 a b = dxA m c i := by subst h0 h1; rfl
/-- The rounding of the product to bfloat16 reads as the identity. -/
theorem round_at (o : Vec Ideal S1024x4096 .f32) (i : S1024x4096.Idx) : k0_pay4 (F := Ideal) o i = o i := rfl

theorem flushed_3 (t : Fin cfg0.N) (hf : (cfg0.win 3).flush t = true) :
    (dats m 0 c).flushed 3 t = ((cfg0.win 3).blk t).view.read (Elt Ideal) (dxA m c) := by
  have h10 := (flush0_3 t).mp hf
  show (cfg0.win 3).cut (grid0.coords t) ((dats m 0 c).after 3 t) = _
  rw [after0_3]
  funext j
  have hj : ∀ a, (j a).val < win0_3.xsize (grid0.coords t) a := fun a => (j a).isLt
  rw [View.read_apply]
  have j0 : (j 0).val < 1024 := by have h := hj 0; rwa [(xs3 t).1] at h
  have j1 : (j 1).val < 4096 := by have h := hj 1; rwa [(xs3 t).2] at h
  have e : (win0_3.xinj (grid0.coords t) j : S1024x4096.Idx) = ix2 ⟨(j 0).val, j0⟩ ⟨(j 1).val, j1⟩ := by
    funext a; match a with
    | ⟨0, _⟩ => rfl
    | ⟨1, _⟩ => rfl
  have key := fun i h0 h1 => dxA_apply m c i (a := 1024 * (t.val / 11) + (j 0).val) (b := (j 1).val) h0 h1
  generalize dxA m c = D at key
  refine Eq.trans ?_ (key _ ?_ ?_)
  · show k0_pay4 (F := Ideal) (accAt m c t.val t.isLt) (win0_3.xinj (grid0.coords t) j) = _
    have he : ext ⟨t.val, t.isLt⟩ = 768 := if_neg (by show ¬ t.val % 11 < 10; omega)
    rw [e, round_at, acc_at m c t.val t.isLt _ _, he, h10]
  · show _ = win0_3.index t 0 * 1024 + 1 * (j 0).val
    rw [(index_3 t).1]; omega
  · show _ = win0_3.index t 1 * 4096 + 1 * (j 1).val
    rw [(index_3 t).2]; omega
theorem flushed_4 (t : Fin cfg0.N) : (dats m 0 c).flushed 4 t = ((cfg0.win 4).blk t).view.read (Elt Ideal) (rcA m c) := by
  show (cfg0.win 4).cut (grid0.coords t) ((dats m 0 c).after 4 t) = _
  rw [after0_4]
  funext j
  have hj : ∀ a, (j a).val < win0_4.xsize (grid0.coords t) a := fun a => (j a).isLt
  rw [View.read_apply]
  have j1 : (j 1).val < ext t := by have h := hj 1; rwa [(xs4 t).2] at h
  have j0 : (j 0).val < 1024 := by have h := hj 0; rwa [(xs4 t).1] at h
  have jr : (j 1).val < 1024 := by have := ext_le t; omega
  have e : (win0_4.xinj (grid0.coords t) j : S1024x1024.Idx) = ix2 ⟨(j 0).val, j0⟩ ⟨(j 1).val, jr⟩ := by
    funext a; match a with
    | ⟨0, _⟩ => rfl
    | ⟨1, _⟩ => rfl
  show codesAt m c t (win0_4.xinj (grid0.coords t) j) = rowCode (gradA m c)
    (win0_4.index t 0 * 1024 + 1 * (j 0).val) (win0_4.index t 1 * 1024 + 1 * (j 1).val)
  rw [e, codes_blk m c t _ _ j1, (index_4 t).1, (index_4 t).2]
  refine congrArg₂ (rowCode (gradA m c)) ?_ ?_
  · show 1024 * (t.val / 11) + (j 0).val = _; omega
  · show 1024 * (t.val % 11) + (j 1).val = _; omega
theorem flushed_5 (t : Fin cfg0.N) (hf : (cfg0.win 5).flush t = true) :
    (dats m 0 c).flushed 5 t = ((cfg0.win 5).blk t).view.read (Elt Ideal) (rsA m c) := by
  have h10 := (flush0_5 t).mp hf
  show (cfg0.win 5).cut (grid0.coords t) ((dats m 0 c).after 5 t) = _
  rw [after0_5]
  funext j
  have hj : ∀ a, (j a).val < win0_5.xsize (grid0.coords t) a := fun a => (j a).isLt
  rw [View.read_apply]
  have j0 : (j 0).val < 1024 := by have h := hj 0; rwa [(xs5 t).1] at h
  have j1 : (j 1).val < 344 := by have h := hj 1; rwa [(xs5 t).2] at h
  have e : (win0_5.xinj (grid0.coords t) j : S1024x344.Idx) = ix2 ⟨(j 0).val, j0⟩ ⟨(j 1).val, j1⟩ := by
    funext a; match a with
    | ⟨0, _⟩ => rfl
    | ⟨1, _⟩ => rfl
  show rowsAt m c t (win0_5.xinj (grid0.coords t) j) = rowScale (gradA m c)
    (win0_5.index t 0 * 1024 + 1 * (j 0).val) (win0_5.index t 1 * 344 + 1 * (j 1).val)
  rw [e, rows_blk m c t h10 _ _, (index_5 t).1, (index_5 t).2]
  refine congrArg₂ (rowScale (gradA m c)) ?_ ?_
  · show 1024 * (t.val / 11) + (j 0).val = _; omega
  · show (j 1).val = _; omega

theorem points : cfg0.N = 176 := by decide +kernel

theorem final_3 : (dats m 0 c).arrAt 3 cfg0.N = dxA m c :=
  (dats m 0 c).arrAt_eq_of_cover 3 (dxA m c) (flushed_3 m c) fun i => by
    have i0 : (i 0 : ℕ) < 16384 := (i 0).isLt
    have i1 : (i 1 : ℕ) < 4096 := (i 1).isLt
    have hN := points
    have ht : (i 0 : ℕ) / 1024 * 11 + 10 < cfg0.N := by omega
    refine ⟨⟨(i 0 : ℕ) / 1024 * 11 + 10, ht⟩, (flush0_3 _).mpr (by show ((i 0 : ℕ) / 1024 * 11 + 10) % 11 = 10; omega), ?_⟩
    generalize hT : (⟨(i 0 : ℕ) / 1024 * 11 + 10, ht⟩ : Fin cfg0.N) = t
    have hv : t.val = (i 0 : ℕ) / 1024 * 11 + 10 := by rw [← hT]
    show i ∈ ((View.whole main_v0_0).slice (win0_3.rect t)).set
    rw [View.set_slice_whole, Rect.mem_set_unit]
    intro a
    match a with
    | ⟨0, _⟩ =>
      show win0_3.index t 0 * 1024 ≤ (i 0 : ℕ) ∧ (i 0 : ℕ) < win0_3.index t 0 * 1024 + win0_3.xsize (grid0.coords t) 0
      rw [(index_3 t).1, (xs3 t).1]; omega
    | ⟨1, _⟩ =>
      show win0_3.index t 1 * 4096 ≤ (i 1 : ℕ) ∧ (i 1 : ℕ) < win0_3.index t 1 * 4096 + win0_3.xsize (grid0.coords t) 1
      rw [(index_3 t).2, (xs3 t).2]; omega
theorem final_4 : (dats m 0 c).arrAt 4 cfg0.N = rcA m c :=
  (dats m 0 c).arrAt_eq_of_cover 4 (rcA m c) (fun t _ => flushed_4 m c t) fun i => by
    have i0 : (i 0 : ℕ) < 16384 := (i 0).isLt
    have i1 : (i 1 : ℕ) < 11008 := (i 1).isLt
    have hN := points
    have ht : (i 0 : ℕ) / 1024 * 11 + (i 1 : ℕ) / 1024 < cfg0.N := by omega
    refine ⟨⟨(i 0 : ℕ) / 1024 * 11 + (i 1 : ℕ) / 1024, ht⟩, flush0_4 _, ?_⟩
    generalize hT : (⟨(i 0 : ℕ) / 1024 * 11 + (i 1 : ℕ) / 1024, ht⟩ : Fin cfg0.N) = t
    have hv : t.val = (i 0 : ℕ) / 1024 * 11 + (i 1 : ℕ) / 1024 := by rw [← hT]
    show i ∈ ((View.whole main_v0_1).slice (win0_4.rect t)).set
    rw [View.set_slice_whole, Rect.mem_set_unit]
    intro a
    match a with
    | ⟨0, _⟩ =>
      show win0_4.index t 0 * 1024 ≤ (i 0 : ℕ) ∧ (i 0 : ℕ) < win0_4.index t 0 * 1024 + win0_4.xsize (grid0.coords t) 0
      rw [(index_4 t).1, (xs4 t).1]; omega
    | ⟨1, _⟩ =>
      show win0_4.index t 1 * 1024 ≤ (i 1 : ℕ) ∧ (i 1 : ℕ) < win0_4.index t 1 * 1024 + win0_4.xsize (grid0.coords t) 1
      rw [(index_4 t).2, (xs4 t).2]; split_ifs <;> omega
theorem final_5 : (dats m 0 c).arrAt 5 cfg0.N = rsA m c :=
  (dats m 0 c).arrAt_eq_of_cover 5 (rsA m c) (flushed_5 m c) fun i => by
    have i0 : (i 0 : ℕ) < 16384 := (i 0).isLt
    have i1 : (i 1 : ℕ) < 344 := (i 1).isLt
    have hN := points
    have ht : (i 0 : ℕ) / 1024 * 11 + 10 < cfg0.N := by omega
    refine ⟨⟨(i 0 : ℕ) / 1024 * 11 + 10, ht⟩, (flush0_5 _).mpr (by show ((i 0 : ℕ) / 1024 * 11 + 10) % 11 = 10; omega), ?_⟩
    generalize hT : (⟨(i 0 : ℕ) / 1024 * 11 + 10, ht⟩ : Fin cfg0.N) = t
    have hv : t.val = (i 0 : ℕ) / 1024 * 11 + 10 := by rw [← hT]
    show i ∈ ((View.whole main_v0_2).slice (win0_5.rect t)).set
    rw [View.set_slice_whole, Rect.mem_set_unit]
    intro a
    match a with
    | ⟨0, _⟩ =>
      show win0_5.index t 0 * 1024 ≤ (i 0 : ℕ) ∧ (i 0 : ℕ) < win0_5.index t 0 * 1024 + win0_5.xsize (grid0.coords t) 0
      rw [(index_5 t).1, (xs5 t).1]; omega
    | ⟨1, _⟩ =>
      show win0_5.index t 1 * 344 ≤ (i 1 : ℕ) ∧ (i 1 : ℕ) < win0_5.index t 1 * 344 + win0_5.xsize (grid0.coords t) 1
      rw [(index_5 t).2, (xs5 t).2]; omega

/-- The run, read: the three results, the arguments unchanged. -/
theorem run : θ_run defs (onTc (τ := τ) (main (F := Ideal))) ⟨m, fun _ => 0, ρ⟩ fun r => ∀ c : Dev nD,
      r.2.mem ((c : Thread nD τ).loc main_v0_0) = dxA m c
      ∧ r.2.mem ((c : Thread nD τ).loc main_v0_1) = rcA m c
      ∧ r.2.mem ((c : Thread nD τ).loc main_v0_2) = rsA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final_3 m c), ((h c).1 4).trans (final_4 m c), ((h c).1 5).trans (final_5 m c),
    ((h c).1 0).trans ((dats m 0 c).arrAt_in 0 rfl _), ((h c).1 1).trans ((dats m 0 c).arrAt_in 1 rfl _),
    ((h c).1 2).trans ((dats m 0 c).arrAt_in 2 rfl _)⟩) (run_main m ρ)

end Cert.DgradIdeal.Run
end
-- ==== Proof.DgradRefValue.lean ====
/- What the input-gradient reference computes, read entry by entry over the extended reals. -/
module

public import proofs.«01_k».proof.Proof.Gen.DgradRefIdeal.Frame
public import proofs.«01_k».proof.Proof.MxScalar
public import Idealize.ShloMosaic.Lib.Pointwise
public import Idealize.ShloMosaic.PureOps.Ideal.Laws

@[expose] public section

set_option maxRecDepth 16384

noncomputable section

namespace Cert.DgradRefIdeal.Gen

open Cert.DgradRefIdeal Cert.DgradRefIdeal.Gen Cert.Mx
open Idealize.ShloMosaic

/-- A maximum along the last axis, as a fold over that axis. -/
theorem max_at {n0 n1 n2 : ℕ} {φ : FTy} {t : Shape} (src : FVec Ideal ⟨3, ![n0, n1, n2]⟩ φ) (acc : BitVec φ.bits)
    (h : (⟨3, ![n0, n1, n2]⟩ : Shape).Reduces [2] t) (hφ) (ha) (j : t.Idx) :
    multiReduction (F := Ideal) .maximumf [2] t src acc h hφ ha j
      = (Finset.univ : Finset (Fin n2)).fold max (Ideal.ofBits φ acc) (fun k => src (ix3 ⟨(j ⟨0, h.lt_r3_a2_0⟩).val, Shape.coordLt (j ⟨0, h.lt_r3_a2_0⟩) h.size_r3_a2_0⟩ ⟨(j ⟨1, h.lt_r3_a2_1⟩).val, Shape.coordLt (j ⟨1, h.lt_r3_a2_1⟩) h.size_r3_a2_1⟩ k)) :=
  (multiReduction_maximumf_eq_fold ..).trans (h.fold_fiber_r3_a2 ..)

variable (v : Vec Ideal S16384x11008 .bf16)

/-- The gradient in blocks of 32 columns. -/
theorem blocks_at (r : Fin 16384) (b : Fin 344) (k : Fin 32) :
    k0_pay2 (F := Ideal) v (ix3 r b k) = v (ix2 r ⟨b.val * 32 + k.val, by omega⟩) := by
  pointwise [k0_pay2]

/-- Powers of two, a whole array at once. -/
def powV {S : Shape} (e : IVec S 32) : FVec Ideal S .f32 :=
  select (cmpi .slt e (broadcast S 4294967170#32)) (broadcast S (Scalar.ofBits .f32 0x00000000#32))
    (select (cmpi .sgt e (broadcast S 127#32)) (broadcast S (Scalar.ofBits .f32 0x7F800000#32)) (exp2 (sitofp .f32 e)))
theorem powV_at {S : Shape} (e : IVec S 32) (i : S.Idx) : powV e i = ePow (e i) := rfl

/-- Exponents from the blocks' magnitudes, a whole array at once. -/
def expoV (x : FVec Ideal S16384x344 .f32) : IVec S16384x344 32 :=
  select (cmpf .olt x (broadcast S16384x344 (Scalar.ofBits .f32 0x00800000#32))) (broadcast S16384x344 0#32)
    (addi (fptosi 32 (floor (divf (log x) (log (broadcast S16384x344 (Scalar.ofBits .f32 0x40000000#32))))))
      (broadcast S16384x344 1#32))
theorem expoV_at (x : FVec Ideal S16384x344 .f32) (i : S16384x344.Idx) : expoV x i = lexp (x i) := rfl

/-- A block's greatest magnitude over 448. -/
def rpeak : FVec Ideal S16384x344 .f32 :=
  mulf (multiReduction .maximumf [2] S16384x344 (absf (k0_pay2 v)) 0xFF800000#32 reduces_S16384x344x32_S16384x344 (.inl rfl) rfl)
    (broadcast S16384x344 (Scalar.ofBits .f32 0x3B124925#32))
theorem expo_of_peak : k0_pay3 (F := Ideal) v = expoV (rpeak v) := rfl
theorem max_abs_at (b : FVec Ideal S16384x344x32 .f32) (hr hφ ha) (r : Fin 16384) (c : Fin 344) :
    multiReduction (F := Ideal) .maximumf [2] S16384x344 (absf b) 0xFF800000#32 hr hφ ha (ix2 r c)
      = (Finset.univ : Finset (Fin 32)).fold max ⊥ (fun k => max (b (ix3 r c k)) (-(b (ix3 r c k)))) := by
  rw [max_at, ninf_bits]
  rfl
theorem scaled_at (p : FVec Ideal S16384x344 .f32) (i : S16384x344.Idx) :
    mulf p (broadcast S16384x344 (Scalar.ofBits .f32 0x3B124925#32)) i = p i * Ideal.ofBits .f32 0x3B124925#32 := rfl
theorem rpeak_at (r : Fin 16384) (b : Fin 344) :
    rpeak v (ix2 r b) = peak (fun k => v (ix2 r ⟨b.val * 32 + k.val, by omega⟩)) := by
  have h := max_abs_at (k0_pay2 (F := Ideal) v) reduces_S16384x344x32_S16384x344 (.inl rfl) rfl r b
  unfold rpeak peak
  rw [scaled_at]
  refine congrArg (fun z : EReal => z * Ideal.ofBits .f32 0x3B124925#32) (h.trans ?_)
  simp only [blocks_at]
theorem expo_at (r : Fin 16384) (b : Fin 344) :
    k0_pay3 (F := Ideal) v (ix2 r b) = lexp (peak (fun k => v (ix2 r ⟨b.val * 32 + k.val, by omega⟩))) := by
  rw [expo_of_peak, expoV_at, rpeak_at]

theorem scales_at (r : Fin 16384) (b : Fin 344) :
    k0_pay4 (F := Ideal) v (ix2 r b) = rscale (peak (fun k => v (ix2 r ⟨b.val * 32 + k.val, by omega⟩))) := by
  unfold rscale
  rw [← expo_at]
  rfl

/-- Codes from the blocks and their inverse scales. -/
def codesV (b : FVec Ideal S16384x344x32 .f32) (p : FVec Ideal S16384x344 .f32) : FVec Ideal S16384x11008 .fp8e4m3 :=
  shapeCast S16384x11008 (truncf .fp8e4m3 (minimumf (broadcast S16384x344x32 (Scalar.ofBits .f32 0x43E00000#32))
    (maximumf (broadcast S16384x344x32 (Scalar.ofBits .f32 0xC3E00000#32))
      (mulf b (broadcastTo S16384x344x32 (shapeCast S16384x344x1 p shapeCasts_S16384x344_S16384x344x1) broadcasts_S16384x344x1_S16384x344x32))))
    bitsLt_fp8e4m3_f32) shapeCasts_S16384x344x32_S16384x11008
theorem codesV_at (b : FVec Ideal S16384x344x32 .f32) (p : FVec Ideal S16384x344 .f32) (r : Fin 16384) (c : Fin 11008) :
    codesV b p (ix2 r c) = min (Ideal.ofBits .f32 0x43E00000#32) (max (Ideal.ofBits .f32 0xC3E00000#32)
      (b (ix3 r ⟨c.val / 32, by omega⟩ ⟨c.val % 32, by omega⟩) * p (ix2 r ⟨c.val / 32, by omega⟩))) := by
  pointwise [codesV]
theorem codes_eq : k0_pay5 (F := Ideal) v = codesV (k0_pay2 v) (powV (subi (broadcast S16384x344 0#32) (k0_pay3 (F := Ideal) v))) := rfl
theorem codes_at (r : Fin 16384) (c : Fin 11008) :
    k0_pay5 (F := Ideal) v (ix2 r c)
      = rcode (peak (fun k => v (ix2 r ⟨c.val / 32 * 32 + k.val, by omega⟩))) (v (ix2 r c)) := by
  rw [codes_eq, codesV_at, powV_at, blocks_at]
  unfold rcode
  have h : (⟨c.val / 32 * 32 + c.val % 32, by omega⟩ : Fin 11008) = c := Fin.ext (by show c.val / 32 * 32 + c.val % 32 = c.val; omega)
  dsimp only
  rw [h, ← expo_at v r ⟨c.val / 32, by omega⟩]
  rfl

/-- The values of the codes under powers of two. -/
def valuesV (d : FVec Ideal S16384x11008 .fp8e4m3) (p : FVec Ideal S16384x344 .f32) : FVec Ideal S16384x11008 .bf16 :=
  shapeCast S16384x11008 (mulf (shapeCast S16384x344x32 (extf .bf16 d bitsLt_fp8e4m3_bf16) shapeCasts_S16384x11008_S16384x344x32)
    (broadcastTo S16384x344x32 (shapeCast S16384x344x1 (truncf .bf16 p bitsLt_bf16_f32) shapeCasts_S16384x344_S16384x344x1)
      broadcasts_S16384x344x1_S16384x344x32)) shapeCasts_S16384x344x32_S16384x11008
theorem valuesV_at (d : FVec Ideal S16384x11008 .fp8e4m3) (p : FVec Ideal S16384x344 .f32) (r : Fin 16384) (c : Fin 11008) :
    valuesV d p (ix2 r c) = d (ix2 r c) * p (ix2 r ⟨c.val / 32, by omega⟩) := by
  pointwise [valuesV]
theorem dy_eq (s : IVec S16384x344 8) (d : FVec Ideal S16384x11008 .fp8e4m3) :
    k0_pay6 (F := Ideal) s d = valuesV d (powV (subi (extui 32 s natLt_8_32) (broadcast S16384x344 127#32))) := rfl
theorem dy_at (s : IVec S16384x344 8) (d : FVec Ideal S16384x11008 .fp8e4m3) (r : Fin 16384) (c : Fin 11008) :
    k0_pay6 (F := Ideal) s d (ix2 r c) = rval (s (ix2 r ⟨c.val / 32, by omega⟩)) (d (ix2 r c)) := by
  rw [dy_eq, valuesV_at, powV_at]
  rfl
theorem w3_at (x : Vec Ideal S11008x4096 .fp8e4m3) (a : Fin 344) (k : Fin 32) (c : Fin 4096) :
    k0_pay7 (F := Ideal) x (ix3 a k c) = x (ix2 ⟨a.val * 32 + k.val, by omega⟩ c) := by
  pointwise [k0_pay7]
/-- The product, the weights' powers of two given. -/
def dotV (d : FVec Ideal S16384x11008 .bf16) (x : FVec Ideal S344x32x4096 .bf16) (p : FVec Ideal S344x4096 .f32) : FVec Ideal S16384x4096 .bf16 :=
  truncf .bf16 (matmul dot_S16384x11008_S11008x4096_S16384x4096_1_0_0_1_n_n none d
    (shapeCast S11008x4096 (mulf x (broadcastTo S344x32x4096 (shapeCast S344x1x4096 (truncf .bf16 p bitsLt_bf16_f32)
      shapeCasts_S344x4096_S344x1x4096) broadcasts_S344x1x4096_S344x32x4096)) shapeCasts_S344x32x4096_S11008x4096)
    (constant S16384x4096 .f32 0x00000000#32)) bitsLt_bf16_f32
theorem dotV_at (d : FVec Ideal S16384x11008 .bf16) (x : FVec Ideal S344x32x4096 .bf16) (p : FVec Ideal S344x4096 .f32)
    (r : Fin 16384) (c : Fin 4096) :
    dotV d x p (ix2 r c) = ∑ k : Fin 11008, d (ix2 r k) * (x (ix3 ⟨k.val / 32, by omega⟩ ⟨k.val % 32, by omega⟩ c) * p (ix2 ⟨k.val / 32, by omega⟩ c)) := by
  pointwise [dotV]
theorem dot_eq (d : FVec Ideal S16384x11008 .bf16) (x : FVec Ideal S344x32x4096 .bf16) (s : Vec Ideal S344x4096 .i8) :
    k0_pay1 (F := Ideal) d x (k0_pay8 s) = dotV d x (powV (subi (extui 32 s natLt_8_32) (broadcast S344x4096 127#32))) := rfl
theorem dot_at (d : FVec Ideal S16384x11008 .bf16) (x : Vec Ideal S11008x4096 .fp8e4m3) (s : Vec Ideal S344x4096 .i8)
    (r : Fin 16384) (c : Fin 4096) :
    k0_pay1 (F := Ideal) d (k0_pay7 x) (k0_pay8 s) (ix2 r c)
      = ∑ k : Fin 11008, d (ix2 r k) * rval (s (ix2 ⟨k.val / 32, by omega⟩ c)) (x (ix2 k c)) := by
  rw [dot_eq, dotV_at]
  refine Finset.sum_congr rfl fun k _ => ?_
  rw [w3_at, powV_at]
  have h : (⟨k.val / 32 * 32 + k.val % 32, by omega⟩ : Fin 11008) = k := Fin.ext (by show k.val / 32 * 32 + k.val % 32 = k.val; omega)
  dsimp only
  rw [h]
  rfl

end Cert.DgradRefIdeal.Gen
end
-- ==== Proof.DgradRefArray.lean ====
/- What the input-gradient reference leaves in its three result arrays. -/
module

public import proofs.«01_k».proof.Proof.DgradRefValue
public import proofs.«01_k».proof.Proof.MxRow
public import Idealize.ShloMosaic.Lib.Pipeline.Value

@[expose] public section

set_option maxRecDepth 16384

noncomputable section

namespace Cert.DgradRefIdeal.Gen

open Cert.DgradRefIdeal Cert.DgradRefIdeal.Gen Cert.Mx
open Idealize.ShloMosaic Idealize.ShloMosaic.TcCoe
open Idealize.SL.Sem
open Idealize.ShloMosaic.Pipeline (Dat Window)

section
variable (A : Vec Ideal S16384x11008 .bf16) (W : Vec Ideal S11008x4096 .fp8e4m3) (S : Vec Ideal S344x4096 .i8)

theorem rz2 : (![0, 0] : Fin 2 → Nat) = fun _ => 0 := funext fun a => by fin_cases a <;> rfl

theorem rowPeak_of (r : Fin 16384) (n : Fin 11008) :
    peak (fun k => A (ix2 r ⟨n.val / 32 * 32 + k.val, by omega⟩)) = rowPeak A r.val (n.val / 32) :=
  congrArg peak (funext fun _ => at2_fin A _ _)
theorem rowPeak_of' (r : Fin 16384) (b : Fin 344) :
    peak (fun k => A (ix2 r ⟨b.val * 32 + k.val, by omega⟩)) = rowPeak A r.val b.val :=
  congrArg peak (funext fun _ => at2_fin A _ _)

theorem codes_arr (h : Within A) (r : Fin 16384) (n : Fin 11008) :
    k0_pay5 (F := Ideal) A (ix2 r n) = rowCode A r.val n.val := by
  rw [codes_at, rowPeak_of, at2_fin A r n, rcode_row A h]
theorem scales_arr (h : Within A) (r : Fin 16384) (b : Fin 344) :
    k0_pay4 (F := Ideal) A (ix2 r b) = rowScale A r.val b.val := by
  rw [scales_at, rowPeak_of', rscale_row A h]
theorem values_arr (h : Within A) (r : Fin 16384) (n : Fin 11008) :
    k0_pay6 (F := Ideal) (k0_pay4 (F := Ideal) A) (k0_pay5 (F := Ideal) A) (ix2 r n) = rowValue A r.val n.val := by
  rw [dy_at, codes_at, rowPeak_of, at2_fin A r n, scales_at, rowPeak_of' A r ⟨n.val / 32, by omega⟩, rval_row A h]
theorem dot_arr (h : Within A) (t : Fin 16384) (q : Fin 4096) :
    k0_pay1 (F := Ideal) (k0_pay6 (F := Ideal) (k0_pay4 (F := Ideal) A) (k0_pay5 (F := Ideal) A)) (k0_pay7 W) (k0_pay8 S) (ix2 t q)
      = rowDotTo A W S 11008 t.val q.val := by
  rw [dot_at]
  unfold rowDotTo
  rw [Finset.sum_range]
  refine Finset.sum_congr rfl fun k _ => ?_
  rw [values_arr A h, rval_eq, at2_fin W, at2_fin S]
  rfl

/-- The three results. -/
theorem out_codes (h : Within A) (r : Fin 16384) (n : Fin 11008) : out0_4 A W S (ix2 r n) = rowCode A r.val n.val := by
  unfold out0_4 k0_pay10
  rw [View.canon_unit_zero (S := S16384x11008) rz2, View.ld_unit_zero (S := S16384x11008) rz2, codes_arr A h]
theorem out_scales (h : Within A) (r : Fin 16384) (b : Fin 344) : out0_5 A W S (ix2 r b) = rowScale A r.val b.val := by
  unfold out0_5 k0_pay9
  rw [View.canon_unit_zero (S := S16384x344) rz2, View.ld_unit_zero (S := S16384x11008) rz2, scales_arr A h]
theorem out_dot (h : Within A) (t : Fin 16384) (q : Fin 4096) : out0_3 A W S (ix2 t q) = rowDotTo A W S 11008 t.val q.val := by
  unfold out0_3 k0_pay9 k0_pay10
  rw [View.canon_unit_zero (S := S16384x4096) rz2, View.ld_unit_zero (S := S16384x11008) rz2,
    View.ld_unit_zero (S := S11008x4096) rz2, View.ld_unit_zero (S := S344x4096) rz2, dot_arr A W S h]
end

/-! ## The arrays after the one step -/

variable (m : (ℓ : Loc nD τ sig) → Buf (Elt Ideal) ℓ) (ρ : Dev nD → PrngReg) (c : Dev nD)

abbrev gradR : Grad := m ((c : Thread nD τ).loc main_arg0)
abbrev weightsR : Weights := m ((c : Thread nD τ).loc main_arg1)
abbrev scalesR : WeightScales := m ((c : Thread nD τ).loc main_arg2)

theorem one : cfg0.N = 1 := by decide +kernel
theorem rindex_0 : ∀ t : Fin cfg0.N, win0_0.index t 0 = 0 ∧ win0_0.index t 1 = 0 := by decide +kernel
theorem rindex_1 : ∀ t : Fin cfg0.N, win0_1.index t 0 = 0 ∧ win0_1.index t 1 = 0 := by decide +kernel
theorem rindex_2 : ∀ t : Fin cfg0.N, win0_2.index t 0 = 0 ∧ win0_2.index t 1 = 0 := by decide +kernel
theorem rindex_3 : ∀ t : Fin cfg0.N, win0_3.index t 0 = 0 ∧ win0_3.index t 1 = 0 := by decide +kernel
theorem rindex_4 : ∀ t : Fin cfg0.N, win0_4.index t 0 = 0 ∧ win0_4.index t 1 = 0 := by decide +kernel
theorem rindex_5 : ∀ t : Fin cfg0.N, win0_5.index t 0 = 0 ∧ win0_5.index t 1 = 0 := by decide +kernel
theorem rsize_3 : ∀ t : Fin cfg0.N, win0_3.xsize (grid0.coords t) 0 = 16384 ∧ win0_3.xsize (grid0.coords t) 1 = 4096 := by decide +kernel
theorem rsize_4 : ∀ t : Fin cfg0.N, win0_4.xsize (grid0.coords t) 0 = 16384 ∧ win0_4.xsize (grid0.coords t) 1 = 11008 := by decide +kernel
theorem rsize_5 : ∀ t : Fin cfg0.N, win0_5.xsize (grid0.coords t) 0 = 16384 ∧ win0_5.xsize (grid0.coords t) 1 = 344 := by decide +kernel
theorem rflush_3 : ∀ t : Fin cfg0.N, (cfg0.win 3).flush t = true := by decide +kernel
theorem rflush_4 : ∀ t : Fin cfg0.N, (cfg0.win 4).flush t = true := by decide +kernel
theorem rflush_5 : ∀ t : Fin cfg0.N, (cfg0.win 5).flush t = true := by decide +kernel

theorem grad_eq (t : Fin cfg0.N) : (iblk m c 0 t : Vec Ideal S16384x11008 .bf16) = gradR m c := by
  funext j
  unfold iblk
  rw [View.read_apply]
  refine congrArg (gradR m c) (funext fun a => Fin.ext ?_)
  match a with
  | ⟨0, _⟩ => show win0_0.index t 0 * 16384 + 1 * (j 0).val = (j 0).val; rw [(rindex_0 t).1]; omega
  | ⟨1, _⟩ => show win0_0.index t 1 * 11008 + 1 * (j 1).val = (j 1).val; rw [(rindex_0 t).2]; omega
theorem weights_eq (t : Fin cfg0.N) : (iblk m c 1 t : Vec Ideal S11008x4096 .fp8e4m3) = weightsR m c := by
  funext j
  unfold iblk
  rw [View.read_apply]
  refine congrArg (weightsR m c) (funext fun a => Fin.ext ?_)
  match a with
  | ⟨0, _⟩ => show win0_1.index t 0 * 11008 + 1 * (j 0).val = (j 0).val; rw [(rindex_1 t).1]; omega
  | ⟨1, _⟩ => show win0_1.index t 1 * 4096 + 1 * (j 1).val = (j 1).val; rw [(rindex_1 t).2]; omega
theorem weightScales_eq (t : Fin cfg0.N) : (iblk m c 2 t : Vec Ideal S344x4096 .i8) = scalesR m c := by
  funext j
  unfold iblk
  rw [View.read_apply]
  refine congrArg (scalesR m c) (funext fun a => Fin.ext ?_)
  match a with
  | ⟨0, _⟩ => show win0_2.index t 0 * 344 + 1 * (j 0).val = (j 0).val; rw [(rindex_2 t).1]; omega
  | ⟨1, _⟩ => show win0_2.index t 1 * 4096 + 1 * (j 1).val = (j 1).val; rw [(rindex_2 t).2]; omega

def dxR : Buf (Elt Ideal) ((c : Thread nD τ).loc main_v0_0) :=
  fun i : S16384x4096.Idx => rowDotTo (gradR m c) (weightsR m c) (scalesR m c) 11008 (i 0).val (i 1).val
def rcR : Buf (Elt Ideal) ((c : Thread nD τ).loc main_v0_1) :=
  fun i : S16384x11008.Idx => rowCode (gradR m c) (i 0).val (i 1).val
def rsR : Buf (Elt Ideal) ((c : Thread nD τ).loc main_v0_2) :=
  fun i : S16384x344.Idx => rowScale (gradR m c) (i 0).val (i 1).val

theorem dxR_apply (i : S16384x4096.Idx) {a b : ℕ} (h0 : a = (i 0).val) (h1 : b = (i 1).val) :
    rowDotTo (gradR m c) (weightsR m c) (scalesR m c) 11008 a b = dxR m c i := by subst h0 h1; rfl
theorem rcR_apply (i : S16384x11008.Idx) {a b : ℕ} (h0 : a = (i 0).val) (h1 : b = (i 1).val) :
    rowCode (gradR m c) a b = rcR m c i := by subst h0 h1; rfl
theorem rsR_apply (i : S16384x344.Idx) {a b : ℕ} (h0 : a = (i 0).val) (h1 : b = (i 1).val) :
    rowScale (gradR m c) a b = rsR m c i := by subst h0 h1; rfl

theorem rflushed_3 (h : Within (gradR m c)) (t : Fin cfg0.N) :
    (dats m 0 c).flushed 3 t = ((cfg0.win 3).blk t).view.read (Elt Ideal) (dxR m c) := by
  show (cfg0.win 3).cut (grid0.coords t) ((dats m 0 c).after 3 t) = _
  rw [after0_3, grad_eq, weights_eq, weightScales_eq]
  funext j
  rw [View.read_apply]
  have hj : ∀ a, (j a).val < win0_3.xsize (grid0.coords t) a := fun a => (j a).isLt
  have j0 : (j 0).val < 16384 := by have h := hj 0; rwa [(rsize_3 t).1] at h
  have j1 : (j 1).val < 4096 := by have h := hj 1; rwa [(rsize_3 t).2] at h
  have e : (win0_3.xinj (grid0.coords t) j : S16384x4096.Idx) = ix2 ⟨(j 0).val, j0⟩ ⟨(j 1).val, j1⟩ := by
    funext a; match a with
    | ⟨0, _⟩ => rfl
    | ⟨1, _⟩ => rfl
  have key := fun i h0 h1 => dxR_apply m c i (a := (j 0).val) (b := (j 1).val) h0 h1
  generalize dxR m c = D at key
  refine Eq.trans ?_ (key _ ?_ ?_)
  · show out0_3 (F := Ideal) (gradR m c) (weightsR m c) (scalesR m c) (win0_3.xinj (grid0.coords t) j) = _
    rw [e, out_dot _ _ _ h]
  · show _ = win0_3.index t 0 * 16384 + 1 * (j 0).val
    rw [(rindex_3 t).1]; omega
  · show _ = win0_3.index t 1 * 4096 + 1 * (j 1).val
    rw [(rindex_3 t).2]; omega
theorem rflushed_4 (h : Within (gradR m c)) (t : Fin cfg0.N) :
    (dats m 0 c).flushed 4 t = ((cfg0.win 4).blk t).view.read (Elt Ideal) (rcR m c) := by
  show (cfg0.win 4).cut (grid0.coords t) ((dats m 0 c).after 4 t) = _
  rw [after0_4, grad_eq, weights_eq, weightScales_eq]
  funext j
  rw [View.read_apply]
  have hj : ∀ a, (j a).val < win0_4.xsize (grid0.coords t) a := fun a => (j a).isLt
  have j0 : (j 0).val < 16384 := by have h := hj 0; rwa [(rsize_4 t).1] at h
  have j1 : (j 1).val < 11008 := by have h := hj 1; rwa [(rsize_4 t).2] at h
  have e : (win0_4.xinj (grid0.coords t) j : S16384x11008.Idx) = ix2 ⟨(j 0).val, j0⟩ ⟨(j 1).val, j1⟩ := by
    funext a; match a with
    | ⟨0, _⟩ => rfl
    | ⟨1, _⟩ => rfl
  have key := fun i h0 h1 => rcR_apply m c i (a := (j 0).val) (b := (j 1).val) h0 h1
  generalize rcR m c = D at key
  refine Eq.trans ?_ (key _ ?_ ?_)
  · show out0_4 (F := Ideal) (gradR m c) (weightsR m c) (scalesR m c) (win0_4.xinj (grid0.coords t) j) = _
    rw [e, out_codes _ _ _ h]
  · show _ = win0_4.index t 0 * 16384 + 1 * (j 0).val
    rw [(rindex_4 t).1]; omega
  · show _ = win0_4.index t 1 * 11008 + 1 * (j 1).val
    rw [(rindex_4 t).2]; omega
theorem rflushed_5 (h : Within (gradR m c)) (t : Fin cfg0.N) :
    (dats m 0 c).flushed 5 t = ((cfg0.win 5).blk t).view.read (Elt Ideal) (rsR m c) := by
  show (cfg0.win 5).cut (grid0.coords t) ((dats m 0 c).after 5 t) = _
  rw [after0_5, grad_eq, weights_eq, weightScales_eq]
  funext j
  rw [View.read_apply]
  have hj : ∀ a, (j a).val < win0_5.xsize (grid0.coords t) a := fun a => (j a).isLt
  have j0 : (j 0).val < 16384 := by have h := hj 0; rwa [(rsize_5 t).1] at h
  have j1 : (j 1).val < 344 := by have h := hj 1; rwa [(rsize_5 t).2] at h
  have e : (win0_5.xinj (grid0.coords t) j : S16384x344.Idx) = ix2 ⟨(j 0).val, j0⟩ ⟨(j 1).val, j1⟩ := by
    funext a; match a with
    | ⟨0, _⟩ => rfl
    | ⟨1, _⟩ => rfl
  have key := fun i h0 h1 => rsR_apply m c i (a := (j 0).val) (b := (j 1).val) h0 h1
  generalize rsR m c = D at key
  refine Eq.trans ?_ (key _ ?_ ?_)
  · show out0_5 (F := Ideal) (gradR m c) (weightsR m c) (scalesR m c) (win0_5.xinj (grid0.coords t) j) = _
    rw [e, out_scales _ _ _ h]
  · show _ = win0_5.index t 0 * 16384 + 1 * (j 0).val
    rw [(rindex_5 t).1]; omega
  · show _ = win0_5.index t 1 * 344 + 1 * (j 1).val
    rw [(rindex_5 t).2]; omega

theorem rfinal_3 (h : Within (gradR m c)) : (dats m 0 c).arrAt 3 cfg0.N = dxR m c :=
  (dats m 0 c).arrAt_eq_of_cover 3 (dxR m c) (fun t _ => rflushed_3 m c h t) fun i => by
    have i0 : (i 0 : ℕ) < 16384 := (i 0).isLt
    have i1 : (i 1 : ℕ) < 4096 := (i 1).isLt
    have hN := one
    refine ⟨⟨0, by omega⟩, rflush_3 _, ?_⟩
    generalize (⟨0, by omega⟩ : Fin cfg0.N) = t
    show i ∈ ((View.whole main_v0_0).slice (win0_3.rect t)).set
    rw [View.set_slice_whole, Rect.mem_set_unit]
    intro a
    match a with
    | ⟨0, _⟩ =>
      show win0_3.index t 0 * 16384 ≤ (i 0 : ℕ) ∧ (i 0 : ℕ) < win0_3.index t 0 * 16384 + win0_3.xsize (grid0.coords t) 0
      rw [(rindex_3 t).1, (rsize_3 t).1]; omega
    | ⟨1, _⟩ =>
      show win0_3.index t 1 * 4096 ≤ (i 1 : ℕ) ∧ (i 1 : ℕ) < win0_3.index t 1 * 4096 + win0_3.xsize (grid0.coords t) 1
      rw [(rindex_3 t).2, (rsize_3 t).2]; omega
theorem rfinal_4 (h : Within (gradR m c)) : (dats m 0 c).arrAt 4 cfg0.N = rcR m c :=
  (dats m 0 c).arrAt_eq_of_cover 4 (rcR m c) (fun t _ => rflushed_4 m c h t) fun i => by
    have i0 : (i 0 : ℕ) < 16384 := (i 0).isLt
    have i1 : (i 1 : ℕ) < 11008 := (i 1).isLt
    have hN := one
    refine ⟨⟨0, by omega⟩, rflush_4 _, ?_⟩
    generalize (⟨0, by omega⟩ : Fin cfg0.N) = t
    show i ∈ ((View.whole main_v0_1).slice (win0_4.rect t)).set
    rw [View.set_slice_whole, Rect.mem_set_unit]
    intro a
    match a with
    | ⟨0, _⟩ =>
      show win0_4.index t 0 * 16384 ≤ (i 0 : ℕ) ∧ (i 0 : ℕ) < win0_4.index t 0 * 16384 + win0_4.xsize (grid0.coords t) 0
      rw [(rindex_4 t).1, (rsize_4 t).1]; omega
    | ⟨1, _⟩ =>
      show win0_4.index t 1 * 11008 ≤ (i 1 : ℕ) ∧ (i 1 : ℕ) < win0_4.index t 1 * 11008 + win0_4.xsize (grid0.coords t) 1
      rw [(rindex_4 t).2, (rsize_4 t).2]; omega
theorem rfinal_5 (h : Within (gradR m c)) : (dats m 0 c).arrAt 5 cfg0.N = rsR m c :=
  (dats m 0 c).arrAt_eq_of_cover 5 (rsR m c) (fun t _ => rflushed_5 m c h t) fun i => by
    have i0 : (i 0 : ℕ) < 16384 := (i 0).isLt
    have i1 : (i 1 : ℕ) < 344 := (i 1).isLt
    have hN := one
    refine ⟨⟨0, by omega⟩, rflush_5 _, ?_⟩
    generalize (⟨0, by omega⟩ : Fin cfg0.N) = t
    show i ∈ ((View.whole main_v0_2).slice (win0_5.rect t)).set
    rw [View.set_slice_whole, Rect.mem_set_unit]
    intro a
    match a with
    | ⟨0, _⟩ =>
      show win0_5.index t 0 * 16384 ≤ (i 0 : ℕ) ∧ (i 0 : ℕ) < win0_5.index t 0 * 16384 + win0_5.xsize (grid0.coords t) 0
      rw [(rindex_5 t).1, (rsize_5 t).1]; omega
    | ⟨1, _⟩ =>
      show win0_5.index t 1 * 344 ≤ (i 1 : ℕ) ∧ (i 1 : ℕ) < win0_5.index t 1 * 344 + win0_5.xsize (grid0.coords t) 1
      rw [(rindex_5 t).2, (rsize_5 t).2]; omega

/-- The run, read: the three results, the arguments unchanged. -/
theorem run (h : ∀ c : Dev nD, Within (gradR m c)) :
    θ_run defs (onTc (τ := τ) (main (F := Ideal))) ⟨m, fun _ => 0, ρ⟩ fun r => ∀ c : Dev nD,
      r.2.mem ((c : Thread nD τ).loc main_v0_0) = dxR m c
      ∧ r.2.mem ((c : Thread nD τ).loc main_v0_1) = rcR m c
      ∧ r.2.mem ((c : Thread nD τ).loc main_v0_2) = rsR m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ hr c => ⟨((hr c).1 3).trans (rfinal_3 m c (h c)), ((hr c).1 4).trans (rfinal_4 m c (h c)),
    ((hr c).1 5).trans (rfinal_5 m c (h c)),
    ((hr c).1 0).trans ((dats m 0 c).arrAt_in 0 rfl _), ((hr c).1 1).trans ((dats m 0 c).arrAt_in 1 rfl _),
    ((hr c).1 2).trans ((dats m 0 c).arrAt_in 2 rfl _)⟩) (run_main m ρ)

end Cert.DgradRefIdeal.Gen
end
-- ==== Proof.WgradBody.lean ====
/- One grid step of the weight-gradient kernel, as a statement about its buffers: from any contents of the three input
   blocks and the three output blocks, the step ends with the inputs as they were and the outputs at closed forms. A full
   column block and the last, cut one are separate statements, each with the accumulator zeroed first or kept. -/
module

public import proofs.«01_k».proof.Proof.Gen.Wgrad.Frame
public import proofs.«01_k».proof.Proof.Gen.Wgrad.Skeleton
public import Idealize.ShloMosaic.Lib.Pipeline.Value

@[expose] public section

set_option maxRecDepth 16384

noncomputable section

namespace Cert.Wgrad.Run

open Cert.Wgrad Cert.Wgrad.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The rectangles the body reads and writes: the whole gradient block and its columns, -/
abbrev rdy : Rect S512x1024 := Rect.unit (s := S512x1024) ![0, 0] S512x1024.size inb_S512x1024_S512x1024_0_0
abbrev rdyL : Rect S512x1024 := Rect.unit (s := S512x1024) ![0, 0] S512x768.size inb_S512x1024_S512x768_0_0
abbrev rsc : Rect S1x16x1024 := Rect.unit (s := S1x16x1024) ![0, 0, 0] S1x16x1024.size inb_S1x16x1024_S1x16x1024_0_0_0
abbrev rscL : Rect S1x16x1024 := Rect.unit (s := S1x16x1024) ![0, 0, 0] S1x16x768.size inb_S1x16x1024_S1x16x768_0_0_0
/-- the four column strips of the activation codes, of their scales and of the accumulator, -/
abbrev rx0 : Rect S512x4096 := Rect.unit (s := S512x4096) ![0, 0] S512x1024.size inb_S512x4096_S512x1024_0_0
abbrev rx1 : Rect S512x4096 := Rect.unit (s := S512x4096) ![0, 1024] S512x1024.size inb_S512x4096_S512x1024_0_1024
abbrev rx2 : Rect S512x4096 := Rect.unit (s := S512x4096) ![0, 2048] S512x1024.size inb_S512x4096_S512x1024_0_2048
abbrev rx3 : Rect S512x4096 := Rect.unit (s := S512x4096) ![0, 3072] S512x1024.size inb_S512x4096_S512x1024_0_3072
abbrev rs0 : Rect S1x16x4096 := Rect.unit (s := S1x16x4096) ![0, 0, 0] S1x16x1024.size inb_S1x16x4096_S1x16x1024_0_0_0
abbrev rs1 : Rect S1x16x4096 := Rect.unit (s := S1x16x4096) ![0, 0, 1024] S1x16x1024.size inb_S1x16x4096_S1x16x1024_0_0_1024
abbrev rs2 : Rect S1x16x4096 := Rect.unit (s := S1x16x4096) ![0, 0, 2048] S1x16x1024.size inb_S1x16x4096_S1x16x1024_0_0_2048
abbrev rs3 : Rect S1x16x4096 := Rect.unit (s := S1x16x4096) ![0, 0, 3072] S1x16x1024.size inb_S1x16x4096_S1x16x1024_0_0_3072
abbrev ra0 : Rect S1024x4096 := Rect.unit (s := S1024x4096) ![0, 0] S1024x1024.size inb_S1024x4096_S1024x1024_0_0
abbrev ra1 : Rect S1024x4096 := Rect.unit (s := S1024x4096) ![0, 1024] S1024x1024.size inb_S1024x4096_S1024x1024_0_1024
abbrev ra2 : Rect S1024x4096 := Rect.unit (s := S1024x4096) ![0, 2048] S1024x1024.size inb_S1024x4096_S1024x1024_0_2048
abbrev ra3 : Rect S1024x4096 := Rect.unit (s := S1024x4096) ![0, 3072] S1024x1024.size inb_S1024x4096_S1024x1024_0_3072
/-- and the strips' first 768 rows, all the last block has. -/
abbrev rb0 : Rect S1024x4096 := Rect.unit (s := S1024x4096) ![0, 0] S768x1024.size inb_S1024x4096_S768x1024_0_0
abbrev rb1 : Rect S1024x4096 := Rect.unit (s := S1024x4096) ![0, 1024] S768x1024.size inb_S1024x4096_S768x1024_0_1024
abbrev rb2 : Rect S1024x4096 := Rect.unit (s := S1024x4096) ![0, 2048] S768x1024.size inb_S1024x4096_S768x1024_0_2048
abbrev rb3 : Rect S1024x4096 := Rect.unit (s := S1024x4096) ![0, 3072] S768x1024.size inb_S1024x4096_S768x1024_0_3072

theorem hz2 : (![0, 0] : Fin 2 → Nat) = fun _ => 0 := funext fun a => by fin_cases a <;> rfl
theorem hz3 : (![0, 0, 0] : Fin 3 → Nat) = fun _ => 0 := funext fun a => by fin_cases a <;> rfl

/-! ## A full block -/

/-- The shared exponents of a block of the gradient and the power of two each column group is scaled by, -/
def expo (v : Vec F S512x1024 .bf16) : IVec S16x1024 32 := k0_pay9 (k0_pay6 v) (k0_pay7 v) k0_pay8
def inv (v : Vec F S512x1024 .bf16) : FVec F S16x1024 .bf16 := k0_pay11 (k0_pay6 v) (k0_pay7 v) k0_pay8
/-- the stored scales, the stored codes, the dequantised block. -/
def scales (v : Vec F S512x1024 .bf16) : Vec F S1x16x1024 .i8 := k0_pay10 (k0_pay6 v) (k0_pay7 v) k0_pay8
def codes (v : Vec F S512x1024 .bf16) : Vec F S512x1024 .fp8e4m3 := k0_pay12 v (inv v)
def deq (v : Vec F S512x1024 .bf16) : Vec F S512x1024 .bf16 := k0_pay13 v (expo v) (inv v)
/-- The accumulator strips after the step, from the strips before it. -/
def acc0 (v : Vec F S512x1024 .bf16) (x : Vec F S512x4096 .fp8e4m3) (s : Vec F S1x16x4096 .i8) (o : Vec F S1024x4096 .f32) : Vec F S1024x1024 .f32 :=
  k0_pay14 v (expo v) (inv v) (View.ld x rx0) (View.ld s rs0) (View.ld o ra0)
def acc1 (v : Vec F S512x1024 .bf16) (x : Vec F S512x4096 .fp8e4m3) (s : Vec F S1x16x4096 .i8) (o : Vec F S1024x4096 .f32) : Vec F S1024x1024 .f32 :=
  k0_pay15 (deq v) (View.ld x rx1) (View.ld s rs1) (View.ld o ra1)
def acc2 (v : Vec F S512x1024 .bf16) (x : Vec F S512x4096 .fp8e4m3) (s : Vec F S1x16x4096 .i8) (o : Vec F S1024x4096 .f32) : Vec F S1024x1024 .f32 :=
  k0_pay2 (k0_pay16 (View.ld o ra2)) (k0_pay17 (deq v) (View.ld x rx2) (View.ld s rs2))
def acc3 (v : Vec F S512x1024 .bf16) (x : Vec F S512x4096 .fp8e4m3) (s : Vec F S1x16x4096 .i8) (o : Vec F S1024x4096 .f32) : Vec F S1024x1024 .f32 :=
  k0_pay3 (deq v) (View.ld x rx3) (View.ld s rs3) (View.ld o ra3)
/-- The accumulator after the step. -/
def accFull (v : Vec F S512x1024 .bf16) (x : Vec F S512x4096 .fp8e4m3) (s : Vec F S1x16x4096 .i8) (o : Vec F S1024x4096 .f32) : Vec F S1024x4096 .f32 :=
  View.canon [⟨ra3, acc3 v x s o⟩, ⟨ra2, acc2 v x s o⟩, ⟨ra1, acc1 v x s o⟩, ⟨ra0, acc0 v x s o⟩]

/-- The strips tile the accumulator. -/
theorem coverFull (p3 p2 p1 p0 : Vec F S1024x1024 .f32) (y : S1024x4096.Idx) :
    ∃ pc ∈ ([⟨ra3, p3⟩, ⟨ra2, p2⟩, ⟨ra1, p1⟩, ⟨ra0, p0⟩] : List (View.Piece (Elt F) S1024x4096 .f32)), y ∈ pc.1.set :=
  View.cover_of_tiled [⟨ra3, p3⟩, ⟨ra2, p2⟩, ⟨ra1, p1⟩, ⟨ra0, p0⟩] ![1024, 1024] (by rfl) y

/-- A load from a strip does not see an earlier write of a strip left of it. -/
theorem readCov_left {sp : Space} (m : View sig .tc sp S1024x4096 .f32) (off sz off' sz' : Fin 2 → Nat)
    (hin : ∀ a, off a + sz a ≤ S1024x4096.size a) (hin' : ∀ a, off' a + sz' a ≤ S1024x4096.size a)
    (w : (Rect.unit (s := S1024x4096) off sz hin).shape.Idx → Elt F .f32) (L : List (View.Piece (Elt F) S1024x4096 .f32))
    (h : off 1 + sz 1 ≤ off' 1) :
    m.readCov (⟨Rect.unit (s := S1024x4096) off sz hin, w⟩ :: L) (Rect.unit (s := S1024x4096) off' sz' hin').toLoadRect
      = m.readCov L (Rect.unit (s := S1024x4096) off' sz' hin').toLoadRect := by
  refine View.readCov_cons_of_disjoint m _ L _ (Finset.disjoint_left.mpr fun y h1 h2 => ?_)
  replace h1 : y ∈ (Rect.unit (s := S1024x4096) off sz hin).set := h1
  rw [Rect.mem_set_unit] at h1 h2
  have e1 := h1 (1 : Fin 2)
  have e2 := h2 (1 : Fin 2)
  omega
/-- After the zeroing write alone, a load reads zeros. -/
theorem readCov_zero {sp : Space} (m : View sig .tc sp S1024x4096 .f32) (hin : ∀ a, (![0, 0] : Fin 2 → Nat) a + (![1024, 4096] : Fin 2 → Nat) a ≤ S1024x4096.size a)
    (w : Vec F S1024x4096 .f32) (r : Rect S1024x4096) :
    m.readCov [⟨Rect.unit (s := S1024x4096) ![0, 0] ![1024, 4096] hin, w⟩] r.toLoadRect = View.ld w r := by
  rw [View.readCov_eq_canon']
  exact congrArg (fun d : Vec F S1024x4096 .f32 => View.ld d r) (View.canon_unit_zero (S := S1024x4096) hz2 _ w)

theorem cover6 (p : Vec F S512x1024 .fp8e4m3) (y : S512x1024.Idx) :
    ∃ pc ∈ ([⟨rdy, p⟩] : List (View.Piece (Elt F) S512x1024 .fp8e4m3)), y ∈ pc.1.set :=
  View.cover_of_tiled [⟨rdy, p⟩] S512x1024.size (by rfl) y
theorem cover7 (p : Vec F S1x16x1024 .i8) (y : S1x16x1024.Idx) :
    ∃ pc ∈ ([⟨rsc, p⟩] : List (View.Piece (Elt F) S1x16x1024 .i8)), y ∈ pc.1.set :=
  View.cover_of_tiled [⟨rsc, p⟩] S1x16x1024.size (by rfl) y

/-- An earlier write under covering ones is not read. -/
theorem cover_more {S : Shape} {e : EltTy} {L : List (View.Piece (Elt F) S e)} {q : View.Piece (Elt F) S e} {y : S.Idx}
    (h : ∃ p ∈ L, y ∈ p.1.set) : ∃ p ∈ L ++ [q], y ∈ p.1.set := by
  obtain ⟨p, hp, hy⟩ := h
  exact ⟨p, List.mem_append_left _ hp, hy⟩
theorem canon_more {S : Shape} {e : EltTy} (L : List (View.Piece (Elt F) S e)) (q : View.Piece (Elt F) S e) (y : S.Idx)
    (h : ∃ p ∈ L, y ∈ p.1.set) : View.canon (L ++ [q]) y = View.canon L y := by
  induction L with
  | nil => obtain ⟨_, hp, _⟩ := h; exact absurd hp List.not_mem_nil
  | cons a L ih =>
    by_cases ha : y ∈ a.1.set
    · obtain ⟨r, w⟩ := a
      obtain ⟨x, rfl⟩ : ∃ x, r.emb x = y := r.exists_idx_of_mem ha
      rw [List.cons_append, View.canon_cons_emb, View.canon_cons_emb]
    · rw [List.cons_append, View.canon_cons_of_not_mem _ _ ha, View.canon_cons_of_not_mem _ _ ha]
      refine ih ?_
      obtain ⟨p, hp, hy⟩ := h
      rcases List.mem_cons.mp hp with rfl | hp
      · exact absurd hy ha
      · exact ⟨p, hp, hy⟩
theorem cover_more4 {S : Shape} {e : EltTy} {a b c d q : View.Piece (Elt F) S e} {y : S.Idx}
    (h : ∃ p ∈ [a, b, c, d], y ∈ p.1.set) : ∃ p ∈ [a, b, c, d, q], y ∈ p.1.set := cover_more h
theorem canon_more4 {S : Shape} {e : EltTy} {a b c d q : View.Piece (Elt F) S e} (y : S.Idx)
    (h : ∃ p ∈ [a, b, c, d], y ∈ p.1.set) : View.canon [a, b, c, d, q] y = View.canon [a, b, c, d] y :=
  canon_more [a, b, c, d] q y h
theorem coverFull4 (p3 p2 p1 p0 : Vec F S1024x1024 .f32) (q : View.Piece (Elt F) S1024x4096 .f32) (y : S1024x4096.Idx) :
    ∃ pc ∈ ([⟨ra3, p3⟩, ⟨ra2, p2⟩, ⟨ra1, p1⟩, ⟨ra0, p0⟩, q] : List (View.Piece (Elt F) S1024x4096 .f32)), y ∈ pc.1.set :=
  cover_more (L := [⟨ra3, p3⟩, ⟨ra2, p2⟩, ⟨ra1, p1⟩, ⟨ra0, p0⟩]) (coverFull p3 p2 p1 p0 y)
theorem canon4 (p3 p2 p1 p0 : Vec F S1024x1024 .f32) (q : View.Piece (Elt F) S1024x4096 .f32) :
    View.canon ([⟨ra3, p3⟩, ⟨ra2, p2⟩, ⟨ra1, p1⟩, ⟨ra0, p0⟩, q] : List (View.Piece (Elt F) S1024x4096 .f32))
      = View.canon ([⟨ra3, p3⟩, ⟨ra2, p2⟩, ⟨ra1, p1⟩, ⟨ra0, p0⟩] : List (View.Piece (Elt F) S1024x4096 .f32)) :=
  funext fun y => canon_more [⟨ra3, p3⟩, ⟨ra2, p2⟩, ⟨ra1, p1⟩, ⟨ra0, p0⟩] q y (coverFull p3 p2 p1 p0 y)

/-! ## The last block, 768 columns of it inside the array -/

/-- As `expo`, `inv`, `deq` on the 768 columns. -/
def expoL (v : Vec F S512x768 .bf16) : IVec S16x768 32 := k0_pay21 (k0_pay18 v) (k0_pay19 v) k0_pay20
def invL (v : Vec F S512x768 .bf16) : FVec F S16x768 .bf16 := k0_pay23 (k0_pay18 v) (k0_pay19 v) k0_pay20
def deqL (v : Vec F S512x768 .bf16) : Vec F S512x768 .bf16 := k0_pay25 v (expoL v) (invL v)
def scalesL (v : Vec F S512x768 .bf16) : Vec F S1x16x768 .i8 := k0_pay22 (k0_pay18 v) (k0_pay19 v) k0_pay20
def codesL (v : Vec F S512x768 .bf16) : Vec F S512x768 .fp8e4m3 := k0_pay24 v (invL v)
def accL0 (v : Vec F S512x768 .bf16) (x : Vec F S512x4096 .fp8e4m3) (s : Vec F S1x16x4096 .i8) (o : Vec F S1024x4096 .f32) : Vec F S768x1024 .f32 :=
  k0_pay26 v (expoL v) (invL v) (View.ld x rx0) (View.ld s rs0) (View.ld o rb0)
def accL1 (v : Vec F S512x768 .bf16) (x : Vec F S512x4096 .fp8e4m3) (s : Vec F S1x16x4096 .i8) (o : Vec F S1024x4096 .f32) : Vec F S768x1024 .f32 :=
  k0_pay27 (deqL v) (View.ld x rx1) (View.ld s rs1) (View.ld o rb1)
def accL2 (v : Vec F S512x768 .bf16) (x : Vec F S512x4096 .fp8e4m3) (s : Vec F S1x16x4096 .i8) (o : Vec F S1024x4096 .f32) : Vec F S768x1024 .f32 :=
  k0_pay4 (k0_pay28 (View.ld o rb2)) (k0_pay29 (deqL v) (View.ld x rx2) (View.ld s rs2))
def accL3 (v : Vec F S512x768 .bf16) (x : Vec F S512x4096 .fp8e4m3) (s : Vec F S1x16x4096 .i8) (o : Vec F S1024x4096 .f32) : Vec F S768x1024 .f32 :=
  k0_pay5 (deqL v) (View.ld x rx3) (View.ld s rs3) (View.ld o rb3)
/-- The writes of the step, last first: they say what the accumulator holds on its first 768 rows. -/
abbrev piecesL (v : Vec F S512x768 .bf16) (x : Vec F S512x4096 .fp8e4m3) (s : Vec F S1x16x4096 .i8) (o : Vec F S1024x4096 .f32) : List (View.Piece (Elt F) S1024x4096 .f32) :=
  [⟨rb3, accL3 v x s o⟩, ⟨rb2, accL2 v x s o⟩, ⟨rb1, accL1 v x s o⟩, ⟨rb0, accL0 v x s o⟩]
/-- Contents agreeing with the writes `L` wherever one of them reaches. -/
def Agrees {S : Shape} {e : EltTy} (L : List (View.Piece (Elt F) S e)) (d : S.Idx → Elt F e) : Prop :=
  ∀ y, (∃ p ∈ L, y ∈ p.1.set) → d y = View.canon L y

/-! ## The four steps -/

set_option maxHeartbeats 4000000 in
/-- A full block, added to the accumulator. -/
theorem step_full (c : Dev nD) (E : Set ℕ) (i : grid0.Coords) (h1 : ¬ k0_cond1 i = 1#1) (h2 : k0_cond2 i = 1#1) (h3 : ¬ k0_cond3 i = 1#1)
    (arg2 : Memref sig .tc .vmem S512x1024 .bf16) (harg2 : arg2.IsWhole) (arg3 : Memref sig .tc .vmem S512x4096 .fp8e4m3) (harg3 : arg3.IsWhole) (arg4 : Memref sig .tc .vmem S1x16x4096 .i8) (harg4 : arg4.IsWhole) (arg5 : Memref sig .tc .vmem S1024x4096 .f32) (harg5 : arg5.IsWhole) (arg6 : Memref sig .tc .vmem S512x1024 .fp8e4m3) (harg6 : arg6.IsWhole) (arg7 : Memref sig .tc .vmem S1x16x1024 .i8) (harg7 : arg7.IsWhole)
    (v : Vec F S512x1024 .bf16) (x : Vec F S512x4096 .fp8e4m3) (s : Vec F S1x16x4096 .i8) (o : Vec F S1024x4096 .f32) (K : PUnit → sProp 𝕄) :
    iprop(owns (c : Thread nD τ) arg2 fullShare v ∗ owns (c : Thread nD τ) arg3 fullShare x ∗ owns (c : Thread nD τ) arg4 fullShare s ∗ owns (c : Thread nD τ) arg5 fullShare o ∗ (∃ d, owns (c : Thread nD τ) arg6 fullShare d) ∗ (∃ d, owns (c : Thread nD τ) arg7 fullShare d)
        ∗ (iprop(owns (c : Thread nD τ) arg2 fullShare v ∗ owns (c : Thread nD τ) arg3 fullShare x ∗ owns (c : Thread nD τ) arg4 fullShare s ∗ owns (c : Thread nD τ) arg5 fullShare (accFull v x s o) ∗ owns (c : Thread nD τ) arg6 fullShare (codes v) ∗ owns (c : Thread nD τ) arg7 fullShare (scales v)) -∗ K ⟨⟩))
      ⊢ wp frame (wpE (defs₀ (F := F)) Variants.none c none) E (cc0_wgrad i arg2 harg2 arg3 harg3 arg4 harg4 arg5 harg5 arg6 harg6 arg7 harg7) K := by
  simp only [cc0_wgrad_eq_skeleton]; unfold cc0_wgrad_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (coverFull _ _ _ _)]
    sl_unfold_words

    unfold accFull acc0 acc1 acc2 acc3 deq expo inv

    simp only [View.readAt_eq_ld, View.ld_unit_zero (S := S512x1024) hz2]
  isplitl [H4]
  · iexists _; isplitr
    swap; · iexact H4
    ipureintro
    rw [View.read_writes_eq_canon _ _ _ (cover6 _)]
    sl_unfold_words
    unfold codes inv
    simp only [View.readAt_eq_ld, View.ld_unit_zero (S := S512x1024) hz2]
    exact View.canon_unit_zero (S := S512x1024) hz2 _ _
  iexists _; isplitr
  swap; · iexact H5
  ipureintro
  rw [View.read_writes_eq_canon _ _ _ (cover7 _)]
  sl_unfold_words
  unfold scales
  simp only [View.readAt_eq_ld, View.ld_unit_zero (S := S512x1024) hz2]
  exact View.canon_unit_zero (S := S1x16x1024) hz3 _ _

set_option maxHeartbeats 4000000 in
/-- A full block at the first point of its column, where the accumulator is zeroed first. -/
theorem step_full_zero (c : Dev nD) (E : Set ℕ) (i : grid0.Coords) (h1 : k0_cond1 i = 1#1) (h2 : k0_cond2 i = 1#1) (h3 : ¬ k0_cond3 i = 1#1)
    (arg2 : Memref sig .tc .vmem S512x1024 .bf16) (harg2 : arg2.IsWhole) (arg3 : Memref sig .tc .vmem S512x4096 .fp8e4m3) (harg3 : arg3.IsWhole) (arg4 : Memref sig .tc .vmem S1x16x4096 .i8) (harg4 : arg4.IsWhole) (arg5 : Memref sig .tc .vmem S1024x4096 .f32) (harg5 : arg5.IsWhole) (arg6 : Memref sig .tc .vmem S512x1024 .fp8e4m3) (harg6 : arg6.IsWhole) (arg7 : Memref sig .tc .vmem S1x16x1024 .i8) (harg7 : arg7.IsWhole)
    (v : Vec F S512x1024 .bf16) (x : Vec F S512x4096 .fp8e4m3) (s : Vec F S1x16x4096 .i8) (K : PUnit → sProp 𝕄) :
    iprop(owns (c : Thread nD τ) arg2 fullShare v ∗ owns (c : Thread nD τ) arg3 fullShare x ∗ owns (c : Thread nD τ) arg4 fullShare s ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare v ∗ owns (c : Thread nD τ) arg3 fullShare x ∗ owns (c : Thread nD τ) arg4 fullShare s ∗ owns (c : Thread nD τ) arg5 fullShare (accFull v x s k0_pay1) ∗ owns (c : Thread nD τ) arg6 fullShare (codes v) ∗ owns (c : Thread nD τ) arg7 fullShare (scales v)) -∗ K ⟨⟩))
      ⊢ wp frame (wpE (defs₀ (F := F)) Variants.none c none) E (cc0_wgrad i arg2 harg2 arg3 harg3 arg4 harg4 arg5 harg5 arg6 harg6 arg7 harg7) K := by
  simp only [cc0_wgrad_eq_skeleton]; unfold cc0_wgrad_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro

    sl_unfold_words
    rw [View.read_writes_eq_canon _ _ _ (coverFull4 _ _ _ _ _)]
    unfold accFull acc0 acc1 acc2 acc3 deq expo inv
    rw [canon4]
    simp (disch := decide) only [readCov_left, readCov_zero, View.readAt_eq_ld, View.ld_unit_zero (S := S512x1024) hz2]
  isplitl [H4]
  · iexists _; isplitr
    swap; · iexact H4
    ipureintro
    rw [View.read_writes_eq_canon _ _ _ (cover6 _)]
    sl_unfold_words
    unfold codes inv
    simp only [View.readAt_eq_ld, View.ld_unit_zero (S := S512x1024) hz2]
    exact View.canon_unit_zero (S := S512x1024) hz2 _ _
  iexists _; isplitr
  swap; · iexact H5
  ipureintro
  rw [View.read_writes_eq_canon _ _ _ (cover7 _)]
  sl_unfold_words
  unfold scales
  simp only [View.readAt_eq_ld, View.ld_unit_zero (S := S512x1024) hz2]
  exact View.canon_unit_zero (S := S1x16x1024) hz3 _ _

set_option maxHeartbeats 4000000 in
/-- The last block, added to the accumulator. -/
theorem step_last (c : Dev nD) (E : Set ℕ) (i : grid0.Coords) (h1 : ¬ k0_cond1 i = 1#1) (h2 : ¬ k0_cond2 i = 1#1) (h3 : k0_cond3 i = 1#1)
    (arg2 : Memref sig .tc .vmem S512x1024 .bf16) (harg2 : arg2.IsWhole) (arg3 : Memref sig .tc .vmem S512x4096 .fp8e4m3) (harg3 : arg3.IsWhole) (arg4 : Memref sig .tc .vmem S1x16x4096 .i8) (harg4 : arg4.IsWhole) (arg5 : Memref sig .tc .vmem S1024x4096 .f32) (harg5 : arg5.IsWhole) (arg6 : Memref sig .tc .vmem S512x1024 .fp8e4m3) (harg6 : arg6.IsWhole) (arg7 : Memref sig .tc .vmem S1x16x1024 .i8) (harg7 : arg7.IsWhole)
    (v : Vec F S512x1024 .bf16) (x : Vec F S512x4096 .fp8e4m3) (s : Vec F S1x16x4096 .i8) (o : Vec F S1024x4096 .f32) (K : PUnit → sProp 𝕄) :
    iprop(owns (c : Thread nD τ) arg2 fullShare v ∗ owns (c : Thread nD τ) arg3 fullShare x ∗ owns (c : Thread nD τ) arg4 fullShare s ∗ owns (c : Thread nD τ) arg5 fullShare o ∗ (∃ d, owns (c : Thread nD τ) arg6 fullShare d) ∗ (∃ d, owns (c : Thread nD τ) arg7 fullShare d)
        ∗ (iprop(owns (c : Thread nD τ) arg2 fullShare v ∗ owns (c : Thread nD τ) arg3 fullShare x ∗ owns (c : Thread nD τ) arg4 fullShare s ∗ (∃ d, ⌜Agrees (piecesL (View.ld v rdyL) x s o) d⌝ ∗ owns (c : Thread nD τ) arg5 fullShare d) ∗ (∃ d, ⌜Agrees [⟨rdyL, codesL (View.ld v rdyL)⟩] d⌝ ∗ owns (c : Thread nD τ) arg6 fullShare d) ∗ (∃ d, ⌜Agrees [⟨rscL, scalesL (View.ld v rdyL)⟩] d⌝ ∗ owns (c : Thread nD τ) arg7 fullShare d)) -∗ K ⟨⟩))
      ⊢ wp frame (wpE (defs₀ (F := F)) Variants.none c none) E (cc0_wgrad i arg2 harg2 arg3 harg3 arg4 harg4 arg5 harg5 arg6 harg6 arg7 harg7) K := by
  simp only [cc0_wgrad_eq_skeleton]; unfold cc0_wgrad_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap
    · iexists _; isplitr
      swap; · iexact H3
      ipureintro; rfl
    ipureintro
    intro y hy
    sl_unfold_words
    unfold piecesL accL0 accL1 accL2 accL3 deqL expoL invL at *
    simp only [View.readAt_eq_ld] at *
    exact View.read_writes_apply_eq_canon _ _ y _ hy
  isplitl [H4]
  · iexists _; isplitr
    swap
    · iexists _; isplitr
      swap; · iexact H4
      ipureintro; rfl
    ipureintro
    intro y hy
    sl_unfold_words
    unfold codesL invL at *
    simp only [View.readAt_eq_ld] at *
    exact View.read_writes_apply_eq_canon _ _ y _ hy
  · iexists _; isplitr
    swap
    · iexists _; isplitr
      swap; · iexact H5
      ipureintro; rfl
    ipureintro
    intro y hy
    sl_unfold_words
    unfold scalesL at *
    simp only [View.readAt_eq_ld] at *
    exact View.read_writes_apply_eq_canon _ _ y _ hy

set_option maxHeartbeats 4000000 in
/-- The last block at the first point of its column. -/
theorem step_last_zero (c : Dev nD) (E : Set ℕ) (i : grid0.Coords) (h1 : k0_cond1 i = 1#1) (h2 : ¬ k0_cond2 i = 1#1) (h3 : k0_cond3 i = 1#1)
    (arg2 : Memref sig .tc .vmem S512x1024 .bf16) (harg2 : arg2.IsWhole) (arg3 : Memref sig .tc .vmem S512x4096 .fp8e4m3) (harg3 : arg3.IsWhole) (arg4 : Memref sig .tc .vmem S1x16x4096 .i8) (harg4 : arg4.IsWhole) (arg5 : Memref sig .tc .vmem S1024x4096 .f32) (harg5 : arg5.IsWhole) (arg6 : Memref sig .tc .vmem S512x1024 .fp8e4m3) (harg6 : arg6.IsWhole) (arg7 : Memref sig .tc .vmem S1x16x1024 .i8) (harg7 : arg7.IsWhole)
    (v : Vec F S512x1024 .bf16) (x : Vec F S512x4096 .fp8e4m3) (s : Vec F S1x16x4096 .i8) (K : PUnit → sProp 𝕄) :
    iprop(owns (c : Thread nD τ) arg2 fullShare v ∗ owns (c : Thread nD τ) arg3 fullShare x ∗ owns (c : Thread nD τ) arg4 fullShare s ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare v ∗ owns (c : Thread nD τ) arg3 fullShare x ∗ owns (c : Thread nD τ) arg4 fullShare s ∗ (∃ d, ⌜Agrees (piecesL (View.ld v rdyL) x s k0_pay1) d⌝ ∗ owns (c : Thread nD τ) arg5 fullShare d) ∗ (∃ d, ⌜Agrees [⟨rdyL, codesL (View.ld v rdyL)⟩] d⌝ ∗ owns (c : Thread nD τ) arg6 fullShare d) ∗ (∃ d, ⌜Agrees [⟨rscL, scalesL (View.ld v rdyL)⟩] d⌝ ∗ owns (c : Thread nD τ) arg7 fullShare d)) -∗ K ⟨⟩))
      ⊢ wp frame (wpE (defs₀ (F := F)) Variants.none c none) E (cc0_wgrad i arg2 harg2 arg3 harg3 arg4 harg4 arg5 harg5 arg6 harg6 arg7 harg7) K := by
  simp only [cc0_wgrad_eq_skeleton]; unfold cc0_wgrad_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap
    · iexists _; isplitr
      swap; · iexact H3
      ipureintro; rfl
    ipureintro
    intro y hy
    sl_unfold_words
    unfold piecesL accL0 accL1 accL2 accL3 deqL expoL invL at *
    simp (disch := decide) only [readCov_left, readCov_zero, View.readAt_eq_ld] at *
    rw [View.read_writes_apply_eq_canon _ _ y _ (cover_more4 hy)]; exact canon_more4 y hy
  isplitl [H4]
  · iexists _; isplitr
    swap
    · iexists _; isplitr
      swap; · iexact H4
      ipureintro; rfl
    ipureintro
    intro y hy
    sl_unfold_words
    unfold codesL invL at *
    simp only [View.readAt_eq_ld] at *
    exact View.read_writes_apply_eq_canon _ _ y _ hy
  · iexists _; isplitr
    swap
    · iexists _; isplitr
      swap; · iexact H5
      ipureintro; rfl
    ipureintro
    intro y hy
    sl_unfold_words
    unfold scalesL at *
    simp only [View.readAt_eq_ld] at *
    exact View.read_writes_apply_eq_canon _ _ y _ hy

end Cert.Wgrad.Run

end
-- ==== Proof.WgradRun.lean ====
/- The whole run of the weight-gradient kernel: what each buffer holds after every grid point (the accumulator as a
   recursion over the points), the pipeline's obligation for the body, and the run of the program from any memory. -/
module

public import proofs.«01_k».proof.Proof.WgradBody
public import Idealize.ShloMosaic.Lib.Pipeline.KitQuiescent
public import Idealize.ShloMosaic.Lib.Claim
public import Idealize.ShloMosaic.Lib.Pipeline.Covers
public import Idealize.ShloMosaic.Lib.Pipeline.ValueKit.Tiles

@[expose] public section

set_option maxRecDepth 16384

noncomputable section

namespace Cert.Wgrad.Run

open Cert.Wgrad Cert.Wgrad.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

theorem cond1_iff : ∀ t : Fin cfg0.N, (k0_cond1 (grid0.coords t) = 1#1 ↔ t.val % 32 = 0) := by decide +kernel
theorem cond2_iff : ∀ t : Fin cfg0.N, (k0_cond2 (grid0.coords t) = 1#1 ↔ t.val < 320) := by decide +kernel
theorem cond3_iff : ∀ t : Fin cfg0.N, (k0_cond3 (grid0.coords t) = 1#1 ↔ ¬ t.val < 320) := by decide +kernel

/-- The part of each cut block that lies in its array. -/
theorem xs0 : ∀ t : Fin cfg0.N, win0_0.xsize (grid0.coords t) 0 = 512
    ∧ win0_0.xsize (grid0.coords t) 1 = if t.val < 320 then 1024 else 768 := by decide +kernel
theorem xs3 : ∀ t : Fin cfg0.N, win0_3.xsize (grid0.coords t) 1 = 4096
    ∧ win0_3.xsize (grid0.coords t) 0 = if t.val < 320 then 1024 else 768 := by decide +kernel
theorem xs4 : ∀ t : Fin cfg0.N, win0_4.xsize (grid0.coords t) 0 = 512
    ∧ win0_4.xsize (grid0.coords t) 1 = if t.val < 320 then 1024 else 768 := by decide +kernel
theorem xs5 : ∀ t : Fin cfg0.N, win0_5.xsize (grid0.coords t) 0 = 1 ∧ win0_5.xsize (grid0.coords t) 1 = 16
    ∧ win0_5.xsize (grid0.coords t) 2 = if t.val < 320 then 1024 else 768 := by decide +kernel

/-- No output is left unwritten at any point. -/
theorem idle_false (t : Fin cfg0.N) (w : Fin cfg0.W) : cfg0.idle w (grid0.coords t) = false := by
  have h2 := cond2_iff t
  have h3 := cond3_iff t
  match w with
  | ⟨0, _⟩ => rfl
  | ⟨1, _⟩ => rfl
  | ⟨2, _⟩ => rfl
  | ⟨3, _⟩ =>
    show (!(k0_cond1 (grid0.coords t) == 1#1) && !(k0_cond2 (grid0.coords t) == 1#1) && !(k0_cond3 (grid0.coords t) == 1#1)) = false
    by_cases h : t.val < 320
    · rw [h2.mpr h]; simp
    · rw [h3.mpr h]; simp
  | ⟨4, _⟩ =>
    show (!(k0_cond2 (grid0.coords t) == 1#1) && !(k0_cond3 (grid0.coords t) == 1#1)) = false
    by_cases h : t.val < 320
    · rw [h2.mpr h]; simp
    · rw [h3.mpr h]; simp
  | ⟨5, _⟩ =>
    show (!(k0_cond2 (grid0.coords t) == 1#1) && !(k0_cond3 (grid0.coords t) == 1#1)) = false
    by_cases h : t.val < 320
    · rw [h2.mpr h]; simp
    · rw [h3.mpr h]; simp

/-! ## What the buffers hold -/

/-- The gradient block of point `t`, zeros where it overhangs the array. -/
def gblk (c : Dev nD) (t : Fin cfg0.N) : Vec F S512x1024 .bf16 :=
  win0_0.fill (grid0.coords t) (fun _ => Scalar.ofBits .bf16 0#16) (iblk m c 0 t)
/-- The activation codes and scales of point `t`. -/
abbrev xblk (c : Dev nD) (t : Fin cfg0.N) : Vec F S512x4096 .fp8e4m3 := iblk m c 1 t
abbrev sblk (c : Dev nD) (t : Fin cfg0.N) : Vec F S1x16x4096 .i8 := iblk m c 2 t

/-- The accumulator after the body at point `t`, from what the point starts with. -/
def accStep (c : Dev nD) (t : Fin cfg0.N) (o : Vec F S1024x4096 .f32) : Vec F S1024x4096 .f32 :=
  if t.val < 320 then accFull (gblk m c t) (xblk m c t) (sblk m c t) o
  else View.canon (piecesL (View.ld (gblk m c t) rdyL) (xblk m c t) (sblk m c t) o)

/-- The accumulator after point `n`: started from zeros at the first point of every column block. -/
def accAt (c : Dev nD) : (n : ℕ) → n < cfg0.N → Vec F S1024x4096 .f32
  | 0, h => accStep m c ⟨0, h⟩ k0_pay1
  | n + 1, h => accStep m c ⟨n + 1, h⟩ (if (n + 1) % 32 = 0 then k0_pay1 else accAt c n (Nat.lt_of_succ_lt h))

/-- The codes and scales of point `t`. -/
def codesAt (c : Dev nD) (t : Fin cfg0.N) : Vec F S512x1024 .fp8e4m3 :=
  if t.val < 320 then codes (gblk m c t) else View.canon [⟨rdyL, codesL (View.ld (gblk m c t) rdyL)⟩]
def scalesAt (c : Dev nD) (t : Fin cfg0.N) : Vec F S1x16x1024 .i8 :=
  if t.val < 320 then scales (gblk m c t) else View.canon [⟨rscL, scalesL (View.ld (gblk m c t) rdyL)⟩]

/-- The proof data: arrays as the region finds them, every buffer as above. -/
def dats (_ : Fin 1) (c : Dev nD) : Dat τ (Elt F) Unit ℕ (UR sig nD τ) ℕ cfg0 c where
  A w := V m c (Pipeline.arrRef spec0 w)
  after w t := match w with
    | ⟨0, _⟩ => gblk m c t
    | ⟨1, _⟩ => iblk m c 1 t
    | ⟨2, _⟩ => iblk m c 2 t
    | ⟨3, _⟩ => accAt m c t.val t.isLt
    | ⟨4, _⟩ => codesAt m c t
    | ⟨5, _⟩ => scalesAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = gblk m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = accAt m c t.val t.isLt := by dsimp only [dats]
theorem after0_4 (c : Dev nD) (t : Fin cfg0.N) : (dats m 0 c).after 4 t = codesAt m c t := by dsimp only [dats]
theorem after0_5 (c : Dev nD) (t : Fin cfg0.N) : (dats m 0 c).after 5 t = scalesAt m c t := by dsimp only [dats]

theorem before0_0 (c : Dev nD) (t : Fin cfg0.N) (d) :
    (dats m 0 c).before 0 t d = win0_0.fill (grid0.coords t) d (iblk m c 0 t) := by
  rw [Dat.before_fetched _ _ _ (fetch0_0 t)]
  unfold Dat.fetched Dat.blockOf iblk; rw [A_eq]
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- Past the first point of a column block the accumulator is what the point before left. -/
theorem before0_3 (c : Dev nD) (t : Fin cfg0.N) (ht : ¬ t.val % 32 = 0) (d) :
    (dats m 0 c).before 3 t d = win0_3.fill (grid0.coords ⟨t.val - 1, Nat.lt_of_le_of_lt (Nat.sub_le _ _) t.isLt⟩) d
      (win0_3.cut (grid0.coords ⟨t.val - 1, Nat.lt_of_le_of_lt (Nat.sub_le _ _) t.isLt⟩)
        (accAt m c (t.val - 1) (Nat.lt_of_le_of_lt (Nat.sub_le _ _) t.isLt))) := by
  rw [Dat.before_out_acc _ 3 rfl t (by omega) (by
    rw [Bool.eq_false_iff]; intro h; have := (flush0_3 _).mp h; dsimp only at this; omega)
    (fun i => by
      obtain ⟨t', rfl⟩ := Pipeline.Grid.coords_surjective grid0 i
      exact idle_false t' 3)]
  unfold Dat.kept; rw [after0_3]

/-! ## Reading through the cuts -/

theorem gfull (c : Dev nD) (t : Fin cfg0.N) (h : t.val < 320) (d) :
    win0_0.fill (grid0.coords t) d (iblk m c 0 t) = gblk m c t := by
  funext y
  have hm : win0_0.moved (grid0.coords t) y = true := (win0_0.moved_iff _ y).mpr fun a => by
    match a with
    | ⟨0, _⟩ => exact (xs0 t).1 ▸ (y 0).isLt
    | ⟨1, _⟩ => have := (xs0 t).2; rw [if_pos h] at this; exact this ▸ (y 1).isLt
  unfold gblk Window.fill; rw [dif_pos hm, dif_pos hm]

theorem glast (c : Dev nD) (t : Fin cfg0.N) (h : ¬ t.val < 320) (d) :
    View.ld (Val := Elt F) (e' := .bf16) (win0_0.fill (grid0.coords t) d (iblk m c 0 t)) rdyL = View.ld (gblk m c t) rdyL := by
  funext y
  have hm : win0_0.moved (grid0.coords t) (rdyL.idx y) = true := (win0_0.moved_iff _ _).mpr fun a => by
    match a with
    | ⟨0, _⟩ => exact (xs0 t).1 ▸ ((rdyL.idx y) 0).isLt
    | ⟨1, _⟩ =>
      have := (xs0 t).2; rw [if_neg h] at this
      have hy : (y 1).val < 768 := (y 1).isLt
      refine this ▸ ?_
      rw [Rect.idx_unit_val]
      show 0 + (y 1).val < 768
      omega
  show win0_0.fill (grid0.coords t) d (iblk m c 0 t) (rdyL.idx y) = gblk m c t (rdyL.idx y)
  unfold gblk Window.fill; rw [dif_pos hm, dif_pos hm]

theorem afull (t : Fin cfg0.N) (h : t.val < 320) (d o : Vec F S1024x4096 .f32) :
    win0_3.fill (grid0.coords t) d (win0_3.cut (grid0.coords t) o) = o := by
  funext y
  have hm : win0_3.moved (grid0.coords t) y = true := (win0_3.moved_iff _ y).mpr fun a => by
    match a with
    | ⟨0, _⟩ => have := (xs3 t).2; rw [if_pos h] at this; exact this ▸ (y 0).isLt
    | ⟨1, _⟩ => exact (xs3 t).1 ▸ (y 1).isLt
  unfold Window.fill; rw [dif_pos hm]

theorem alast (t : Fin cfg0.N) (h : ¬ t.val < 320) (d o : Vec F S1024x4096 .f32) (r : Rect S1024x4096)
    (hr : ∀ y, ((r.idx y) 0).val < 768) :
    View.ld (Val := Elt F) (e' := .f32) (win0_3.fill (grid0.coords t) d (win0_3.cut (grid0.coords t) o)) r = View.ld o r := by
  funext y
  have hm : win0_3.moved (grid0.coords t) (r.idx y) = true := (win0_3.moved_iff _ _).mpr fun a => by
    match a with
    | ⟨0, _⟩ => have := (xs3 t).2; rw [if_neg h] at this; exact this ▸ hr y
    | ⟨1, _⟩ => exact (xs3 t).1 ▸ ((r.idx y) 1).isLt
  show win0_3.fill (grid0.coords t) d (win0_3.cut (grid0.coords t) o) (r.idx y) = o (r.idx y)
  unfold Window.fill; rw [dif_pos hm]; rfl

/-- The last block's writes read the accumulator on its first 768 rows only. -/
theorem pieces_congr (v : Vec F S512x768 .bf16) (x : Vec F S512x4096 .fp8e4m3) (s : Vec F S1x16x4096 .i8) (o o' : Vec F S1024x4096 .f32)
    (h : ∀ r : Rect S1024x4096, (∀ y, ((r.idx y) 0).val < 768) → View.ld (Val := Elt F) (e' := .f32) o r = View.ld o' r) :
    piecesL v x s o = piecesL v x s o' := by
  have h0 := h rb0 fun y => by
    rw [Rect.idx_unit_val]; have hy : (y 0).val < 768 := (y 0).isLt; show 0 + (y 0).val < 768; omega
  have h1 := h rb1 fun y => by
    rw [Rect.idx_unit_val]; have hy : (y 0).val < 768 := (y 0).isLt; show 0 + (y 0).val < 768; omega
  have h2 := h rb2 fun y => by
    rw [Rect.idx_unit_val]; have hy : (y 0).val < 768 := (y 0).isLt; show 0 + (y 0).val < 768; omega
  have h3 := h rb3 fun y => by
    rw [Rect.idx_unit_val]; have hy : (y 0).val < 768 := (y 0).isLt; show 0 + (y 0).val < 768; omega
  unfold piecesL accL0 accL1 accL2 accL3
  rw [h0, h1, h2, h3]

/-- Its writes cover those rows. -/
theorem coverL (p3 p2 p1 p0 : Vec F S768x1024 .f32) (y : S1024x4096.Idx) (hy : (y 0).val < 768) :
    ∃ p ∈ ([⟨rb3, p3⟩, ⟨rb2, p2⟩, ⟨rb1, p1⟩, ⟨rb0, p0⟩] : List (View.Piece (Elt F) S1024x4096 .f32)), y ∈ p.1.set := by
  have hy1 : (y 1).val < 4096 := (y 1).isLt
  by_cases h1 : (y 1).val < 1024
  · refine ⟨⟨rb0, p0⟩, by simp, ?_⟩
    show y ∈ (rb0).set
    rw [Rect.mem_set_unit]; intro a
    match a with
    | ⟨0, _⟩ => exact ⟨Nat.zero_le _, show (y 0).val < 0 + 768 by omega⟩
    | ⟨1, _⟩ => exact ⟨Nat.zero_le _, show (y 1).val < 0 + 1024 by omega⟩
  by_cases h2 : (y 1).val < 2048
  · refine ⟨⟨rb1, p1⟩, by simp, ?_⟩
    show y ∈ (rb1).set
    rw [Rect.mem_set_unit]; intro a
    match a with
    | ⟨0, _⟩ => exact ⟨Nat.zero_le _, show (y 0).val < 0 + 768 by omega⟩
    | ⟨1, _⟩ => exact ⟨show 1024 ≤ (y 1).val by omega, show (y 1).val < 1024 + 1024 by omega⟩
  by_cases h3 : (y 1).val < 3072
  · refine ⟨⟨rb2, p2⟩, by simp, ?_⟩
    show y ∈ (rb2).set
    rw [Rect.mem_set_unit]; intro a
    match a with
    | ⟨0, _⟩ => exact ⟨Nat.zero_le _, show (y 0).val < 0 + 768 by omega⟩
    | ⟨1, _⟩ => exact ⟨show 2048 ≤ (y 1).val by omega, show (y 1).val < 2048 + 1024 by omega⟩
  · refine ⟨⟨rb3, p3⟩, by simp, ?_⟩
    show y ∈ (rb3).set
    rw [Rect.mem_set_unit]; intro a
    match a with
    | ⟨0, _⟩ => exact ⟨Nat.zero_le _, show (y 0).val < 0 + 768 by omega⟩
    | ⟨1, _⟩ => exact ⟨show 3072 ≤ (y 1).val by omega, show (y 1).val < 3072 + 1024 by omega⟩

theorem agree3 (t : Fin cfg0.N) (h : ¬ t.val < 320) (v : Vec F S512x768 .bf16) (x : Vec F S512x4096 .fp8e4m3)
    (s : Vec F S1x16x4096 .i8) (o d : Vec F S1024x4096 .f32) (ha : Agrees (piecesL v x s o) d) :
    win0_3.cut (grid0.coords t) d = win0_3.cut (grid0.coords t) (View.canon (piecesL v x s o)) := by
  funext j
  refine ha _ (coverL _ _ _ _ _ ?_)
  have := (xs3 t).2; rw [if_neg h] at this
  have hj : (j 0).val < win0_3.xsize (grid0.coords t) 0 := (j 0).isLt
  exact this ▸ hj

theorem agree4 (t : Fin cfg0.N) (h : ¬ t.val < 320) (p : Vec F S512x768 .fp8e4m3) (d : Vec F S512x1024 .fp8e4m3)
    (ha : Agrees [⟨rdyL, p⟩] d) :
    win0_4.cut (grid0.coords t) d = win0_4.cut (grid0.coords t) (View.canon [⟨rdyL, p⟩]) := by
  funext j
  refine ha _ ⟨_, List.mem_singleton.mpr rfl, ?_⟩
  show _ ∈ (rdyL).set
  rw [Rect.mem_set_unit]; intro a
  have h0 := (xs4 t).1
  have h1 := (xs4 t).2; rw [if_neg h] at h1
  match a with
  | ⟨0, _⟩ => exact ⟨Nat.zero_le _, (Nat.zero_add 512).symm ▸ h0 ▸ (j 0).isLt⟩
  | ⟨1, _⟩ => exact ⟨Nat.zero_le _, (Nat.zero_add 768).symm ▸ h1 ▸ (j 1).isLt⟩

theorem agree5 (t : Fin cfg0.N) (h : ¬ t.val < 320) (p : Vec F S1x16x768 .i8) (d : Vec F S1x16x1024 .i8)
    (ha : Agrees [⟨rscL, p⟩] d) :
    win0_5.cut (grid0.coords t) d = win0_5.cut (grid0.coords t) (View.canon [⟨rscL, p⟩]) := by
  funext j
  refine ha _ ⟨_, List.mem_singleton.mpr rfl, ?_⟩
  show _ ∈ (rscL).set
  rw [Rect.mem_set_unit]; intro a
  have h0 := (xs5 t).1
  have h1 := (xs5 t).2.1
  have h2 := (xs5 t).2.2; rw [if_neg h] at h2
  match a with
  | ⟨0, _⟩ => exact ⟨Nat.zero_le _, (Nat.zero_add 1).symm ▸ h0 ▸ (j 0).isLt⟩
  | ⟨1, _⟩ => exact ⟨Nat.zero_le _, (Nat.zero_add 16).symm ▸ h1 ▸ (j 1).isLt⟩
  | ⟨2, _⟩ => exact ⟨Nat.zero_le _, (Nat.zero_add 768).symm ▸ h2 ▸ (j 2).isLt⟩

/-! ## The body at a point -/

/-- A buffer that agrees with `after` on the part inside the array is what the obligation asks of a cut window, -/
theorem leave_loose (c : Dev nD) (t : Fin cfg0.N) (w : Fin cfg0.W) (hl : cfg0.loose w = true)
    (X : (cfg0.win w).block.Idx → Elt F (cfg0.win w).elt)
    (hX : (cfg0.win w).cut (cfg0.grid.coords t) X = (cfg0.win w).cut (cfg0.grid.coords t) ((dats m 0 c).after w t)) :
    owns (c : Thread nD τ) ((cfg0.win w).stage (cfg0.slots t w)) fullShare X ⊢ ((dats m 0 c).leaves w t : sProp 𝕄) := by
  unfold Dat.leaves
  rw [idle_false t w, hl]
  dsimp only
  iintro H; iexists X; rw [← hX, Window.fill_cut]; iexact H
/-- and one that holds `after` of an uncut one. -/
theorem leave_exact (c : Dev nD) (t : Fin cfg0.N) (w : Fin cfg0.W) (hl : cfg0.loose w = false)
    (X : (cfg0.win w).block.Idx → Elt F (cfg0.win w).elt) (hX : X = (dats m 0 c).after w t) :
    owns (c : Thread nD τ) ((cfg0.win w).stage (cfg0.slots t w)) fullShare X ⊢ ((dats m 0 c).leaves w t : sProp 𝕄) := by
  subst hX
  unfold Dat.leaves
  rw [idle_false t w, hl]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t ∗ (dats m 0 c).leaves 5 t)

theorem acc_zero (c : Dev nD) (t : Fin cfg0.N) (h : t.val % 32 = 0) : accAt m c t.val t.isLt = accStep m c t k0_pay1 := by
  obtain ⟨n, hn⟩ := t
  cases n with
  | zero => rfl
  | succ n => show accStep m c _ (if (n + 1) % 32 = 0 then _ else _) = _; rw [if_pos h]
theorem acc_succ (c : Dev nD) (t : Fin cfg0.N) (h : ¬ t.val % 32 = 0) :
    accAt m c t.val t.isLt = accStep m c t (accAt m c (t.val - 1) (Nat.lt_of_le_of_lt (Nat.sub_le _ _) t.isLt)) := by
  obtain ⟨n, hn⟩ := t
  cases n with
  | zero => exact absurd rfl h
  | succ n => show accStep m c _ (if (n + 1) % 32 = 0 then _ else _) = _; rw [if_neg h]; rfl

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  have hg : win0_0.cut (grid0.coords t) (win0_0.fill (grid0.coords t) d0 (iblk m c 0 t))
      = win0_0.cut (grid0.coords t) ((dats m 0 c).after 0 t) := by
    rw [after0_0]; unfold gblk; rw [Window.cut_fill, Window.cut_fill]
  by_cases hb : t.val < 320
  · have h2 := (cond2_iff t).mpr hb
    have h3 : ¬ k0_cond3 (grid0.coords t) = 1#1 := fun h => (cond3_iff t).mp h hb
    have e4 : codes (win0_0.fill (grid0.coords t) d0 (iblk m c 0 t)) = (dats m 0 c).after 4 t := by
      rw [after0_4, gfull m c t hb]; unfold codesAt; rw [if_pos hb]
    have e5 : scales (win0_0.fill (grid0.coords t) d0 (iblk m c 0 t)) = (dats m 0 c).after 5 t := by
      rw [after0_5, gfull m c t hb]; unfold scalesAt; rw [if_pos hb]
    by_cases ha : t.val % 32 = 0
    · have e3 : accFull (win0_0.fill (grid0.coords t) d0 (iblk m c 0 t)) (xblk m c t) (sblk m c t) k0_pay1 = (dats m 0 c).after 3 t := by
        rw [after0_3, gfull m c t hb, acc_zero m c t ha]; unfold accStep; rw [if_pos hb]
      iapply (step_full_zero c Set.univ (grid0.coords t) ((cond1_iff t).mpr ha) h2 h3 _ _ _ _ _ _ _ _ _ _ _ _ _ (xblk m c t) (sblk m c t) _)
      isplitl [H0]; · iexact H0
      isplitl [H1]; · iexact H1
      isplitl [H2]; · iexact H2
      isplitl [H3]; · iexists _; iexact H3
      isplitl [H4]; · iexists _; iexact H4
      isplitl [H5]; · iexists _; iexact H5
      iintro ⟨H0, H1, H2, H3, H4, H5⟩
      isplitl [HΦ]; · iexact HΦ
      isplitl [Ho]; · iexact Ho
      isplitl [H0]; · iapply (leave_loose m c t 0 rfl _ hg); iexact H0
      isplitl [H1]; · iapply (leave_exact m c t 1 rfl _ (after0_1 m c t).symm); iexact H1
      isplitl [H2]; · iapply (leave_exact m c t 2 rfl _ (after0_2 m c t).symm); iexact H2
      isplitl [H3]; · iapply (leave_loose m c t 3 rfl _ (congrArg _ e3)); iexact H3
      isplitl [H4]; · iapply (leave_loose m c t 4 rfl _ (congrArg _ e4)); iexact H4
      iapply (leave_loose m c t 5 rfl _ (congrArg _ e5)); iexact H5
    · have e3 : accFull (win0_0.fill (grid0.coords t) d0 (iblk m c 0 t)) (xblk m c t) (sblk m c t)
          ((dats m 0 c).before 3 t d3) = (dats m 0 c).after 3 t := by
        rw [after0_3, gfull m c t hb, acc_succ m c t ha, before0_3 m c t ha, afull _ (by dsimp only; omega)]
        unfold accStep; rw [if_pos hb]
      iapply (step_full c Set.univ (grid0.coords t) (fun h => ha ((cond1_iff t).mp h)) h2 h3 _ _ _ _ _ _ _ _ _ _ _ _ _ (xblk m c t) (sblk m c t) _ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, H4, H5⟩
      isplitl [HΦ]; · iexact HΦ
      isplitl [Ho]; · iexact Ho
      isplitl [H0]; · iapply (leave_loose m c t 0 rfl _ hg); iexact H0
      isplitl [H1]; · iapply (leave_exact m c t 1 rfl _ (after0_1 m c t).symm); iexact H1
      isplitl [H2]; · iapply (leave_exact m c t 2 rfl _ (after0_2 m c t).symm); iexact H2
      isplitl [H3]; · iapply (leave_loose m c t 3 rfl _ (congrArg _ e3)); iexact H3
      isplitl [H4]; · iapply (leave_loose m c t 4 rfl _ (congrArg _ e4)); iexact H4
      iapply (leave_loose m c t 5 rfl _ (congrArg _ e5)); iexact H5
  · have h2 : ¬ k0_cond2 (grid0.coords t) = 1#1 := fun h => hb ((cond2_iff t).mp h)
    have h3 := (cond3_iff t).mpr hb
    have e4 : ∀ d, Agrees [⟨rdyL, codesL (View.ld (Val := Elt F) (e' := .bf16) (win0_0.fill (grid0.coords t) d0 (iblk m c 0 t)) rdyL)⟩] d →
        win0_4.cut (grid0.coords t) d = win0_4.cut (grid0.coords t) ((dats m 0 c).after 4 t) := fun d h => by
      rw [glast m c t hb d0] at h; rw [after0_4, agree4 t hb _ d h]; unfold codesAt; rw [if_neg hb]
    have e5 : ∀ d, Agrees [⟨rscL, scalesL (View.ld (Val := Elt F) (e' := .bf16) (win0_0.fill (grid0.coords t) d0 (iblk m c 0 t)) rdyL)⟩] d →
        win0_5.cut (grid0.coords t) d = win0_5.cut (grid0.coords t) ((dats m 0 c).after 5 t) := fun d h => by
      rw [glast m c t hb d0] at h; rw [after0_5, agree5 t hb _ d h]; unfold scalesAt; rw [if_neg hb]
    by_cases ha : t.val % 32 = 0
    · have e3 : ∀ d, Agrees (piecesL (View.ld (Val := Elt F) (e' := .bf16) (win0_0.fill (grid0.coords t) d0 (iblk m c 0 t)) rdyL) (xblk m c t) (sblk m c t) k0_pay1) d →
          win0_3.cut (grid0.coords t) d = win0_3.cut (grid0.coords t) ((dats m 0 c).after 3 t) := fun d h => by
        rw [glast m c t hb d0] at h; rw [after0_3, agree3 t hb _ _ _ _ d h, acc_zero m c t ha]; unfold accStep; rw [if_neg hb]
      iapply (step_last_zero c Set.univ (grid0.coords t) ((cond1_iff t).mpr ha) h2 h3 _ _ _ _ _ _ _ _ _ _ _ _ _ (xblk m c t) (sblk m c t) _)
      isplitl [H0]; · iexact H0
      isplitl [H1]; · iexact H1
      isplitl [H2]; · iexact H2
      isplitl [H3]; · iexists _; iexact H3
      isplitl [H4]; · iexists _; iexact H4
      isplitl [H5]; · iexists _; iexact H5
      iintro ⟨H0, H1, H2, ⟨%D3, %hD3, H3⟩, ⟨%D4, %hD4, H4⟩, ⟨%D5, %hD5, H5⟩⟩
      isplitl [HΦ]; · iexact HΦ
      isplitl [Ho]; · iexact Ho
      isplitl [H0]; · iapply (leave_loose m c t 0 rfl _ hg); iexact H0
      isplitl [H1]; · iapply (leave_exact m c t 1 rfl _ (after0_1 m c t).symm); iexact H1
      isplitl [H2]; · iapply (leave_exact m c t 2 rfl _ (after0_2 m c t).symm); iexact H2
      isplitl [H3]; · iapply (leave_loose m c t 3 rfl _ (e3 D3 hD3)); iexact H3
      isplitl [H4]; · iapply (leave_loose m c t 4 rfl _ (e4 D4 hD4)); iexact H4
      iapply (leave_loose m c t 5 rfl _ (e5 D5 hD5)); iexact H5
    · have e3 : ∀ d, Agrees (piecesL (View.ld (Val := Elt F) (e' := .bf16) (win0_0.fill (grid0.coords t) d0 (iblk m c 0 t)) rdyL) (xblk m c t) (sblk m c t) ((dats m 0 c).before 3 t d3)) d →
          win0_3.cut (grid0.coords t) d = win0_3.cut (grid0.coords t) ((dats m 0 c).after 3 t) := fun d h => by
        rw [glast m c t hb d0] at h; rw [after0_3, agree3 t hb _ _ _ _ d h, acc_succ m c t ha]; unfold accStep; rw [if_neg hb]
        rw [pieces_congr _ _ _ ((dats m 0 c).before 3 t d3) (accAt m c (t.val - 1) (Nat.lt_of_le_of_lt (Nat.sub_le _ _) t.isLt)) fun r hr => by
          rw [before0_3 m c t ha, alast _ (by dsimp only; omega) _ _ r hr]]
      iapply (step_last c Set.univ (grid0.coords t) (fun h => ha ((cond1_iff t).mp h)) h2 h3 _ _ _ _ _ _ _ _ _ _ _ _ _ (xblk m c t) (sblk m c t) _ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, ⟨%D3, %hD3, H3⟩, ⟨%D4, %hD4, H4⟩, ⟨%D5, %hD5, H5⟩⟩
      isplitl [HΦ]; · iexact HΦ
      isplitl [Ho]; · iexact Ho
      isplitl [H0]; · iapply (leave_loose m c t 0 rfl _ hg); iexact H0
      isplitl [H1]; · iapply (leave_exact m c t 1 rfl _ (after0_1 m c t).symm); iexact H1
      isplitl [H2]; · iapply (leave_exact m c t 2 rfl _ (after0_2 m c t).symm); iexact H2
      isplitl [H3]; · iapply (leave_loose m c t 3 rfl _ (e3 D3 hD3)); iexact H3
      isplitl [H4]; · iapply (leave_loose m c t 4 rfl _ (e4 D4 hD4)); iexact H4
      iapply (leave_loose m c t 5 rfl _ (e5 D5 hD5)); iexact H5

theorem defs₀_row (c : Dev nD) (t : Fin cfg0.N) : defs₀ (F := F) .tc cfg0.body (cfg0.bodyArgs t (cfg0.slots t)) = bodyAt0 t := by
  first | rfl | (unfold defs₀; rw [Defs.onTc_tc])

theorem body_obligation (c : Dev nD) : BodyObligationLoose (dats m 0 c) (defs₀ (F := F)) Variants.none () Set.univ := fun t => by
  rw [bigSep_W0, bigSep_W0, defs₀_row c t]
  exact triple_restated (sound_body m c t) rfl .rfl fun _ => .rfl

/-! ## The run -/

set_option backward.isDefEq.respectTransparency.types false in
set_option maxHeartbeats 800000 in
/-- Every execution ends with each array at what the pipeline's write-backs make of it, and every counter at zero. -/
theorem run_main_quiescent : θ_run defs (onTc (τ := τ) (main (F := F))) (s₀ m ρ)
    (fun r => Pipeline.FramePost cfgs (dats m) (0 : Fin 1) (V m) r ∧ r.2.sem = fun _ => 0) :=
  Pipeline.θ_run_frame (Q' := _) cfgs (dats m) (0 : Fin 1) launch0 defs₀ Variants.none m ρ main
    (hbody := body_obligation m)
    (hshare := fun c => (dats m 0 c).share_full fun _ => rfl) (howed := fun _ _ => rfl)
    (V := V m) (hmain := hmain m Variants.none) (hA := A_eq m) (hΦ := fun _ _ => rfl)

theorem run_main : θ_run defs (onTc (τ := τ) (main (F := F))) (s₀ m ρ) (Pipeline.FramePost cfgs (dats m) (0 : Fin 1) (V m)) :=
  (θ_run defs _ _).mono (fun _ h => h.1) (run_main_quiescent m ρ)

/-- The argument arrays end as they began and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) (run_main m ρ))
    ((θ_run defs _ _).mono (fun _ h => h.2) (run_main_quiescent m ρ))

end Cert.Wgrad.Run

end
-- ==== Proof.WgradIdealBody.lean ====
/- One grid step of the weight-gradient kernel, as a statement about its buffers: from any contents of the three input
   blocks and the three output blocks, the step ends with the inputs as they were and the outputs at closed forms. A full
   column block and the last, cut one are separate statements, each with the accumulator zeroed first or kept. -/
module

public import proofs.«01_k».proof.Proof.Gen.WgradIdeal.Frame
public import proofs.«01_k».proof.Proof.Gen.WgradIdeal.Skeleton
public import Idealize.ShloMosaic.Lib.Pipeline.Value

@[expose] public section

set_option maxRecDepth 16384

noncomputable section

namespace Cert.WgradIdeal.Run

open Cert.WgradIdeal Cert.WgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The rectangles the body reads and writes: the whole gradient block and its columns, -/
abbrev rdy : Rect S512x1024 := Rect.unit (s := S512x1024) ![0, 0] S512x1024.size inb_S512x1024_S512x1024_0_0
abbrev rdyL : Rect S512x1024 := Rect.unit (s := S512x1024) ![0, 0] S512x768.size inb_S512x1024_S512x768_0_0
abbrev rsc : Rect S1x16x1024 := Rect.unit (s := S1x16x1024) ![0, 0, 0] S1x16x1024.size inb_S1x16x1024_S1x16x1024_0_0_0
abbrev rscL : Rect S1x16x1024 := Rect.unit (s := S1x16x1024) ![0, 0, 0] S1x16x768.size inb_S1x16x1024_S1x16x768_0_0_0
/-- the four column strips of the activation codes, of their scales and of the accumulator, -/
abbrev rx0 : Rect S512x4096 := Rect.unit (s := S512x4096) ![0, 0] S512x1024.size inb_S512x4096_S512x1024_0_0
abbrev rx1 : Rect S512x4096 := Rect.unit (s := S512x4096) ![0, 1024] S512x1024.size inb_S512x4096_S512x1024_0_1024
abbrev rx2 : Rect S512x4096 := Rect.unit (s := S512x4096) ![0, 2048] S512x1024.size inb_S512x4096_S512x1024_0_2048
abbrev rx3 : Rect S512x4096 := Rect.unit (s := S512x4096) ![0, 3072] S512x1024.size inb_S512x4096_S512x1024_0_3072
abbrev rs0 : Rect S1x16x4096 := Rect.unit (s := S1x16x4096) ![0, 0, 0] S1x16x1024.size inb_S1x16x4096_S1x16x1024_0_0_0
abbrev rs1 : Rect S1x16x4096 := Rect.unit (s := S1x16x4096) ![0, 0, 1024] S1x16x1024.size inb_S1x16x4096_S1x16x1024_0_0_1024
abbrev rs2 : Rect S1x16x4096 := Rect.unit (s := S1x16x4096) ![0, 0, 2048] S1x16x1024.size inb_S1x16x4096_S1x16x1024_0_0_2048
abbrev rs3 : Rect S1x16x4096 := Rect.unit (s := S1x16x4096) ![0, 0, 3072] S1x16x1024.size inb_S1x16x4096_S1x16x1024_0_0_3072
abbrev ra0 : Rect S1024x4096 := Rect.unit (s := S1024x4096) ![0, 0] S1024x1024.size inb_S1024x4096_S1024x1024_0_0
abbrev ra1 : Rect S1024x4096 := Rect.unit (s := S1024x4096) ![0, 1024] S1024x1024.size inb_S1024x4096_S1024x1024_0_1024
abbrev ra2 : Rect S1024x4096 := Rect.unit (s := S1024x4096) ![0, 2048] S1024x1024.size inb_S1024x4096_S1024x1024_0_2048
abbrev ra3 : Rect S1024x4096 := Rect.unit (s := S1024x4096) ![0, 3072] S1024x1024.size inb_S1024x4096_S1024x1024_0_3072
/-- and the strips' first 768 rows, all the last block has. -/
abbrev rb0 : Rect S1024x4096 := Rect.unit (s := S1024x4096) ![0, 0] S768x1024.size inb_S1024x4096_S768x1024_0_0
abbrev rb1 : Rect S1024x4096 := Rect.unit (s := S1024x4096) ![0, 1024] S768x1024.size inb_S1024x4096_S768x1024_0_1024
abbrev rb2 : Rect S1024x4096 := Rect.unit (s := S1024x4096) ![0, 2048] S768x1024.size inb_S1024x4096_S768x1024_0_2048
abbrev rb3 : Rect S1024x4096 := Rect.unit (s := S1024x4096) ![0, 3072] S768x1024.size inb_S1024x4096_S768x1024_0_3072

theorem hz2 : (![0, 0] : Fin 2 → Nat) = fun _ => 0 := funext fun a => by fin_cases a <;> rfl
theorem hz3 : (![0, 0, 0] : Fin 3 → Nat) = fun _ => 0 := funext fun a => by fin_cases a <;> rfl

/-! ## A full block -/

/-- The shared exponents of a block of the gradient and the power of two each column group is scaled by, -/
def expo (v : Vec F S512x1024 .bf16) : IVec S16x1024 32 := k0_pay9 (k0_pay6 v) (k0_pay7 v) k0_pay8
def inv (v : Vec F S512x1024 .bf16) : FVec F S16x1024 .bf16 := k0_pay11 (k0_pay6 v) (k0_pay7 v) k0_pay8
/-- the stored scales, the stored codes, the dequantised block. -/
def scales (v : Vec F S512x1024 .bf16) : Vec F S1x16x1024 .i8 := k0_pay10 (k0_pay6 v) (k0_pay7 v) k0_pay8
def codes (v : Vec F S512x1024 .bf16) : Vec F S512x1024 .fp8e4m3 := k0_pay12 v (inv v)
def deq (v : Vec F S512x1024 .bf16) : Vec F S512x1024 .bf16 := k0_pay13 v (expo v) (inv v)
/-- The accumulator strips after the step, from the strips before it. -/
def acc0 (v : Vec F S512x1024 .bf16) (x : Vec F S512x4096 .fp8e4m3) (s : Vec F S1x16x4096 .i8) (o : Vec F S1024x4096 .f32) : Vec F S1024x1024 .f32 :=
  k0_pay14 v (expo v) (inv v) (View.ld x rx0) (View.ld s rs0) (View.ld o ra0)
def acc1 (v : Vec F S512x1024 .bf16) (x : Vec F S512x4096 .fp8e4m3) (s : Vec F S1x16x4096 .i8) (o : Vec F S1024x4096 .f32) : Vec F S1024x1024 .f32 :=
  k0_pay15 (deq v) (View.ld x rx1) (View.ld s rs1) (View.ld o ra1)
def acc2 (v : Vec F S512x1024 .bf16) (x : Vec F S512x4096 .fp8e4m3) (s : Vec F S1x16x4096 .i8) (o : Vec F S1024x4096 .f32) : Vec F S1024x1024 .f32 :=
  k0_pay2 (k0_pay16 (View.ld o ra2)) (k0_pay17 (deq v) (View.ld x rx2) (View.ld s rs2))
def acc3 (v : Vec F S512x1024 .bf16) (x : Vec F S512x4096 .fp8e4m3) (s : Vec F S1x16x4096 .i8) (o : Vec F S1024x4096 .f32) : Vec F S1024x1024 .f32 :=
  k0_pay3 (deq v) (View.ld x rx3) (View.ld s rs3) (View.ld o ra3)
/-- The accumulator after the step. -/
def accFull (v : Vec F S512x1024 .bf16) (x : Vec F S512x4096 .fp8e4m3) (s : Vec F S1x16x4096 .i8) (o : Vec F S1024x4096 .f32) : Vec F S1024x4096 .f32 :=
  View.canon [⟨ra3, acc3 v x s o⟩, ⟨ra2, acc2 v x s o⟩, ⟨ra1, acc1 v x s o⟩, ⟨ra0, acc0 v x s o⟩]

/-- The strips tile the accumulator. -/
theorem coverFull (p3 p2 p1 p0 : Vec F S1024x1024 .f32) (y : S1024x4096.Idx) :
    ∃ pc ∈ ([⟨ra3, p3⟩, ⟨ra2, p2⟩, ⟨ra1, p1⟩, ⟨ra0, p0⟩] : List (View.Piece (Elt F) S1024x4096 .f32)), y ∈ pc.1.set :=
  View.cover_of_tiled [⟨ra3, p3⟩, ⟨ra2, p2⟩, ⟨ra1, p1⟩, ⟨ra0, p0⟩] ![1024, 1024] (by rfl) y

/-- A load from a strip does not see an earlier write of a strip left of it. -/
theorem readCov_left {sp : Space} (m : View sig .tc sp S1024x4096 .f32) (off sz off' sz' : Fin 2 → Nat)
    (hin : ∀ a, off a + sz a ≤ S1024x4096.size a) (hin' : ∀ a, off' a + sz' a ≤ S1024x4096.size a)
    (w : (Rect.unit (s := S1024x4096) off sz hin).shape.Idx → Elt F .f32) (L : List (View.Piece (Elt F) S1024x4096 .f32))
    (h : off 1 + sz 1 ≤ off' 1) :
    m.readCov (⟨Rect.unit (s := S1024x4096) off sz hin, w⟩ :: L) (Rect.unit (s := S1024x4096) off' sz' hin').toLoadRect
      = m.readCov L (Rect.unit (s := S1024x4096) off' sz' hin').toLoadRect := by
  refine View.readCov_cons_of_disjoint m _ L _ (Finset.disjoint_left.mpr fun y h1 h2 => ?_)
  replace h1 : y ∈ (Rect.unit (s := S1024x4096) off sz hin).set := h1
  rw [Rect.mem_set_unit] at h1 h2
  have e1 := h1 (1 : Fin 2)
  have e2 := h2 (1 : Fin 2)
  omega
/-- After the zeroing write alone, a load reads zeros. -/
theorem readCov_zero {sp : Space} (m : View sig .tc sp S1024x4096 .f32) (hin : ∀ a, (![0, 0] : Fin 2 → Nat) a + (![1024, 4096] : Fin 2 → Nat) a ≤ S1024x4096.size a)
    (w : Vec F S1024x4096 .f32) (r : Rect S1024x4096) :
    m.readCov [⟨Rect.unit (s := S1024x4096) ![0, 0] ![1024, 4096] hin, w⟩] r.toLoadRect = View.ld w r := by
  rw [View.readCov_eq_canon']
  exact congrArg (fun d : Vec F S1024x4096 .f32 => View.ld d r) (View.canon_unit_zero (S := S1024x4096) hz2 _ w)

theorem cover6 (p : Vec F S512x1024 .fp8e4m3) (y : S512x1024.Idx) :
    ∃ pc ∈ ([⟨rdy, p⟩] : List (View.Piece (Elt F) S512x1024 .fp8e4m3)), y ∈ pc.1.set :=
  View.cover_of_tiled [⟨rdy, p⟩] S512x1024.size (by rfl) y
theorem cover7 (p : Vec F S1x16x1024 .i8) (y : S1x16x1024.Idx) :
    ∃ pc ∈ ([⟨rsc, p⟩] : List (View.Piece (Elt F) S1x16x1024 .i8)), y ∈ pc.1.set :=
  View.cover_of_tiled [⟨rsc, p⟩] S1x16x1024.size (by rfl) y

/-- An earlier write under covering ones is not read. -/
theorem cover_more {S : Shape} {e : EltTy} {L : List (View.Piece (Elt F) S e)} {q : View.Piece (Elt F) S e} {y : S.Idx}
    (h : ∃ p ∈ L, y ∈ p.1.set) : ∃ p ∈ L ++ [q], y ∈ p.1.set := by
  obtain ⟨p, hp, hy⟩ := h
  exact ⟨p, List.mem_append_left _ hp, hy⟩
theorem canon_more {S : Shape} {e : EltTy} (L : List (View.Piece (Elt F) S e)) (q : View.Piece (Elt F) S e) (y : S.Idx)
    (h : ∃ p ∈ L, y ∈ p.1.set) : View.canon (L ++ [q]) y = View.canon L y := by
  induction L with
  | nil => obtain ⟨_, hp, _⟩ := h; exact absurd hp List.not_mem_nil
  | cons a L ih =>
    by_cases ha : y ∈ a.1.set
    · obtain ⟨r, w⟩ := a
      obtain ⟨x, rfl⟩ : ∃ x, r.emb x = y := r.exists_idx_of_mem ha
      rw [List.cons_append, View.canon_cons_emb, View.canon_cons_emb]
    · rw [List.cons_append, View.canon_cons_of_not_mem _ _ ha, View.canon_cons_of_not_mem _ _ ha]
      refine ih ?_
      obtain ⟨p, hp, hy⟩ := h
      rcases List.mem_cons.mp hp with rfl | hp
      · exact absurd hy ha
      · exact ⟨p, hp, hy⟩
theorem cover_more4 {S : Shape} {e : EltTy} {a b c d q : View.Piece (Elt F) S e} {y : S.Idx}
    (h : ∃ p ∈ [a, b, c, d], y ∈ p.1.set) : ∃ p ∈ [a, b, c, d, q], y ∈ p.1.set := cover_more h
theorem canon_more4 {S : Shape} {e : EltTy} {a b c d q : View.Piece (Elt F) S e} (y : S.Idx)
    (h : ∃ p ∈ [a, b, c, d], y ∈ p.1.set) : View.canon [a, b, c, d, q] y = View.canon [a, b, c, d] y :=
  canon_more [a, b, c, d] q y h
theorem coverFull4 (p3 p2 p1 p0 : Vec F S1024x1024 .f32) (q : View.Piece (Elt F) S1024x4096 .f32) (y : S1024x4096.Idx) :
    ∃ pc ∈ ([⟨ra3, p3⟩, ⟨ra2, p2⟩, ⟨ra1, p1⟩, ⟨ra0, p0⟩, q] : List (View.Piece (Elt F) S1024x4096 .f32)), y ∈ pc.1.set :=
  cover_more (L := [⟨ra3, p3⟩, ⟨ra2, p2⟩, ⟨ra1, p1⟩, ⟨ra0, p0⟩]) (coverFull p3 p2 p1 p0 y)
theorem canon4 (p3 p2 p1 p0 : Vec F S1024x1024 .f32) (q : View.Piece (Elt F) S1024x4096 .f32) :
    View.canon ([⟨ra3, p3⟩, ⟨ra2, p2⟩, ⟨ra1, p1⟩, ⟨ra0, p0⟩, q] : List (View.Piece (Elt F) S1024x4096 .f32))
      = View.canon ([⟨ra3, p3⟩, ⟨ra2, p2⟩, ⟨ra1, p1⟩, ⟨ra0, p0⟩] : List (View.Piece (Elt F) S1024x4096 .f32)) :=
  funext fun y => canon_more [⟨ra3, p3⟩, ⟨ra2, p2⟩, ⟨ra1, p1⟩, ⟨ra0, p0⟩] q y (coverFull p3 p2 p1 p0 y)

/-! ## The last block, 768 columns of it inside the array -/

/-- As `expo`, `inv`, `deq` on the 768 columns. -/
def expoL (v : Vec F S512x768 .bf16) : IVec S16x768 32 := k0_pay21 (k0_pay18 v) (k0_pay19 v) k0_pay20
def invL (v : Vec F S512x768 .bf16) : FVec F S16x768 .bf16 := k0_pay23 (k0_pay18 v) (k0_pay19 v) k0_pay20
def deqL (v : Vec F S512x768 .bf16) : Vec F S512x768 .bf16 := k0_pay25 v (expoL v) (invL v)
def scalesL (v : Vec F S512x768 .bf16) : Vec F S1x16x768 .i8 := k0_pay22 (k0_pay18 v) (k0_pay19 v) k0_pay20
def codesL (v : Vec F S512x768 .bf16) : Vec F S512x768 .fp8e4m3 := k0_pay24 v (invL v)
def accL0 (v : Vec F S512x768 .bf16) (x : Vec F S512x4096 .fp8e4m3) (s : Vec F S1x16x4096 .i8) (o : Vec F S1024x4096 .f32) : Vec F S768x1024 .f32 :=
  k0_pay26 v (expoL v) (invL v) (View.ld x rx0) (View.ld s rs0) (View.ld o rb0)
def accL1 (v : Vec F S512x768 .bf16) (x : Vec F S512x4096 .fp8e4m3) (s : Vec F S1x16x4096 .i8) (o : Vec F S1024x4096 .f32) : Vec F S768x1024 .f32 :=
  k0_pay27 (deqL v) (View.ld x rx1) (View.ld s rs1) (View.ld o rb1)
def accL2 (v : Vec F S512x768 .bf16) (x : Vec F S512x4096 .fp8e4m3) (s : Vec F S1x16x4096 .i8) (o : Vec F S1024x4096 .f32) : Vec F S768x1024 .f32 :=
  k0_pay4 (k0_pay28 (View.ld o rb2)) (k0_pay29 (deqL v) (View.ld x rx2) (View.ld s rs2))
def accL3 (v : Vec F S512x768 .bf16) (x : Vec F S512x4096 .fp8e4m3) (s : Vec F S1x16x4096 .i8) (o : Vec F S1024x4096 .f32) : Vec F S768x1024 .f32 :=
  k0_pay5 (deqL v) (View.ld x rx3) (View.ld s rs3) (View.ld o rb3)
/-- The writes of the step, last first: they say what the accumulator holds on its first 768 rows. -/
abbrev piecesL (v : Vec F S512x768 .bf16) (x : Vec F S512x4096 .fp8e4m3) (s : Vec F S1x16x4096 .i8) (o : Vec F S1024x4096 .f32) : List (View.Piece (Elt F) S1024x4096 .f32) :=
  [⟨rb3, accL3 v x s o⟩, ⟨rb2, accL2 v x s o⟩, ⟨rb1, accL1 v x s o⟩, ⟨rb0, accL0 v x s o⟩]
/-- Contents agreeing with the writes `L` wherever one of them reaches. -/
def Agrees {S : Shape} {e : EltTy} (L : List (View.Piece (Elt F) S e)) (d : S.Idx → Elt F e) : Prop :=
  ∀ y, (∃ p ∈ L, y ∈ p.1.set) → d y = View.canon L y

/-! ## The four steps -/

set_option maxHeartbeats 4000000 in
/-- A full block, added to the accumulator. -/
theorem step_full (c : Dev nD) (E : Set ℕ) (i : grid0.Coords) (h1 : ¬ k0_cond1 i = 1#1) (h2 : k0_cond2 i = 1#1) (h3 : ¬ k0_cond3 i = 1#1)
    (arg2 : Memref sig .tc .vmem S512x1024 .bf16) (harg2 : arg2.IsWhole) (arg3 : Memref sig .tc .vmem S512x4096 .fp8e4m3) (harg3 : arg3.IsWhole) (arg4 : Memref sig .tc .vmem S1x16x4096 .i8) (harg4 : arg4.IsWhole) (arg5 : Memref sig .tc .vmem S1024x4096 .f32) (harg5 : arg5.IsWhole) (arg6 : Memref sig .tc .vmem S512x1024 .fp8e4m3) (harg6 : arg6.IsWhole) (arg7 : Memref sig .tc .vmem S1x16x1024 .i8) (harg7 : arg7.IsWhole)
    (v : Vec F S512x1024 .bf16) (x : Vec F S512x4096 .fp8e4m3) (s : Vec F S1x16x4096 .i8) (o : Vec F S1024x4096 .f32) (K : PUnit → sProp 𝕄) :
    iprop(owns (c : Thread nD τ) arg2 fullShare v ∗ owns (c : Thread nD τ) arg3 fullShare x ∗ owns (c : Thread nD τ) arg4 fullShare s ∗ owns (c : Thread nD τ) arg5 fullShare o ∗ (∃ d, owns (c : Thread nD τ) arg6 fullShare d) ∗ (∃ d, owns (c : Thread nD τ) arg7 fullShare d)
        ∗ (iprop(owns (c : Thread nD τ) arg2 fullShare v ∗ owns (c : Thread nD τ) arg3 fullShare x ∗ owns (c : Thread nD τ) arg4 fullShare s ∗ owns (c : Thread nD τ) arg5 fullShare (accFull v x s o) ∗ owns (c : Thread nD τ) arg6 fullShare (codes v) ∗ owns (c : Thread nD τ) arg7 fullShare (scales v)) -∗ K ⟨⟩))
      ⊢ wp frame (wpE (defs₀ (F := F)) Variants.none c none) E (cc0_wgrad i arg2 harg2 arg3 harg3 arg4 harg4 arg5 harg5 arg6 harg6 arg7 harg7) K := by
  simp only [cc0_wgrad_eq_skeleton]; unfold cc0_wgrad_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (coverFull _ _ _ _)]
    sl_unfold_words

    unfold accFull acc0 acc1 acc2 acc3 deq expo inv

    simp only [View.readAt_eq_ld, View.ld_unit_zero (S := S512x1024) hz2]
  isplitl [H4]
  · iexists _; isplitr
    swap; · iexact H4
    ipureintro
    rw [View.read_writes_eq_canon _ _ _ (cover6 _)]
    sl_unfold_words
    unfold codes inv
    simp only [View.readAt_eq_ld, View.ld_unit_zero (S := S512x1024) hz2]
    exact View.canon_unit_zero (S := S512x1024) hz2 _ _
  iexists _; isplitr
  swap; · iexact H5
  ipureintro
  rw [View.read_writes_eq_canon _ _ _ (cover7 _)]
  sl_unfold_words
  unfold scales
  simp only [View.readAt_eq_ld, View.ld_unit_zero (S := S512x1024) hz2]
  exact View.canon_unit_zero (S := S1x16x1024) hz3 _ _

set_option maxHeartbeats 4000000 in
/-- A full block at the first point of its column, where the accumulator is zeroed first. -/
theorem step_full_zero (c : Dev nD) (E : Set ℕ) (i : grid0.Coords) (h1 : k0_cond1 i = 1#1) (h2 : k0_cond2 i = 1#1) (h3 : ¬ k0_cond3 i = 1#1)
    (arg2 : Memref sig .tc .vmem S512x1024 .bf16) (harg2 : arg2.IsWhole) (arg3 : Memref sig .tc .vmem S512x4096 .fp8e4m3) (harg3 : arg3.IsWhole) (arg4 : Memref sig .tc .vmem S1x16x4096 .i8) (harg4 : arg4.IsWhole) (arg5 : Memref sig .tc .vmem S1024x4096 .f32) (harg5 : arg5.IsWhole) (arg6 : Memref sig .tc .vmem S512x1024 .fp8e4m3) (harg6 : arg6.IsWhole) (arg7 : Memref sig .tc .vmem S1x16x1024 .i8) (harg7 : arg7.IsWhole)
    (v : Vec F S512x1024 .bf16) (x : Vec F S512x4096 .fp8e4m3) (s : Vec F S1x16x4096 .i8) (K : PUnit → sProp 𝕄) :
    iprop(owns (c : Thread nD τ) arg2 fullShare v ∗ owns (c : Thread nD τ) arg3 fullShare x ∗ owns (c : Thread nD τ) arg4 fullShare s ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare v ∗ owns (c : Thread nD τ) arg3 fullShare x ∗ owns (c : Thread nD τ) arg4 fullShare s ∗ owns (c : Thread nD τ) arg5 fullShare (accFull v x s k0_pay1) ∗ owns (c : Thread nD τ) arg6 fullShare (codes v) ∗ owns (c : Thread nD τ) arg7 fullShare (scales v)) -∗ K ⟨⟩))
      ⊢ wp frame (wpE (defs₀ (F := F)) Variants.none c none) E (cc0_wgrad i arg2 harg2 arg3 harg3 arg4 harg4 arg5 harg5 arg6 harg6 arg7 harg7) K := by
  simp only [cc0_wgrad_eq_skeleton]; unfold cc0_wgrad_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro

    sl_unfold_words
    rw [View.read_writes_eq_canon _ _ _ (coverFull4 _ _ _ _ _)]
    unfold accFull acc0 acc1 acc2 acc3 deq expo inv
    rw [canon4]
    simp (disch := decide) only [readCov_left, readCov_zero, View.readAt_eq_ld, View.ld_unit_zero (S := S512x1024) hz2]
  isplitl [H4]
  · iexists _; isplitr
    swap; · iexact H4
    ipureintro
    rw [View.read_writes_eq_canon _ _ _ (cover6 _)]
    sl_unfold_words
    unfold codes inv
    simp only [View.readAt_eq_ld, View.ld_unit_zero (S := S512x1024) hz2]
    exact View.canon_unit_zero (S := S512x1024) hz2 _ _
  iexists _; isplitr
  swap; · iexact H5
  ipureintro
  rw [View.read_writes_eq_canon _ _ _ (cover7 _)]
  sl_unfold_words
  unfold scales
  simp only [View.readAt_eq_ld, View.ld_unit_zero (S := S512x1024) hz2]
  exact View.canon_unit_zero (S := S1x16x1024) hz3 _ _

set_option maxHeartbeats 4000000 in
/-- The last block, added to the accumulator. -/
theorem step_last (c : Dev nD) (E : Set ℕ) (i : grid0.Coords) (h1 : ¬ k0_cond1 i = 1#1) (h2 : ¬ k0_cond2 i = 1#1) (h3 : k0_cond3 i = 1#1)
    (arg2 : Memref sig .tc .vmem S512x1024 .bf16) (harg2 : arg2.IsWhole) (arg3 : Memref sig .tc .vmem S512x4096 .fp8e4m3) (harg3 : arg3.IsWhole) (arg4 : Memref sig .tc .vmem S1x16x4096 .i8) (harg4 : arg4.IsWhole) (arg5 : Memref sig .tc .vmem S1024x4096 .f32) (harg5 : arg5.IsWhole) (arg6 : Memref sig .tc .vmem S512x1024 .fp8e4m3) (harg6 : arg6.IsWhole) (arg7 : Memref sig .tc .vmem S1x16x1024 .i8) (harg7 : arg7.IsWhole)
    (v : Vec F S512x1024 .bf16) (x : Vec F S512x4096 .fp8e4m3) (s : Vec F S1x16x4096 .i8) (o : Vec F S1024x4096 .f32) (K : PUnit → sProp 𝕄) :
    iprop(owns (c : Thread nD τ) arg2 fullShare v ∗ owns (c : Thread nD τ) arg3 fullShare x ∗ owns (c : Thread nD τ) arg4 fullShare s ∗ owns (c : Thread nD τ) arg5 fullShare o ∗ (∃ d, owns (c : Thread nD τ) arg6 fullShare d) ∗ (∃ d, owns (c : Thread nD τ) arg7 fullShare d)
        ∗ (iprop(owns (c : Thread nD τ) arg2 fullShare v ∗ owns (c : Thread nD τ) arg3 fullShare x ∗ owns (c : Thread nD τ) arg4 fullShare s ∗ (∃ d, ⌜Agrees (piecesL (View.ld v rdyL) x s o) d⌝ ∗ owns (c : Thread nD τ) arg5 fullShare d) ∗ (∃ d, ⌜Agrees [⟨rdyL, codesL (View.ld v rdyL)⟩] d⌝ ∗ owns (c : Thread nD τ) arg6 fullShare d) ∗ (∃ d, ⌜Agrees [⟨rscL, scalesL (View.ld v rdyL)⟩] d⌝ ∗ owns (c : Thread nD τ) arg7 fullShare d)) -∗ K ⟨⟩))
      ⊢ wp frame (wpE (defs₀ (F := F)) Variants.none c none) E (cc0_wgrad i arg2 harg2 arg3 harg3 arg4 harg4 arg5 harg5 arg6 harg6 arg7 harg7) K := by
  simp only [cc0_wgrad_eq_skeleton]; unfold cc0_wgrad_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap
    · iexists _; isplitr
      swap; · iexact H3
      ipureintro; rfl
    ipureintro
    intro y hy
    sl_unfold_words
    unfold piecesL accL0 accL1 accL2 accL3 deqL expoL invL at *
    simp only [View.readAt_eq_ld] at *
    exact View.read_writes_apply_eq_canon _ _ y _ hy
  isplitl [H4]
  · iexists _; isplitr
    swap
    · iexists _; isplitr
      swap; · iexact H4
      ipureintro; rfl
    ipureintro
    intro y hy
    sl_unfold_words
    unfold codesL invL at *
    simp only [View.readAt_eq_ld] at *
    exact View.read_writes_apply_eq_canon _ _ y _ hy
  · iexists _; isplitr
    swap
    · iexists _; isplitr
      swap; · iexact H5
      ipureintro; rfl
    ipureintro
    intro y hy
    sl_unfold_words
    unfold scalesL at *
    simp only [View.readAt_eq_ld] at *
    exact View.read_writes_apply_eq_canon _ _ y _ hy

set_option maxHeartbeats 4000000 in
/-- The last block at the first point of its column. -/
theorem step_last_zero (c : Dev nD) (E : Set ℕ) (i : grid0.Coords) (h1 : k0_cond1 i = 1#1) (h2 : ¬ k0_cond2 i = 1#1) (h3 : k0_cond3 i = 1#1)
    (arg2 : Memref sig .tc .vmem S512x1024 .bf16) (harg2 : arg2.IsWhole) (arg3 : Memref sig .tc .vmem S512x4096 .fp8e4m3) (harg3 : arg3.IsWhole) (arg4 : Memref sig .tc .vmem S1x16x4096 .i8) (harg4 : arg4.IsWhole) (arg5 : Memref sig .tc .vmem S1024x4096 .f32) (harg5 : arg5.IsWhole) (arg6 : Memref sig .tc .vmem S512x1024 .fp8e4m3) (harg6 : arg6.IsWhole) (arg7 : Memref sig .tc .vmem S1x16x1024 .i8) (harg7 : arg7.IsWhole)
    (v : Vec F S512x1024 .bf16) (x : Vec F S512x4096 .fp8e4m3) (s : Vec F S1x16x4096 .i8) (K : PUnit → sProp 𝕄) :
    iprop(owns (c : Thread nD τ) arg2 fullShare v ∗ owns (c : Thread nD τ) arg3 fullShare x ∗ owns (c : Thread nD τ) arg4 fullShare s ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare v ∗ owns (c : Thread nD τ) arg3 fullShare x ∗ owns (c : Thread nD τ) arg4 fullShare s ∗ (∃ d, ⌜Agrees (piecesL (View.ld v rdyL) x s k0_pay1) d⌝ ∗ owns (c : Thread nD τ) arg5 fullShare d) ∗ (∃ d, ⌜Agrees [⟨rdyL, codesL (View.ld v rdyL)⟩] d⌝ ∗ owns (c : Thread nD τ) arg6 fullShare d) ∗ (∃ d, ⌜Agrees [⟨rscL, scalesL (View.ld v rdyL)⟩] d⌝ ∗ owns (c : Thread nD τ) arg7 fullShare d)) -∗ K ⟨⟩))
      ⊢ wp frame (wpE (defs₀ (F := F)) Variants.none c none) E (cc0_wgrad i arg2 harg2 arg3 harg3 arg4 harg4 arg5 harg5 arg6 harg6 arg7 harg7) K := by
  simp only [cc0_wgrad_eq_skeleton]; unfold cc0_wgrad_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap
    · iexists _; isplitr
      swap; · iexact H3
      ipureintro; rfl
    ipureintro
    intro y hy
    sl_unfold_words
    unfold piecesL accL0 accL1 accL2 accL3 deqL expoL invL at *
    simp (disch := decide) only [readCov_left, readCov_zero, View.readAt_eq_ld] at *
    rw [View.read_writes_apply_eq_canon _ _ y _ (cover_more4 hy)]; exact canon_more4 y hy
  isplitl [H4]
  · iexists _; isplitr
    swap
    · iexists _; isplitr
      swap; · iexact H4
      ipureintro; rfl
    ipureintro
    intro y hy
    sl_unfold_words
    unfold codesL invL at *
    simp only [View.readAt_eq_ld] at *
    exact View.read_writes_apply_eq_canon _ _ y _ hy
  · iexists _; isplitr
    swap
    · iexists _; isplitr
      swap; · iexact H5
      ipureintro; rfl
    ipureintro
    intro y hy
    sl_unfold_words
    unfold scalesL at *
    simp only [View.readAt_eq_ld] at *
    exact View.read_writes_apply_eq_canon _ _ y _ hy

end Cert.WgradIdeal.Run

end
-- ==== Proof.WgradIdealRun.lean ====
/- The whole run of the weight-gradient kernel: what each buffer holds after every grid point (the accumulator as a
   recursion over the points), the pipeline's obligation for the body, and the run of the program from any memory. -/
module

public import proofs.«01_k».proof.Proof.WgradIdealBody
public import Idealize.ShloMosaic.Lib.Pipeline.KitQuiescent
public import Idealize.ShloMosaic.Lib.Claim
public import Idealize.ShloMosaic.Lib.Pipeline.Covers
public import Idealize.ShloMosaic.Lib.Pipeline.ValueKit.Tiles

@[expose] public section

set_option maxRecDepth 16384

noncomputable section

namespace Cert.WgradIdeal.Run

open Cert.WgradIdeal Cert.WgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

theorem cond1_iff : ∀ t : Fin cfg0.N, (k0_cond1 (grid0.coords t) = 1#1 ↔ t.val % 32 = 0) := by decide +kernel
theorem cond2_iff : ∀ t : Fin cfg0.N, (k0_cond2 (grid0.coords t) = 1#1 ↔ t.val < 320) := by decide +kernel
theorem cond3_iff : ∀ t : Fin cfg0.N, (k0_cond3 (grid0.coords t) = 1#1 ↔ ¬ t.val < 320) := by decide +kernel

/-- The part of each cut block that lies in its array. -/
theorem xs0 : ∀ t : Fin cfg0.N, win0_0.xsize (grid0.coords t) 0 = 512
    ∧ win0_0.xsize (grid0.coords t) 1 = if t.val < 320 then 1024 else 768 := by decide +kernel
theorem xs3 : ∀ t : Fin cfg0.N, win0_3.xsize (grid0.coords t) 1 = 4096
    ∧ win0_3.xsize (grid0.coords t) 0 = if t.val < 320 then 1024 else 768 := by decide +kernel
theorem xs4 : ∀ t : Fin cfg0.N, win0_4.xsize (grid0.coords t) 0 = 512
    ∧ win0_4.xsize (grid0.coords t) 1 = if t.val < 320 then 1024 else 768 := by decide +kernel
theorem xs5 : ∀ t : Fin cfg0.N, win0_5.xsize (grid0.coords t) 0 = 1 ∧ win0_5.xsize (grid0.coords t) 1 = 16
    ∧ win0_5.xsize (grid0.coords t) 2 = if t.val < 320 then 1024 else 768 := by decide +kernel

/-- No output is left unwritten at any point. -/
theorem idle_false (t : Fin cfg0.N) (w : Fin cfg0.W) : cfg0.idle w (grid0.coords t) = false := by
  have h2 := cond2_iff t
  have h3 := cond3_iff t
  match w with
  | ⟨0, _⟩ => rfl
  | ⟨1, _⟩ => rfl
  | ⟨2, _⟩ => rfl
  | ⟨3, _⟩ =>
    show (!(k0_cond1 (grid0.coords t) == 1#1) && !(k0_cond2 (grid0.coords t) == 1#1) && !(k0_cond3 (grid0.coords t) == 1#1)) = false
    by_cases h : t.val < 320
    · rw [h2.mpr h]; simp
    · rw [h3.mpr h]; simp
  | ⟨4, _⟩ =>
    show (!(k0_cond2 (grid0.coords t) == 1#1) && !(k0_cond3 (grid0.coords t) == 1#1)) = false
    by_cases h : t.val < 320
    · rw [h2.mpr h]; simp
    · rw [h3.mpr h]; simp
  | ⟨5, _⟩ =>
    show (!(k0_cond2 (grid0.coords t) == 1#1) && !(k0_cond3 (grid0.coords t) == 1#1)) = false
    by_cases h : t.val < 320
    · rw [h2.mpr h]; simp
    · rw [h3.mpr h]; simp

/-! ## What the buffers hold -/

/-- The gradient block of point `t`, zeros where it overhangs the array. -/
def gblk (c : Dev nD) (t : Fin cfg0.N) : Vec F S512x1024 .bf16 :=
  win0_0.fill (grid0.coords t) (fun _ => Scalar.ofBits .bf16 0#16) (iblk m c 0 t)
/-- The activation codes and scales of point `t`. -/
abbrev xblk (c : Dev nD) (t : Fin cfg0.N) : Vec F S512x4096 .fp8e4m3 := iblk m c 1 t
abbrev sblk (c : Dev nD) (t : Fin cfg0.N) : Vec F S1x16x4096 .i8 := iblk m c 2 t

/-- The accumulator after the body at point `t`, from what the point starts with. -/
def accStep (c : Dev nD) (t : Fin cfg0.N) (o : Vec F S1024x4096 .f32) : Vec F S1024x4096 .f32 :=
  if t.val < 320 then accFull (gblk m c t) (xblk m c t) (sblk m c t) o
  else View.canon (piecesL (View.ld (gblk m c t) rdyL) (xblk m c t) (sblk m c t) o)

/-- The accumulator after point `n`: started from zeros at the first point of every column block. -/
def accAt (c : Dev nD) : (n : ℕ) → n < cfg0.N → Vec F S1024x4096 .f32
  | 0, h => accStep m c ⟨0, h⟩ k0_pay1
  | n + 1, h => accStep m c ⟨n + 1, h⟩ (if (n + 1) % 32 = 0 then k0_pay1 else accAt c n (Nat.lt_of_succ_lt h))

/-- The codes and scales of point `t`. -/
def codesAt (c : Dev nD) (t : Fin cfg0.N) : Vec F S512x1024 .fp8e4m3 :=
  if t.val < 320 then codes (gblk m c t) else View.canon [⟨rdyL, codesL (View.ld (gblk m c t) rdyL)⟩]
def scalesAt (c : Dev nD) (t : Fin cfg0.N) : Vec F S1x16x1024 .i8 :=
  if t.val < 320 then scales (gblk m c t) else View.canon [⟨rscL, scalesL (View.ld (gblk m c t) rdyL)⟩]

/-- The proof data: arrays as the region finds them, every buffer as above. -/
def dats (_ : Fin 1) (c : Dev nD) : Dat τ (Elt F) Unit ℕ (UR sig nD τ) ℕ cfg0 c where
  A w := V m c (Pipeline.arrRef spec0 w)
  after w t := match w with
    | ⟨0, _⟩ => gblk m c t
    | ⟨1, _⟩ => iblk m c 1 t
    | ⟨2, _⟩ => iblk m c 2 t
    | ⟨3, _⟩ => accAt m c t.val t.isLt
    | ⟨4, _⟩ => codesAt m c t
    | ⟨5, _⟩ => scalesAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = gblk m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = accAt m c t.val t.isLt := by dsimp only [dats]
theorem after0_4 (c : Dev nD) (t : Fin cfg0.N) : (dats m 0 c).after 4 t = codesAt m c t := by dsimp only [dats]
theorem after0_5 (c : Dev nD) (t : Fin cfg0.N) : (dats m 0 c).after 5 t = scalesAt m c t := by dsimp only [dats]

theorem before0_0 (c : Dev nD) (t : Fin cfg0.N) (d) :
    (dats m 0 c).before 0 t d = win0_0.fill (grid0.coords t) d (iblk m c 0 t) := by
  rw [Dat.before_fetched _ _ _ (fetch0_0 t)]
  unfold Dat.fetched Dat.blockOf iblk; rw [A_eq]
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- Past the first point of a column block the accumulator is what the point before left. -/
theorem before0_3 (c : Dev nD) (t : Fin cfg0.N) (ht : ¬ t.val % 32 = 0) (d) :
    (dats m 0 c).before 3 t d = win0_3.fill (grid0.coords ⟨t.val - 1, Nat.lt_of_le_of_lt (Nat.sub_le _ _) t.isLt⟩) d
      (win0_3.cut (grid0.coords ⟨t.val - 1, Nat.lt_of_le_of_lt (Nat.sub_le _ _) t.isLt⟩)
        (accAt m c (t.val - 1) (Nat.lt_of_le_of_lt (Nat.sub_le _ _) t.isLt))) := by
  rw [Dat.before_out_acc _ 3 rfl t (by omega) (by
    rw [Bool.eq_false_iff]; intro h; have := (flush0_3 _).mp h; dsimp only at this; omega)
    (fun i => by
      obtain ⟨t', rfl⟩ := Pipeline.Grid.coords_surjective grid0 i
      exact idle_false t' 3)]
  unfold Dat.kept; rw [after0_3]

/-! ## Reading through the cuts -/

theorem gfull (c : Dev nD) (t : Fin cfg0.N) (h : t.val < 320) (d) :
    win0_0.fill (grid0.coords t) d (iblk m c 0 t) = gblk m c t := by
  funext y
  have hm : win0_0.moved (grid0.coords t) y = true := (win0_0.moved_iff _ y).mpr fun a => by
    match a with
    | ⟨0, _⟩ => exact (xs0 t).1 ▸ (y 0).isLt
    | ⟨1, _⟩ => have := (xs0 t).2; rw [if_pos h] at this; exact this ▸ (y 1).isLt
  unfold gblk Window.fill; rw [dif_pos hm, dif_pos hm]

theorem glast (c : Dev nD) (t : Fin cfg0.N) (h : ¬ t.val < 320) (d) :
    View.ld (Val := Elt F) (e' := .bf16) (win0_0.fill (grid0.coords t) d (iblk m c 0 t)) rdyL = View.ld (gblk m c t) rdyL := by
  funext y
  have hm : win0_0.moved (grid0.coords t) (rdyL.idx y) = true := (win0_0.moved_iff _ _).mpr fun a => by
    match a with
    | ⟨0, _⟩ => exact (xs0 t).1 ▸ ((rdyL.idx y) 0).isLt
    | ⟨1, _⟩ =>
      have := (xs0 t).2; rw [if_neg h] at this
      have hy : (y 1).val < 768 := (y 1).isLt
      refine this ▸ ?_
      rw [Rect.idx_unit_val]
      show 0 + (y 1).val < 768
      omega
  show win0_0.fill (grid0.coords t) d (iblk m c 0 t) (rdyL.idx y) = gblk m c t (rdyL.idx y)
  unfold gblk Window.fill; rw [dif_pos hm, dif_pos hm]

theorem afull (t : Fin cfg0.N) (h : t.val < 320) (d o : Vec F S1024x4096 .f32) :
    win0_3.fill (grid0.coords t) d (win0_3.cut (grid0.coords t) o) = o := by
  funext y
  have hm : win0_3.moved (grid0.coords t) y = true := (win0_3.moved_iff _ y).mpr fun a => by
    match a with
    | ⟨0, _⟩ => have := (xs3 t).2; rw [if_pos h] at this; exact this ▸ (y 0).isLt
    | ⟨1, _⟩ => exact (xs3 t).1 ▸ (y 1).isLt
  unfold Window.fill; rw [dif_pos hm]

theorem alast (t : Fin cfg0.N) (h : ¬ t.val < 320) (d o : Vec F S1024x4096 .f32) (r : Rect S1024x4096)
    (hr : ∀ y, ((r.idx y) 0).val < 768) :
    View.ld (Val := Elt F) (e' := .f32) (win0_3.fill (grid0.coords t) d (win0_3.cut (grid0.coords t) o)) r = View.ld o r := by
  funext y
  have hm : win0_3.moved (grid0.coords t) (r.idx y) = true := (win0_3.moved_iff _ _).mpr fun a => by
    match a with
    | ⟨0, _⟩ => have := (xs3 t).2; rw [if_neg h] at this; exact this ▸ hr y
    | ⟨1, _⟩ => exact (xs3 t).1 ▸ ((r.idx y) 1).isLt
  show win0_3.fill (grid0.coords t) d (win0_3.cut (grid0.coords t) o) (r.idx y) = o (r.idx y)
  unfold Window.fill; rw [dif_pos hm]; rfl

/-- The last block's writes read the accumulator on its first 768 rows only. -/
theorem pieces_congr (v : Vec F S512x768 .bf16) (x : Vec F S512x4096 .fp8e4m3) (s : Vec F S1x16x4096 .i8) (o o' : Vec F S1024x4096 .f32)
    (h : ∀ r : Rect S1024x4096, (∀ y, ((r.idx y) 0).val < 768) → View.ld (Val := Elt F) (e' := .f32) o r = View.ld o' r) :
    piecesL v x s o = piecesL v x s o' := by
  have h0 := h rb0 fun y => by
    rw [Rect.idx_unit_val]; have hy : (y 0).val < 768 := (y 0).isLt; show 0 + (y 0).val < 768; omega
  have h1 := h rb1 fun y => by
    rw [Rect.idx_unit_val]; have hy : (y 0).val < 768 := (y 0).isLt; show 0 + (y 0).val < 768; omega
  have h2 := h rb2 fun y => by
    rw [Rect.idx_unit_val]; have hy : (y 0).val < 768 := (y 0).isLt; show 0 + (y 0).val < 768; omega
  have h3 := h rb3 fun y => by
    rw [Rect.idx_unit_val]; have hy : (y 0).val < 768 := (y 0).isLt; show 0 + (y 0).val < 768; omega
  unfold piecesL accL0 accL1 accL2 accL3
  rw [h0, h1, h2, h3]

/-- Its writes cover those rows. -/
theorem coverL (p3 p2 p1 p0 : Vec F S768x1024 .f32) (y : S1024x4096.Idx) (hy : (y 0).val < 768) :
    ∃ p ∈ ([⟨rb3, p3⟩, ⟨rb2, p2⟩, ⟨rb1, p1⟩, ⟨rb0, p0⟩] : List (View.Piece (Elt F) S1024x4096 .f32)), y ∈ p.1.set := by
  have hy1 : (y 1).val < 4096 := (y 1).isLt
  by_cases h1 : (y 1).val < 1024
  · refine ⟨⟨rb0, p0⟩, by simp, ?_⟩
    show y ∈ (rb0).set
    rw [Rect.mem_set_unit]; intro a
    match a with
    | ⟨0, _⟩ => exact ⟨Nat.zero_le _, show (y 0).val < 0 + 768 by omega⟩
    | ⟨1, _⟩ => exact ⟨Nat.zero_le _, show (y 1).val < 0 + 1024 by omega⟩
  by_cases h2 : (y 1).val < 2048
  · refine ⟨⟨rb1, p1⟩, by simp, ?_⟩
    show y ∈ (rb1).set
    rw [Rect.mem_set_unit]; intro a
    match a with
    | ⟨0, _⟩ => exact ⟨Nat.zero_le _, show (y 0).val < 0 + 768 by omega⟩
    | ⟨1, _⟩ => exact ⟨show 1024 ≤ (y 1).val by omega, show (y 1).val < 1024 + 1024 by omega⟩
  by_cases h3 : (y 1).val < 3072
  · refine ⟨⟨rb2, p2⟩, by simp, ?_⟩
    show y ∈ (rb2).set
    rw [Rect.mem_set_unit]; intro a
    match a with
    | ⟨0, _⟩ => exact ⟨Nat.zero_le _, show (y 0).val < 0 + 768 by omega⟩
    | ⟨1, _⟩ => exact ⟨show 2048 ≤ (y 1).val by omega, show (y 1).val < 2048 + 1024 by omega⟩
  · refine ⟨⟨rb3, p3⟩, by simp, ?_⟩
    show y ∈ (rb3).set
    rw [Rect.mem_set_unit]; intro a
    match a with
    | ⟨0, _⟩ => exact ⟨Nat.zero_le _, show (y 0).val < 0 + 768 by omega⟩
    | ⟨1, _⟩ => exact ⟨show 3072 ≤ (y 1).val by omega, show (y 1).val < 3072 + 1024 by omega⟩

theorem agree3 (t : Fin cfg0.N) (h : ¬ t.val < 320) (v : Vec F S512x768 .bf16) (x : Vec F S512x4096 .fp8e4m3)
    (s : Vec F S1x16x4096 .i8) (o d : Vec F S1024x4096 .f32) (ha : Agrees (piecesL v x s o) d) :
    win0_3.cut (grid0.coords t) d = win0_3.cut (grid0.coords t) (View.canon (piecesL v x s o)) := by
  funext j
  refine ha _ (coverL _ _ _ _ _ ?_)
  have := (xs3 t).2; rw [if_neg h] at this
  have hj : (j 0).val < win0_3.xsize (grid0.coords t) 0 := (j 0).isLt
  exact this ▸ hj

theorem agree4 (t : Fin cfg0.N) (h : ¬ t.val < 320) (p : Vec F S512x768 .fp8e4m3) (d : Vec F S512x1024 .fp8e4m3)
    (ha : Agrees [⟨rdyL, p⟩] d) :
    win0_4.cut (grid0.coords t) d = win0_4.cut (grid0.coords t) (View.canon [⟨rdyL, p⟩]) := by
  funext j
  refine ha _ ⟨_, List.mem_singleton.mpr rfl, ?_⟩
  show _ ∈ (rdyL).set
  rw [Rect.mem_set_unit]; intro a
  have h0 := (xs4 t).1
  have h1 := (xs4 t).2; rw [if_neg h] at h1
  match a with
  | ⟨0, _⟩ => exact ⟨Nat.zero_le _, (Nat.zero_add 512).symm ▸ h0 ▸ (j 0).isLt⟩
  | ⟨1, _⟩ => exact ⟨Nat.zero_le _, (Nat.zero_add 768).symm ▸ h1 ▸ (j 1).isLt⟩

theorem agree5 (t : Fin cfg0.N) (h : ¬ t.val < 320) (p : Vec F S1x16x768 .i8) (d : Vec F S1x16x1024 .i8)
    (ha : Agrees [⟨rscL, p⟩] d) :
    win0_5.cut (grid0.coords t) d = win0_5.cut (grid0.coords t) (View.canon [⟨rscL, p⟩]) := by
  funext j
  refine ha _ ⟨_, List.mem_singleton.mpr rfl, ?_⟩
  show _ ∈ (rscL).set
  rw [Rect.mem_set_unit]; intro a
  have h0 := (xs5 t).1
  have h1 := (xs5 t).2.1
  have h2 := (xs5 t).2.2; rw [if_neg h] at h2
  match a with
  | ⟨0, _⟩ => exact ⟨Nat.zero_le _, (Nat.zero_add 1).symm ▸ h0 ▸ (j 0).isLt⟩
  | ⟨1, _⟩ => exact ⟨Nat.zero_le _, (Nat.zero_add 16).symm ▸ h1 ▸ (j 1).isLt⟩
  | ⟨2, _⟩ => exact ⟨Nat.zero_le _, (Nat.zero_add 768).symm ▸ h2 ▸ (j 2).isLt⟩

/-! ## The body at a point -/

/-- A buffer that agrees with `after` on the part inside the array is what the obligation asks of a cut window, -/
theorem leave_loose (c : Dev nD) (t : Fin cfg0.N) (w : Fin cfg0.W) (hl : cfg0.loose w = true)
    (X : (cfg0.win w).block.Idx → Elt F (cfg0.win w).elt)
    (hX : (cfg0.win w).cut (cfg0.grid.coords t) X = (cfg0.win w).cut (cfg0.grid.coords t) ((dats m 0 c).after w t)) :
    owns (c : Thread nD τ) ((cfg0.win w).stage (cfg0.slots t w)) fullShare X ⊢ ((dats m 0 c).leaves w t : sProp 𝕄) := by
  unfold Dat.leaves
  rw [idle_false t w, hl]
  dsimp only
  iintro H; iexists X; rw [← hX, Window.fill_cut]; iexact H
/-- and one that holds `after` of an uncut one. -/
theorem leave_exact (c : Dev nD) (t : Fin cfg0.N) (w : Fin cfg0.W) (hl : cfg0.loose w = false)
    (X : (cfg0.win w).block.Idx → Elt F (cfg0.win w).elt) (hX : X = (dats m 0 c).after w t) :
    owns (c : Thread nD τ) ((cfg0.win w).stage (cfg0.slots t w)) fullShare X ⊢ ((dats m 0 c).leaves w t : sProp 𝕄) := by
  subst hX
  unfold Dat.leaves
  rw [idle_false t w, hl]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t ∗ (dats m 0 c).leaves 5 t)

theorem acc_zero (c : Dev nD) (t : Fin cfg0.N) (h : t.val % 32 = 0) : accAt m c t.val t.isLt = accStep m c t k0_pay1 := by
  obtain ⟨n, hn⟩ := t
  cases n with
  | zero => rfl
  | succ n => show accStep m c _ (if (n + 1) % 32 = 0 then _ else _) = _; rw [if_pos h]
theorem acc_succ (c : Dev nD) (t : Fin cfg0.N) (h : ¬ t.val % 32 = 0) :
    accAt m c t.val t.isLt = accStep m c t (accAt m c (t.val - 1) (Nat.lt_of_le_of_lt (Nat.sub_le _ _) t.isLt)) := by
  obtain ⟨n, hn⟩ := t
  cases n with
  | zero => exact absurd rfl h
  | succ n => show accStep m c _ (if (n + 1) % 32 = 0 then _ else _) = _; rw [if_neg h]; rfl

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  have hg : win0_0.cut (grid0.coords t) (win0_0.fill (grid0.coords t) d0 (iblk m c 0 t))
      = win0_0.cut (grid0.coords t) ((dats m 0 c).after 0 t) := by
    rw [after0_0]; unfold gblk; rw [Window.cut_fill, Window.cut_fill]
  by_cases hb : t.val < 320
  · have h2 := (cond2_iff t).mpr hb
    have h3 : ¬ k0_cond3 (grid0.coords t) = 1#1 := fun h => (cond3_iff t).mp h hb
    have e4 : codes (win0_0.fill (grid0.coords t) d0 (iblk m c 0 t)) = (dats m 0 c).after 4 t := by
      rw [after0_4, gfull m c t hb]; unfold codesAt; rw [if_pos hb]
    have e5 : scales (win0_0.fill (grid0.coords t) d0 (iblk m c 0 t)) = (dats m 0 c).after 5 t := by
      rw [after0_5, gfull m c t hb]; unfold scalesAt; rw [if_pos hb]
    by_cases ha : t.val % 32 = 0
    · have e3 : accFull (win0_0.fill (grid0.coords t) d0 (iblk m c 0 t)) (xblk m c t) (sblk m c t) k0_pay1 = (dats m 0 c).after 3 t := by
        rw [after0_3, gfull m c t hb, acc_zero m c t ha]; unfold accStep; rw [if_pos hb]
      iapply (step_full_zero c Set.univ (grid0.coords t) ((cond1_iff t).mpr ha) h2 h3 _ _ _ _ _ _ _ _ _ _ _ _ _ (xblk m c t) (sblk m c t) _)
      isplitl [H0]; · iexact H0
      isplitl [H1]; · iexact H1
      isplitl [H2]; · iexact H2
      isplitl [H3]; · iexists _; iexact H3
      isplitl [H4]; · iexists _; iexact H4
      isplitl [H5]; · iexists _; iexact H5
      iintro ⟨H0, H1, H2, H3, H4, H5⟩
      isplitl [HΦ]; · iexact HΦ
      isplitl [Ho]; · iexact Ho
      isplitl [H0]; · iapply (leave_loose m c t 0 rfl _ hg); iexact H0
      isplitl [H1]; · iapply (leave_exact m c t 1 rfl _ (after0_1 m c t).symm); iexact H1
      isplitl [H2]; · iapply (leave_exact m c t 2 rfl _ (after0_2 m c t).symm); iexact H2
      isplitl [H3]; · iapply (leave_loose m c t 3 rfl _ (congrArg _ e3)); iexact H3
      isplitl [H4]; · iapply (leave_loose m c t 4 rfl _ (congrArg _ e4)); iexact H4
      iapply (leave_loose m c t 5 rfl _ (congrArg _ e5)); iexact H5
    · have e3 : accFull (win0_0.fill (grid0.coords t) d0 (iblk m c 0 t)) (xblk m c t) (sblk m c t)
          ((dats m 0 c).before 3 t d3) = (dats m 0 c).after 3 t := by
        rw [after0_3, gfull m c t hb, acc_succ m c t ha, before0_3 m c t ha, afull _ (by dsimp only; omega)]
        unfold accStep; rw [if_pos hb]
      iapply (step_full c Set.univ (grid0.coords t) (fun h => ha ((cond1_iff t).mp h)) h2 h3 _ _ _ _ _ _ _ _ _ _ _ _ _ (xblk m c t) (sblk m c t) _ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, H4, H5⟩
      isplitl [HΦ]; · iexact HΦ
      isplitl [Ho]; · iexact Ho
      isplitl [H0]; · iapply (leave_loose m c t 0 rfl _ hg); iexact H0
      isplitl [H1]; · iapply (leave_exact m c t 1 rfl _ (after0_1 m c t).symm); iexact H1
      isplitl [H2]; · iapply (leave_exact m c t 2 rfl _ (after0_2 m c t).symm); iexact H2
      isplitl [H3]; · iapply (leave_loose m c t 3 rfl _ (congrArg _ e3)); iexact H3
      isplitl [H4]; · iapply (leave_loose m c t 4 rfl _ (congrArg _ e4)); iexact H4
      iapply (leave_loose m c t 5 rfl _ (congrArg _ e5)); iexact H5
  · have h2 : ¬ k0_cond2 (grid0.coords t) = 1#1 := fun h => hb ((cond2_iff t).mp h)
    have h3 := (cond3_iff t).mpr hb
    have e4 : ∀ d, Agrees [⟨rdyL, codesL (View.ld (Val := Elt F) (e' := .bf16) (win0_0.fill (grid0.coords t) d0 (iblk m c 0 t)) rdyL)⟩] d →
        win0_4.cut (grid0.coords t) d = win0_4.cut (grid0.coords t) ((dats m 0 c).after 4 t) := fun d h => by
      rw [glast m c t hb d0] at h; rw [after0_4, agree4 t hb _ d h]; unfold codesAt; rw [if_neg hb]
    have e5 : ∀ d, Agrees [⟨rscL, scalesL (View.ld (Val := Elt F) (e' := .bf16) (win0_0.fill (grid0.coords t) d0 (iblk m c 0 t)) rdyL)⟩] d →
        win0_5.cut (grid0.coords t) d = win0_5.cut (grid0.coords t) ((dats m 0 c).after 5 t) := fun d h => by
      rw [glast m c t hb d0] at h; rw [after0_5, agree5 t hb _ d h]; unfold scalesAt; rw [if_neg hb]
    by_cases ha : t.val % 32 = 0
    · have e3 : ∀ d, Agrees (piecesL (View.ld (Val := Elt F) (e' := .bf16) (win0_0.fill (grid0.coords t) d0 (iblk m c 0 t)) rdyL) (xblk m c t) (sblk m c t) k0_pay1) d →
          win0_3.cut (grid0.coords t) d = win0_3.cut (grid0.coords t) ((dats m 0 c).after 3 t) := fun d h => by
        rw [glast m c t hb d0] at h; rw [after0_3, agree3 t hb _ _ _ _ d h, acc_zero m c t ha]; unfold accStep; rw [if_neg hb]
      iapply (step_last_zero c Set.univ (grid0.coords t) ((cond1_iff t).mpr ha) h2 h3 _ _ _ _ _ _ _ _ _ _ _ _ _ (xblk m c t) (sblk m c t) _)
      isplitl [H0]; · iexact H0
      isplitl [H1]; · iexact H1
      isplitl [H2]; · iexact H2
      isplitl [H3]; · iexists _; iexact H3
      isplitl [H4]; · iexists _; iexact H4
      isplitl [H5]; · iexists _; iexact H5
      iintro ⟨H0, H1, H2, ⟨%D3, %hD3, H3⟩, ⟨%D4, %hD4, H4⟩, ⟨%D5, %hD5, H5⟩⟩
      isplitl [HΦ]; · iexact HΦ
      isplitl [Ho]; · iexact Ho
      isplitl [H0]; · iapply (leave_loose m c t 0 rfl _ hg); iexact H0
      isplitl [H1]; · iapply (leave_exact m c t 1 rfl _ (after0_1 m c t).symm); iexact H1
      isplitl [H2]; · iapply (leave_exact m c t 2 rfl _ (after0_2 m c t).symm); iexact H2
      isplitl [H3]; · iapply (leave_loose m c t 3 rfl _ (e3 D3 hD3)); iexact H3
      isplitl [H4]; · iapply (leave_loose m c t 4 rfl _ (e4 D4 hD4)); iexact H4
      iapply (leave_loose m c t 5 rfl _ (e5 D5 hD5)); iexact H5
    · have e3 : ∀ d, Agrees (piecesL (View.ld (Val := Elt F) (e' := .bf16) (win0_0.fill (grid0.coords t) d0 (iblk m c 0 t)) rdyL) (xblk m c t) (sblk m c t) ((dats m 0 c).before 3 t d3)) d →
          win0_3.cut (grid0.coords t) d = win0_3.cut (grid0.coords t) ((dats m 0 c).after 3 t) := fun d h => by
        rw [glast m c t hb d0] at h; rw [after0_3, agree3 t hb _ _ _ _ d h, acc_succ m c t ha]; unfold accStep; rw [if_neg hb]
        rw [pieces_congr _ _ _ ((dats m 0 c).before 3 t d3) (accAt m c (t.val - 1) (Nat.lt_of_le_of_lt (Nat.sub_le _ _) t.isLt)) fun r hr => by
          rw [before0_3 m c t ha, alast _ (by dsimp only; omega) _ _ r hr]]
      iapply (step_last c Set.univ (grid0.coords t) (fun h => ha ((cond1_iff t).mp h)) h2 h3 _ _ _ _ _ _ _ _ _ _ _ _ _ (xblk m c t) (sblk m c t) _ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, ⟨%D3, %hD3, H3⟩, ⟨%D4, %hD4, H4⟩, ⟨%D5, %hD5, H5⟩⟩
      isplitl [HΦ]; · iexact HΦ
      isplitl [Ho]; · iexact Ho
      isplitl [H0]; · iapply (leave_loose m c t 0 rfl _ hg); iexact H0
      isplitl [H1]; · iapply (leave_exact m c t 1 rfl _ (after0_1 m c t).symm); iexact H1
      isplitl [H2]; · iapply (leave_exact m c t 2 rfl _ (after0_2 m c t).symm); iexact H2
      isplitl [H3]; · iapply (leave_loose m c t 3 rfl _ (e3 D3 hD3)); iexact H3
      isplitl [H4]; · iapply (leave_loose m c t 4 rfl _ (e4 D4 hD4)); iexact H4
      iapply (leave_loose m c t 5 rfl _ (e5 D5 hD5)); iexact H5

theorem defs₀_row (c : Dev nD) (t : Fin cfg0.N) : defs₀ (F := F) .tc cfg0.body (cfg0.bodyArgs t (cfg0.slots t)) = bodyAt0 t := by
  first | rfl | (unfold defs₀; rw [Defs.onTc_tc])

theorem body_obligation (c : Dev nD) : BodyObligationLoose (dats m 0 c) (defs₀ (F := F)) Variants.none () Set.univ := fun t => by
  rw [bigSep_W0, bigSep_W0, defs₀_row c t]
  exact triple_restated (sound_body m c t) rfl .rfl fun _ => .rfl

/-! ## The run -/

set_option backward.isDefEq.respectTransparency.types false in
set_option maxHeartbeats 800000 in
/-- Every execution ends with each array at what the pipeline's write-backs make of it, and every counter at zero. -/
theorem run_main_quiescent : θ_run defs (onTc (τ := τ) (main (F := F))) (s₀ m ρ)
    (fun r => Pipeline.FramePost cfgs (dats m) (0 : Fin 1) (V m) r ∧ r.2.sem = fun _ => 0) :=
  Pipeline.θ_run_frame (Q' := _) cfgs (dats m) (0 : Fin 1) launch0 defs₀ Variants.none m ρ main
    (hbody := body_obligation m)
    (hshare := fun c => (dats m 0 c).share_full fun _ => rfl) (howed := fun _ _ => rfl)
    (V := V m) (hmain := hmain m Variants.none) (hA := A_eq m) (hΦ := fun _ _ => rfl)

theorem run_main : θ_run defs (onTc (τ := τ) (main (F := F))) (s₀ m ρ) (Pipeline.FramePost cfgs (dats m) (0 : Fin 1) (V m)) :=
  (θ_run defs _ _).mono (fun _ h => h.1) (run_main_quiescent m ρ)

/-- The argument arrays end as they began and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) (run_main m ρ))
    ((θ_run defs _ _).mono (fun _ h => h.2) (run_main_quiescent m ρ))

end Cert.WgradIdeal.Run

end
-- ==== Proof.WgradIdealValue.lean ====
/- What one grid step of the weight-gradient kernel computes, read entry by entry over the extended reals: the codes and
   scales of its gradient block, and the product the step adds to the accumulator. -/
module

public import proofs.«01_k».proof.Proof.WgradIdealRun
public import proofs.«01_k».proof.Proof.MxScalar
public import Idealize.ShloMosaic.Lib.Pointwise

@[expose] public section

set_option maxRecDepth 16384

noncomputable section

namespace Cert.WgradIdeal.Run

open Cert.WgradIdeal Cert.WgradIdeal.Gen Cert.Mx
open Idealize.ShloMosaic

/-! ## A full block -/

section
variable (v : Vec Ideal S512x1024 .bf16)

/-- The block's magnitude, its exponent, the inverse scale; -/
theorem peak_at (r : Fin 16) (c : Fin 1024) :
    k0_pay6 (F := Ideal) v (ix2 r c) = peak (fun k => v (ix2 ⟨r.val * 32 + k.val, by omega⟩ c)) := by
  pointwise [k0_pay6]
  rw [ninf_bits16]
  rfl
/-- one step of the search, a block's exponents at once, -/
def pickV (x : FVec Ideal S16x1024 .f32) (f s : IVec S16x1024 32) : IVec S16x1024 32 :=
  select (cmpf .ole (bitcastToFloat .f32 (shli (addi f s) (broadcast S16x1024 23#32))) x) (addi f s) f
theorem pickV_at (x : FVec Ideal S16x1024 .f32) (f s : IVec S16x1024 32) (i : S16x1024.Idx) :
    pickV x f s i = pick (x i) (f i) (s i) := rfl
theorem search : k0_pay7 (F := Ideal) v = pickV (k0_pay6 v) (pickV (k0_pay6 v) (pickV (k0_pay6 v) (pickV (k0_pay6 v)
    (pickV (k0_pay6 v) (broadcast _ 0#32) (broadcast _ 128#32)) (broadcast _ 64#32)) (broadcast _ 32#32)) (broadcast _ 16#32))
    (broadcast _ 8#32) := by
  unfold k0_pay7
  generalize k0_pay6 (F := Ideal) v = x
  rfl
theorem search_at (i : S16x1024.Idx) : k0_pay7 (F := Ideal) v i = find5 (k0_pay6 (F := Ideal) v i) := by
  rw [search]
  simp only [pickV_at]
  rfl
theorem field_at (x : FVec Ideal S16x1024 .f32) (f s : IVec S16x1024 32) (i : S16x1024.Idx) :
    k0_pay9 (F := Ideal) x f s i = expoFrom (x i) (f i) (s i) := rfl
theorem expo_at (r : Fin 16) (c : Fin 1024) :
    expo (F := Ideal) v (ix2 r c) = kexp (peak (fun k => v (ix2 ⟨r.val * 32 + k.val, by omega⟩ c))) := by
  unfold expo
  rw [field_at, search_at, peak_at]
  rfl
theorem inv_of_expo (x : FVec Ideal S16x1024 .f32) (f s : IVec S16x1024 32) (i : S16x1024.Idx) :
    k0_pay11 (F := Ideal) x f s i = pw (IntOp.addi (IntOp.subi 0#32 (k0_pay9 (F := Ideal) x f s i)) 127#32) := rfl
theorem inv_at (r : Fin 16) (c : Fin 1024) :
    inv (F := Ideal) v (ix2 r c)
      = pw (IntOp.addi (IntOp.subi 0#32 (kexp (peak (fun k => v (ix2 ⟨r.val * 32 + k.val, by omega⟩ c))))) 127#32) := by
  unfold inv
  rw [inv_of_expo, ← expo_at]
  rfl
/-- the scale's byte, the codes, the values they stand for. -/
theorem scale_of_expo (x : FVec Ideal S16x1024 .f32) (f s : IVec S16x1024 32) (a : Fin 1) (r : Fin 16) (c : Fin 1024) :
    k0_pay10 (F := Ideal) x f s (ix3 a r c)
      = BitVec.setWidth 8 (IntOp.addi (k0_pay9 (F := Ideal) x f s (ix2 r c)) 127#32) := by
  unfold k0_pay10
  generalize k0_pay9 (F := Ideal) x f s = e
  pointwise
theorem scales_at (a : Fin 1) (r : Fin 16) (c : Fin 1024) :
    scales (F := Ideal) v (ix3 a r c) = kscale (peak (fun k => v (ix2 ⟨r.val * 32 + k.val, by omega⟩ c))) := by
  unfold scales
  rw [scale_of_expo]
  unfold kscale
  rw [← expo_at]
  rfl
theorem code_at (i : FVec Ideal S16x1024 .bf16) (r : Fin 512) (c : Fin 1024) :
    k0_pay12 (F := Ideal) v i (ix2 r c) = min (Ideal.ofBits .f32 0x43E00000#32) (max (Ideal.ofBits .f32 0xC3E00000#32)
      (v (ix2 r c) * i (ix2 ⟨r.val / 32, by omega⟩ c))) := by
  pointwise [k0_pay12]
theorem codes_at (r : Fin 512) (c : Fin 1024) :
    codes (F := Ideal) v (ix2 r c)
      = kcode (peak (fun k => v (ix2 ⟨r.val / 32 * 32 + k.val, by omega⟩ c))) (v (ix2 r c)) := by
  unfold codes
  rw [code_at, inv_at]
  rfl
theorem value_at (e : IVec S16x1024 32) (i : FVec Ideal S16x1024 .bf16) (r : Fin 512) (c : Fin 1024) :
    k0_pay13 (F := Ideal) v e i (ix2 r c)
      = k0_pay12 (F := Ideal) v i (ix2 r c) * pw (IntOp.addi (e (ix2 ⟨r.val / 32, by omega⟩ c)) 127#32) := by
  unfold k0_pay13
  generalize k0_pay12 (F := Ideal) v i = d
  pointwise
  rfl
theorem deq_at (r : Fin 512) (c : Fin 1024) :
    deq (F := Ideal) v (ix2 r c)
      = kdeq (peak (fun k => v (ix2 ⟨r.val / 32 * 32 + k.val, by omega⟩ c))) (v (ix2 r c)) := by
  have h := codes_at v r c
  unfold codes at h
  unfold deq
  rw [value_at, expo_at, h]
  rfl

/-- One strip's product. -/
def dot (d : Vec Ideal S512x1024 .bf16) (x : Vec Ideal S512x1024 .fp8e4m3) (s : Vec Ideal S1x16x1024 .i8) (r : Fin 1024) (c : Fin 1024) : EReal :=
  ∑ k : Fin 512, d (ix2 k r) * kval (s (ix3 0 ⟨k.val / 32, by omega⟩ c)) (x (ix2 k c))

variable (d : Vec Ideal S512x1024 .bf16) (x : Vec Ideal S512x1024 .fp8e4m3) (s : Vec Ideal S1x16x1024 .i8) (o : Vec Ideal S1024x1024 .f32)
  (r : Fin 1024) (c : Fin 1024)

theorem dot0_at (e : IVec S16x1024 32) (i : FVec Ideal S16x1024 .bf16) :
    k0_pay14 (F := Ideal) v e i x s o (ix2 r c) = o (ix2 r c) + dot (k0_pay13 (F := Ideal) v e i) x s r c := by
  unfold k0_pay14
  generalize k0_pay13 (F := Ideal) v e i = d
  pointwise
  rfl
theorem dot1_at : k0_pay15 (F := Ideal) d x s o (ix2 r c) = o (ix2 r c) + dot d x s r c := by
  pointwise [k0_pay15]
  rfl
theorem dot2_at : k0_pay2 (F := Ideal) (k0_pay16 o) (k0_pay17 d x s) (ix2 r c) = o (ix2 r c) + dot d x s r c := by
  pointwise [k0_pay2, k0_pay16, k0_pay17]
  rfl
theorem dot3_at : k0_pay3 (F := Ideal) d x s o (ix2 r c) = o (ix2 r c) + dot d x s r c := by
  pointwise [k0_pay3]
  rfl
end

/-! ## The last block, 768 columns wide -/

section
variable (v : Vec Ideal S512x768 .bf16)

/-- The block's magnitude, its exponent, the inverse scale; -/
theorem peakL_at (r : Fin 16) (c : Fin 768) :
    k0_pay18 (F := Ideal) v (ix2 r c) = peak (fun k => v (ix2 ⟨r.val * 32 + k.val, by omega⟩ c)) := by
  pointwise [k0_pay18]
  rw [ninf_bits16]
  rfl
/-- one step of the search, a block's exponents at once, -/
def pickVL (x : FVec Ideal S16x768 .f32) (f s : IVec S16x768 32) : IVec S16x768 32 :=
  select (cmpf .ole (bitcastToFloat .f32 (shli (addi f s) (broadcast S16x768 23#32))) x) (addi f s) f
theorem pickVL_at (x : FVec Ideal S16x768 .f32) (f s : IVec S16x768 32) (i : S16x768.Idx) :
    pickVL x f s i = pick (x i) (f i) (s i) := rfl
theorem searchL : k0_pay19 (F := Ideal) v = pickVL (k0_pay18 v) (pickVL (k0_pay18 v) (pickVL (k0_pay18 v) (pickVL (k0_pay18 v)
    (pickVL (k0_pay18 v) (broadcast _ 0#32) (broadcast _ 128#32)) (broadcast _ 64#32)) (broadcast _ 32#32)) (broadcast _ 16#32))
    (broadcast _ 8#32) := by
  unfold k0_pay19
  generalize k0_pay18 (F := Ideal) v = x
  rfl
theorem searchL_at (i : S16x768.Idx) : k0_pay19 (F := Ideal) v i = find5 (k0_pay18 (F := Ideal) v i) := by
  rw [searchL]
  simp only [pickVL_at]
  rfl
theorem fieldL_at (x : FVec Ideal S16x768 .f32) (f s : IVec S16x768 32) (i : S16x768.Idx) :
    k0_pay21 (F := Ideal) x f s i = expoFrom (x i) (f i) (s i) := rfl
theorem expoL_at (r : Fin 16) (c : Fin 768) :
    expoL (F := Ideal) v (ix2 r c) = kexp (peak (fun k => v (ix2 ⟨r.val * 32 + k.val, by omega⟩ c))) := by
  unfold expoL
  rw [fieldL_at, searchL_at, peakL_at]
  rfl
theorem inv_of_expoL (x : FVec Ideal S16x768 .f32) (f s : IVec S16x768 32) (i : S16x768.Idx) :
    k0_pay23 (F := Ideal) x f s i = pw (IntOp.addi (IntOp.subi 0#32 (k0_pay21 (F := Ideal) x f s i)) 127#32) := rfl
theorem invL_at (r : Fin 16) (c : Fin 768) :
    invL (F := Ideal) v (ix2 r c)
      = pw (IntOp.addi (IntOp.subi 0#32 (kexp (peak (fun k => v (ix2 ⟨r.val * 32 + k.val, by omega⟩ c))))) 127#32) := by
  unfold invL
  rw [inv_of_expoL, ← expoL_at]
  rfl
/-- the scale's byte, the codes, the values they stand for. -/
theorem scale_of_expoL (x : FVec Ideal S16x768 .f32) (f s : IVec S16x768 32) (a : Fin 1) (r : Fin 16) (c : Fin 768) :
    k0_pay22 (F := Ideal) x f s (ix3 a r c)
      = BitVec.setWidth 8 (IntOp.addi (k0_pay21 (F := Ideal) x f s (ix2 r c)) 127#32) := by
  unfold k0_pay22
  generalize k0_pay21 (F := Ideal) x f s = e
  pointwise
theorem scalesL_at (a : Fin 1) (r : Fin 16) (c : Fin 768) :
    scalesL (F := Ideal) v (ix3 a r c) = kscale (peak (fun k => v (ix2 ⟨r.val * 32 + k.val, by omega⟩ c))) := by
  unfold scalesL
  rw [scale_of_expoL]
  unfold kscale
  rw [← expoL_at]
  rfl
theorem codeL_at (i : FVec Ideal S16x768 .bf16) (r : Fin 512) (c : Fin 768) :
    k0_pay24 (F := Ideal) v i (ix2 r c) = min (Ideal.ofBits .f32 0x43E00000#32) (max (Ideal.ofBits .f32 0xC3E00000#32)
      (v (ix2 r c) * i (ix2 ⟨r.val / 32, by omega⟩ c))) := by
  pointwise [k0_pay24]
theorem codesL_at (r : Fin 512) (c : Fin 768) :
    codesL (F := Ideal) v (ix2 r c)
      = kcode (peak (fun k => v (ix2 ⟨r.val / 32 * 32 + k.val, by omega⟩ c))) (v (ix2 r c)) := by
  unfold codesL
  rw [codeL_at, invL_at]
  rfl
theorem valueL_at (e : IVec S16x768 32) (i : FVec Ideal S16x768 .bf16) (r : Fin 512) (c : Fin 768) :
    k0_pay25 (F := Ideal) v e i (ix2 r c)
      = k0_pay24 (F := Ideal) v i (ix2 r c) * pw (IntOp.addi (e (ix2 ⟨r.val / 32, by omega⟩ c)) 127#32) := by
  unfold k0_pay25
  generalize k0_pay24 (F := Ideal) v i = d
  pointwise
  rfl
theorem deqL_at (r : Fin 512) (c : Fin 768) :
    deqL (F := Ideal) v (ix2 r c)
      = kdeq (peak (fun k => v (ix2 ⟨r.val / 32 * 32 + k.val, by omega⟩ c))) (v (ix2 r c)) := by
  have h := codesL_at v r c
  unfold codesL at h
  unfold deqL
  rw [valueL_at, expoL_at, h]
  rfl

/-- One strip's product. -/
def dotL (d : Vec Ideal S512x768 .bf16) (x : Vec Ideal S512x1024 .fp8e4m3) (s : Vec Ideal S1x16x1024 .i8) (r : Fin 768) (c : Fin 1024) : EReal :=
  ∑ k : Fin 512, d (ix2 k r) * kval (s (ix3 0 ⟨k.val / 32, by omega⟩ c)) (x (ix2 k c))

variable (d : Vec Ideal S512x768 .bf16) (x : Vec Ideal S512x1024 .fp8e4m3) (s : Vec Ideal S1x16x1024 .i8) (o : Vec Ideal S768x1024 .f32)
  (r : Fin 768) (c : Fin 1024)

theorem dot0L_at (e : IVec S16x768 32) (i : FVec Ideal S16x768 .bf16) :
    k0_pay26 (F := Ideal) v e i x s o (ix2 r c) = o (ix2 r c) + dotL (k0_pay25 (F := Ideal) v e i) x s r c := by
  unfold k0_pay26
  generalize k0_pay25 (F := Ideal) v e i = d
  pointwise
  rfl
theorem dot1L_at : k0_pay27 (F := Ideal) d x s o (ix2 r c) = o (ix2 r c) + dotL d x s r c := by
  pointwise [k0_pay27]
  rfl
theorem dot2L_at : k0_pay4 (F := Ideal) (k0_pay28 o) (k0_pay29 d x s) (ix2 r c) = o (ix2 r c) + dotL d x s r c := by
  pointwise [k0_pay4, k0_pay28, k0_pay29]
  rfl
theorem dot3L_at : k0_pay5 (F := Ideal) d x s o (ix2 r c) = o (ix2 r c) + dotL d x s r c := by
  pointwise [k0_pay5]
  rfl
end

end Cert.WgradIdeal.Run
end
-- ==== Proof.WgradIdealArray.lean ====
/- What the weight-gradient kernel leaves in its three result arrays: the accumulator after every grid point as the part of
   the product its rows so far make, and from it, and from each point's codes and scales, the arrays after the last point. -/
module

public import proofs.«01_k».proof.Proof.WgradIdealValue
public import proofs.«01_k».proof.Proof.MxArray

@[expose] public section

set_option maxRecDepth 16384

noncomputable section

namespace Cert.WgradIdeal.Run

open Cert.WgradIdeal Cert.WgradIdeal.Gen Cert.Mx
open Idealize.ShloMosaic Idealize.ShloMosaic.TcCoe
open Idealize.SL.Sem
open Idealize.ShloMosaic.Pipeline (Dat Window)

/-! ## The accumulator after one step -/

/-- A read through a rectangle. -/
theorem ld_at {S : Shape} {e : EltTy} (x : S.Idx → Elt Ideal e) (off sz : Fin S.rank → ℕ) (inb : ∀ a, off a + sz a ≤ S.size a)
    (i : (Rect.unit (s := S) off sz inb).shape.Idx) (j : S.Idx) (h : ∀ a, (j a).val = off a + (i a).val) :
    View.ld (Val := Elt Ideal) (e' := e) x (Rect.unit off sz inb) i = x j :=
  congrArg x (funext fun a => Fin.ext (by rw [Rect.idx_unit_val]; exact (h a).symm))

section
variable (x : Vec Ideal S512x4096 .fp8e4m3) (s : Vec Ideal S1x16x4096 .i8) (o : Vec Ideal S1024x4096 .f32) (q : Fin 4096)

/-- A step's product at a row and a column. -/
def stepDot (d : Fin 512 → EReal) : EReal :=
  ∑ k : Fin 512, d k * kval (s (ix3 0 ⟨k.val / 32, by omega⟩ q)) (x (ix2 k q))

/-- A strip's product is the step's. -/
theorem strip_dot (off : ℕ) (hx hs) (d : Vec Ideal S512x1024 .bf16) (r : Fin 1024) (b : Fin 1024) (hq : q.val = off + b.val) :
    dot d (View.ld (Val := Elt Ideal) (e' := .fp8e4m3) x (Rect.unit (s := S512x4096) ![0, off] S512x1024.size hx))
      (View.ld (Val := Elt Ideal) (e' := .i8) s (Rect.unit (s := S1x16x4096) ![0, 0, off] S1x16x1024.size hs)) r b
      = stepDot x s q (fun k => d (ix2 k r)) := by
  unfold dot stepDot
  refine Finset.sum_congr rfl fun k _ => congrArg₂ (fun z w : EReal => d (ix2 k r) * (w * z)) ?_ ?_
  · refine congrArg (fun z : BitVec 8 => pw (BitVec.setWidth 32 z)) (ld_at (e := .i8) s _ _ _ _ _ fun a => ?_)
    match a with
    | ⟨0, _⟩ => rfl
    | ⟨1, _⟩ => exact (Nat.zero_add _).symm
    | ⟨2, _⟩ => exact hq
  · refine ld_at (e := .fp8e4m3) x _ _ _ _ _ fun a => ?_
    match a with
    | ⟨0, _⟩ => exact (Nat.zero_add _).symm
    | ⟨1, _⟩ => exact hq
theorem strip_dotL (off : ℕ) (hx hs) (d : Vec Ideal S512x768 .bf16) (r : Fin 768) (b : Fin 1024) (hq : q.val = off + b.val) :
    dotL d (View.ld (Val := Elt Ideal) (e' := .fp8e4m3) x (Rect.unit (s := S512x4096) ![0, off] S512x1024.size hx))
      (View.ld (Val := Elt Ideal) (e' := .i8) s (Rect.unit (s := S1x16x4096) ![0, 0, off] S1x16x1024.size hs)) r b
      = stepDot x s q (fun k => d (ix2 k r)) := by
  unfold dotL stepDot
  refine Finset.sum_congr rfl fun k _ => congrArg₂ (fun z w : EReal => d (ix2 k r) * (w * z)) ?_ ?_
  · refine congrArg (fun z : BitVec 8 => pw (BitVec.setWidth 32 z)) (ld_at (e := .i8) s _ _ _ _ _ fun a => ?_)
    match a with
    | ⟨0, _⟩ => rfl
    | ⟨1, _⟩ => exact (Nat.zero_add _).symm
    | ⟨2, _⟩ => exact hq
  · refine ld_at (e := .fp8e4m3) x _ _ _ _ _ fun a => ?_
    match a with
    | ⟨0, _⟩ => exact (Nat.zero_add _).symm
    | ⟨1, _⟩ => exact hq

/-- A strip of the accumulator. -/
theorem strip_acc (off n : ℕ) (ho) (r : Fin 1024) (i : (⟨2, ![n, 1024]⟩ : Shape).Idx) (h0 : r.val = (i 0).val) (hq : q.val = off + (i 1).val) :
    View.ld (Val := Elt Ideal) (e' := .f32) o (Rect.unit (s := S1024x4096) ![0, off] ![n, 1024] ho) i = o (ix2 r q) := by
  refine ld_at (e := .f32) o _ _ _ _ _ fun a => ?_
  match a with
  | ⟨0, _⟩ => exact h0.trans (Nat.zero_add _).symm
  | ⟨1, _⟩ => exact hq

theorem accFull_at (v : Vec Ideal S512x1024 .bf16) (r : Fin 1024) :
    accFull v x s o (ix2 r q) = o (ix2 r q) + stepDot x s q (fun k => deq v (ix2 k r)) := by
  unfold accFull
  canon_tiles i hi using coverFull _ _ _ _ _
  · obtain rfl : r = i 0 := Fin.ext hi0
    have e := dot3_at (deq v) (View.ld x rx3) (View.ld s rs3) (View.ld o ra3) (i 0) (i 1)
    rw [ix2_eta (n0 := 1024) (n1 := 1024) i] at e
    exact e.trans (congrArg₂ (· + ·) (strip_acc o q 3072 1024 _ _ i rfl hi1) (strip_dot x s q 3072 _ _ _ _ _ hi1))
  · obtain rfl : r = i 0 := Fin.ext hi0
    have e := dot2_at (deq v) (View.ld x rx2) (View.ld s rs2) (View.ld o ra2) (i 0) (i 1)
    rw [ix2_eta (n0 := 1024) (n1 := 1024) i] at e
    exact e.trans (congrArg₂ (· + ·) (strip_acc o q 2048 1024 _ _ i rfl hi1) (strip_dot x s q 2048 _ _ _ _ _ hi1))
  · obtain rfl : r = i 0 := Fin.ext hi0
    have e := dot1_at (deq v) (View.ld x rx1) (View.ld s rs1) (View.ld o ra1) (i 0) (i 1)
    rw [ix2_eta (n0 := 1024) (n1 := 1024) i] at e
    exact e.trans (congrArg₂ (· + ·) (strip_acc o q 1024 1024 _ _ i rfl hi1) (strip_dot x s q 1024 _ _ _ _ _ hi1))
  · obtain rfl : r = i 0 := Fin.ext hi0
    have e := dot0_at v (View.ld x rx0) (View.ld s rs0) (View.ld o ra0) (i 0) (i 1) (expo v) (inv v)
    rw [ix2_eta (n0 := 1024) (n1 := 1024) i] at e
    have hq : q.val = 0 + (i 1).val := hi1.trans (Nat.zero_add _).symm
    exact e.trans (congrArg₂ (· + ·) (strip_acc o q 0 1024 _ _ i rfl hq) (strip_dot x s q 0 _ _ _ _ _ hq))

theorem accLast_at (v : Vec Ideal S512x768 .bf16) (r : Fin 1024) (hr : r.val < 768) :
    View.canon (piecesL v x s o) (ix2 r q) = o (ix2 r q) + stepDot x s q (fun k => deqL v (ix2 k ⟨r.val, hr⟩)) := by
  unfold piecesL
  canon_tiles i hi using coverL _ _ _ _ _ hr
  · obtain h0 : (⟨r.val, hr⟩ : Fin 768) = i 0 := Fin.ext hi0
    have e := dot3L_at (deqL v) (View.ld x rx3) (View.ld s rs3) (View.ld o rb3) (i 0) (i 1)
    rw [ix2_eta (n0 := 768) (n1 := 1024) i] at e
    rw [h0]
    exact e.trans (congrArg₂ (· + ·) (strip_acc o q 3072 768 _ _ i hi0 hi1) (strip_dotL x s q 3072 _ _ _ _ _ hi1))
  · obtain h0 : (⟨r.val, hr⟩ : Fin 768) = i 0 := Fin.ext hi0
    have e := dot2L_at (deqL v) (View.ld x rx2) (View.ld s rs2) (View.ld o rb2) (i 0) (i 1)
    rw [ix2_eta (n0 := 768) (n1 := 1024) i] at e
    rw [h0]
    exact e.trans (congrArg₂ (· + ·) (strip_acc o q 2048 768 _ _ i hi0 hi1) (strip_dotL x s q 2048 _ _ _ _ _ hi1))
  · obtain h0 : (⟨r.val, hr⟩ : Fin 768) = i 0 := Fin.ext hi0
    have e := dot1L_at (deqL v) (View.ld x rx1) (View.ld s rs1) (View.ld o rb1) (i 0) (i 1)
    rw [ix2_eta (n0 := 768) (n1 := 1024) i] at e
    rw [h0]
    exact e.trans (congrArg₂ (· + ·) (strip_acc o q 1024 768 _ _ i hi0 hi1) (strip_dotL x s q 1024 _ _ _ _ _ hi1))
  · obtain h0 : (⟨r.val, hr⟩ : Fin 768) = i 0 := Fin.ext hi0
    have e := dot0L_at v (View.ld x rx0) (View.ld s rs0) (View.ld o rb0) (i 0) (i 1) (expoL v) (invL v)
    rw [ix2_eta (n0 := 768) (n1 := 1024) i] at e
    rw [h0]
    have hq : q.val = 0 + (i 1).val := hi1.trans (Nat.zero_add _).symm
    exact e.trans (congrArg₂ (· + ·) (strip_acc o q 0 768 _ _ i hi0 hq) (strip_dotL x s q 0 _ _ _ _ _ hq))
end

/-! ## The blocks of a point, in the arrays -/

variable (m : (ℓ : Loc nD τ sig) → Buf (Elt Ideal) ℓ) (ρ : Dev nD → PrngReg) (c : Dev nD)

abbrev gradA : Grad := m ((c : Thread nD τ).loc main_arg0)
abbrev actsA : Acts := m ((c : Thread nD τ).loc main_arg1)
abbrev scalesA : ActScales := m ((c : Thread nD τ).loc main_arg2)

theorem index_0 : ∀ t : Fin cfg0.N, win0_0.index t 0 = t.val % 32 ∧ win0_0.index t 1 = t.val / 32 := by decide +kernel
theorem index_1 : ∀ t : Fin cfg0.N, win0_1.index t 0 = t.val % 32 ∧ win0_1.index t 1 = 0 := by decide +kernel
theorem index_2 : ∀ t : Fin cfg0.N, win0_2.index t 0 = t.val % 32 ∧ win0_2.index t 1 = 0 ∧ win0_2.index t 2 = 0 := by decide +kernel
theorem index_3 : ∀ t : Fin cfg0.N, win0_3.index t 0 = t.val / 32 ∧ win0_3.index t 1 = 0 := by decide +kernel
theorem index_4 : ∀ t : Fin cfg0.N, win0_4.index t 0 = t.val % 32 ∧ win0_4.index t 1 = t.val / 32 := by decide +kernel
theorem index_5 : ∀ t : Fin cfg0.N, win0_5.index t 0 = t.val % 32 ∧ win0_5.index t 1 = 0 ∧ win0_5.index t 2 = t.val / 32 := by decide +kernel

/-- How many columns of point `t`'s block the array has. -/
abbrev ext (t : Fin cfg0.N) : ℕ := if t.val < 320 then 1024 else 768

theorem gblk_at (t : Fin cfg0.N) (k : Fin 512) (r : Fin 1024) (hr : r.val < ext t) :
    gblk m c t (ix2 k r) = at2 (gradA m c) (512 * (t.val % 32) + k.val) (1024 * (t.val / 32) + r.val) := by
  have hm : win0_0.moved (grid0.coords t) (ix2 k r : S512x1024.Idx) = true := (win0_0.moved_iff _ _).mpr fun a => by
    match a with
    | ⟨0, _⟩ => show k.val < win0_0.xsize (grid0.coords t) 0; rw [(xs0 t).1]; exact k.isLt
    | ⟨1, _⟩ => show r.val < win0_0.xsize (grid0.coords t) 1; rw [(xs0 t).2]; exact hr
  unfold gblk Window.fill
  rw [dif_pos hm]
  unfold iblk
  rw [View.read_apply]
  refine at2_of (gradA m c) _ _ _ ?_ ?_
  · show win0_0.index t 0 * 512 + 1 * k.val = _; rw [(index_0 t).1]; omega
  · show win0_0.index t 1 * 1024 + 1 * r.val = _; rw [(index_0 t).2]; omega
theorem xblk_at (t : Fin cfg0.N) (k : Fin 512) (q : Fin 4096) :
    xblk m c t (ix2 k q) = at2 (actsA m c) (512 * (t.val % 32) + k.val) q.val := by
  unfold xblk iblk
  rw [View.read_apply]
  refine at2_of (actsA m c) _ _ _ ?_ ?_
  · show win0_1.index t 0 * 512 + 1 * k.val = _; rw [(index_1 t).1]; omega
  · show win0_1.index t 1 * 4096 + 1 * q.val = _; rw [(index_1 t).2]; omega
theorem sblk_at (t : Fin cfg0.N) (a : Fin 1) (b : Fin 16) (q : Fin 4096) :
    sblk m c t (ix3 a b q) = at3 (scalesA m c) (t.val % 32) b.val q.val := by
  unfold sblk iblk
  rw [View.read_apply]
  refine at3_of (scalesA m c) _ _ _ _ ?_ ?_ ?_
  · show win0_2.index t 0 * 1 + 1 * a.val = _; rw [(index_2 t).1]; omega
  · show win0_2.index t 1 * 16 + 1 * b.val = _; rw [(index_2 t).2.1]; omega
  · show win0_2.index t 2 * 4096 + 1 * q.val = _; rw [(index_2 t).2.2]; omega

/-- The magnitudes of a point's blocks. -/
theorem peak_blk (t : Fin cfg0.N) (a : ℕ) (ha : ∀ k : Fin 32, a * 32 + k.val < 512) (r : Fin 1024) (hr : r.val < ext t) (b : ℕ) (hb : b = 16 * (t.val % 32) + a) :
    peak (fun k => gblk m c t (ix2 ⟨a * 32 + k.val, ha k⟩ r)) = colPeak (gradA m c) b (1024 * (t.val / 32) + r.val) := by
  subst hb
  unfold colPeak
  refine congrArg peak (funext fun k => ?_)
  rw [gblk_at m c t _ r hr]
  refine congrArg (fun p => at2 (gradA m c) p _) ?_
  show 512 * (t.val % 32) + (a * 32 + k.val) = _
  omega

/-- The last block's columns. -/
theorem ldL_at (g : Vec Ideal S512x1024 .bf16) (k : Fin 512) (r : Fin 768) :
    View.ld (Val := Elt Ideal) (e' := .bf16) g rdyL (ix2 k r) = g (ix2 k ⟨r.val, by omega⟩) := by
  refine ld_at (e := .bf16) g _ _ _ _ _ fun a => ?_
  match a with
  | ⟨0, _⟩ => exact (Nat.zero_add _).symm
  | ⟨1, _⟩ => exact (Nat.zero_add _).symm

theorem codes_blk (t : Fin cfg0.N) (k : Fin 512) (r : Fin 1024) (hr : r.val < ext t) :
    codesAt m c t (ix2 k r) = colCode (gradA m c) (512 * (t.val % 32) + k.val) (1024 * (t.val / 32) + r.val) := by
  have hp := peak_blk m c t (k.val / 32) (fun _ => by omega) r hr ((512 * (t.val % 32) + k.val) / 32) (by omega)
  have hv := gblk_at m c t k r hr
  unfold codesAt colCode
  rw [← hp, ← hv]
  by_cases h : t.val < 320
  · rw [if_pos h]; exact codes_at _ _ _
  · rw [if_neg h]
    have hr' : r.val < 768 := by unfold ext at hr; rwa [if_neg h] at hr
    have e : (ix2 k r : S512x1024.Idx) = rdyL.emb (ix2 k ⟨r.val, hr'⟩ : S512x768.Idx) := by
      funext a; apply Fin.ext; rw [Rect.emb_apply]
      match a with
      | ⟨0, _⟩ => show k.val = 0 + 1 * k.val; omega
      | ⟨1, _⟩ => show r.val = 0 + 1 * r.val; omega
    have e2 := View.canon_cons_emb (Val := Elt Ideal) (e := .fp8e4m3) rdyL (codesL (View.ld (gblk m c t) rdyL)) [] (ix2 k ⟨r.val, hr'⟩ : S512x768.Idx)
    rw [← e] at e2
    refine e2.trans ((codesL_at _ _ _).trans ?_)
    exact congrArg₂ kcode (congrArg peak (funext fun _ => ldL_at _ _ _)) (ldL_at _ _ _)
theorem scales_blk (t : Fin cfg0.N) (a : Fin 1) (b : Fin 16) (r : Fin 1024) (hr : r.val < ext t) :
    scalesAt m c t (ix3 a b r) = colScale (gradA m c) (16 * (t.val % 32) + b.val) (1024 * (t.val / 32) + r.val) := by
  have hp := peak_blk m c t b.val (fun _ => by omega) r hr (16 * (t.val % 32) + b.val) rfl
  unfold scalesAt colScale
  rw [← hp]
  by_cases h : t.val < 320
  · rw [if_pos h]; exact scales_at _ _ _ _
  · rw [if_neg h]
    have hr' : r.val < 768 := by unfold ext at hr; rwa [if_neg h] at hr
    have e : (ix3 a b r : S1x16x1024.Idx) = rscL.emb (ix3 a b ⟨r.val, hr'⟩ : S1x16x768.Idx) := by
      funext z; apply Fin.ext; rw [Rect.emb_apply]
      match z with
      | ⟨0, _⟩ => show a.val = 0 + 1 * a.val; omega
      | ⟨1, _⟩ => show b.val = 0 + 1 * b.val; omega
      | ⟨2, _⟩ => show r.val = 0 + 1 * r.val; omega
    have e2 := View.canon_cons_emb (Val := Elt Ideal) (e := .i8) rscL (scalesL (View.ld (gblk m c t) rdyL)) [] (ix3 a b ⟨r.val, hr'⟩ : S1x16x768.Idx)
    rw [← e] at e2
    refine e2.trans ((scalesL_at _ _ _ _).trans ?_)
    exact congrArg kscale (congrArg peak (funext fun _ => ldL_at _ _ _))

/-- A step's product is 512 rows' part of the whole. -/
theorem dot_blk (t : Fin cfg0.N) (r : Fin 1024) (q : Fin 4096) (d : Fin 512 → EReal)
    (hd : ∀ k, d k = colValue (gradA m c) (512 * (t.val % 32) + k.val) (1024 * (t.val / 32) + r.val)) :
    stepDot (xblk m c t) (sblk m c t) q d
      = ∑ k : Fin 512, colValue (gradA m c) (512 * (t.val % 32) + k.val) (1024 * (t.val / 32) + r.val)
          * actValue (actsA m c) (scalesA m c) (512 * (t.val % 32) + k.val) q.val := by
  unfold stepDot actValue
  refine Finset.sum_congr rfl fun k _ => ?_
  rw [hd, xblk_at, sblk_at]
  have h1 : (512 * (t.val % 32) + k.val) / 512 = t.val % 32 := by omega
  have h2 : (512 * (t.val % 32) + k.val) / 32 % 16 = k.val / 32 := by omega
  rw [h1, h2]

theorem step_at (t : Fin cfg0.N) (o : Vec Ideal S1024x4096 .f32) (r : Fin 1024) (q : Fin 4096) (hr : r.val < ext t) :
    accStep m c t o (ix2 r q) = o (ix2 r q)
      + ∑ k : Fin 512, colValue (gradA m c) (512 * (t.val % 32) + k.val) (1024 * (t.val / 32) + r.val)
          * actValue (actsA m c) (scalesA m c) (512 * (t.val % 32) + k.val) q.val := by
  unfold accStep
  by_cases h : t.val < 320
  · rw [if_pos h, accFull_at]
    refine congrArg _ (dot_blk m c t r q _ fun k => ?_)
    unfold colValue
    rw [← gblk_at m c t k r hr, ← peak_blk m c t (k.val / 32) (fun _ => by omega) r hr ((512 * (t.val % 32) + k.val) / 32) (by omega)]
    exact deq_at _ _ _
  · have hr' : r.val < 768 := by unfold ext at hr; rwa [if_neg h] at hr
    rw [if_neg h, accLast_at _ _ _ _ _ _ hr']
    refine congrArg _ (dot_blk m c t r q _ fun k => ?_)
    unfold colValue
    rw [← gblk_at m c t k r hr, ← peak_blk m c t (k.val / 32) (fun _ => by omega) r hr ((512 * (t.val % 32) + k.val) / 32) (by omega)]
    refine (deqL_at _ _ _).trans ?_
    exact congrArg₂ kdeq (congrArg peak (funext fun _ => ldL_at _ _ _)) (ldL_at _ _ _)

theorem zero_at (r : Fin 1024) (q : Fin 4096) : k0_pay1 (F := Ideal) (ix2 r q) = 0 := by
  pointwise [k0_pay1]

/-- The accumulator after a point: the product over the rows up to and with the point's. -/
theorem acc_at : ∀ (n : ℕ) (hn : n < cfg0.N) (r : Fin 1024) (q : Fin 4096), r.val < ext ⟨n, hn⟩ →
    accAt m c n hn (ix2 r q)
      = dotTo (gradA m c) (actsA m c) (scalesA m c) (512 * (n % 32) + 512) (1024 * (n / 32) + r.val) q.val := by
  intro n
  induction n with
  | zero =>
    intro hn r q hr
    rw [acc_zero m c ⟨0, hn⟩ rfl, step_at m c ⟨0, hn⟩ _ r q hr, zero_at, dotTo_add]
    refine congrArg (· + _) ?_
    simp [dotTo]
  | succ n ih =>
    intro hn r q hr
    rw [dotTo_add]
    by_cases h : (n + 1) % 32 = 0
    · rw [acc_zero m c ⟨n + 1, hn⟩ h, step_at m c ⟨n + 1, hn⟩ _ r q hr, zero_at]
      refine congrArg (· + _) ?_
      rw [h]
      simp [dotTo]
    · rw [acc_succ m c ⟨n + 1, hn⟩ h, step_at m c ⟨n + 1, hn⟩ _ r q hr]
      refine congrArg (· + _) ?_
      have hr' : r.val < ext ⟨n, Nat.lt_of_succ_lt hn⟩ := by
        unfold ext at hr ⊢
        dsimp only at hr ⊢
        split_ifs at hr ⊢ <;> omega
      refine (ih (Nat.lt_of_succ_lt hn) r q hr').trans ?_
      have e1 : 512 * (n % 32) + 512 = 512 * ((n + 1) % 32) := by omega
      have e2 : n / 32 = (n + 1) / 32 := by omega
      rw [e1, e2]

/-! ## The result arrays -/

/-- The product, the codes, the scales. -/
def dwA : Buf (Elt Ideal) ((c : Thread nD τ).loc main_v0_0) :=
  fun i : S11008x4096.Idx => dotTo (gradA m c) (actsA m c) (scalesA m c) 16384 (i 0).val (i 1).val
def ccA : Buf (Elt Ideal) ((c : Thread nD τ).loc main_v0_1) :=
  fun i : S16384x11008.Idx => colCode (gradA m c) (i 0).val (i 1).val
def csA : Buf (Elt Ideal) ((c : Thread nD τ).loc main_v0_2) :=
  fun i : S32x16x11008.Idx => colScale (gradA m c) (16 * (i 0).val + (i 1).val) (i 2).val

theorem dwA_apply (i : S11008x4096.Idx) {a b : ℕ} (h0 : a = (i 0).val) (h1 : b = (i 1).val) :
    dotTo (gradA m c) (actsA m c) (scalesA m c) 16384 a b = dwA m c i := by subst h0 h1; rfl

theorem flushed_3 (t : Fin cfg0.N) (hf : (cfg0.win 3).flush t = true) :
    (dats m 0 c).flushed 3 t = ((cfg0.win 3).blk t).view.read (Elt Ideal) (dwA m c) := by
  have h31 := (flush0_3 t).mp hf
  show (cfg0.win 3).cut (grid0.coords t) ((dats m 0 c).after 3 t) = _
  rw [after0_3]
  funext j
  have hj : ∀ a, (j a).val < win0_3.xsize (grid0.coords t) a := fun a => (j a).isLt
  rw [View.read_apply]
  have j0 : (j 0).val < ext t := by have h := hj 0; rwa [(xs3 t).2] at h
  have j1 : (j 1).val < 4096 := by have h := hj 1; rwa [(xs3 t).1] at h
  have jr : (j 0).val < 1024 := by unfold ext at j0; split_ifs at j0 <;> omega
  have e : (win0_3.xinj (grid0.coords t) j : S1024x4096.Idx) = ix2 ⟨(j 0).val, jr⟩ ⟨(j 1).val, j1⟩ := by
    funext a; match a with
    | ⟨0, _⟩ => rfl
    | ⟨1, _⟩ => rfl
  have key := fun i h0 h1 => dwA_apply m c i (a := 1024 * (t.val / 32) + (j 0).val) (b := (j 1).val) h0 h1
  generalize dwA m c = D at key
  refine Eq.trans ?_ (key _ ?_ ?_)
  · show accAt m c t.val t.isLt (win0_3.xinj (grid0.coords t) j) = _
    rw [e, acc_at m c t.val t.isLt _ _ j0, h31]
  · show _ = win0_3.index t 0 * 1024 + 1 * (j 0).val
    rw [(index_3 t).1]; omega
  · show _ = win0_3.index t 1 * 4096 + 1 * (j 1).val
    rw [(index_3 t).2]; omega
theorem flushed_4 (t : Fin cfg0.N) : (dats m 0 c).flushed 4 t = ((cfg0.win 4).blk t).view.read (Elt Ideal) (ccA m c) := by
  show (cfg0.win 4).cut (grid0.coords t) ((dats m 0 c).after 4 t) = _
  rw [after0_4]
  funext j
  have hj : ∀ a, (j a).val < win0_4.xsize (grid0.coords t) a := fun a => (j a).isLt
  rw [View.read_apply]
  have j1 : (j 1).val < ext t := by have h := hj 1; rwa [(xs4 t).2] at h
  have j0 : (j 0).val < 512 := by have h := hj 0; rwa [(xs4 t).1] at h
  have jr : (j 1).val < 1024 := by unfold ext at j1; split_ifs at j1 <;> omega
  have e : (win0_4.xinj (grid0.coords t) j : S512x1024.Idx) = ix2 ⟨(j 0).val, j0⟩ ⟨(j 1).val, jr⟩ := by
    funext a; match a with
    | ⟨0, _⟩ => rfl
    | ⟨1, _⟩ => rfl
  show codesAt m c t (win0_4.xinj (grid0.coords t) j) = colCode (gradA m c)
    (win0_4.index t 0 * 512 + 1 * (j 0).val) (win0_4.index t 1 * 1024 + 1 * (j 1).val)
  rw [e, codes_blk m c t _ _ j1, (index_4 t).1, (index_4 t).2]
  refine congrArg₂ (colCode (gradA m c)) ?_ ?_
  · show 512 * (t.val % 32) + (j 0).val = _; omega
  · show 1024 * (t.val / 32) + (j 1).val = _; omega
theorem flushed_5 (t : Fin cfg0.N) : (dats m 0 c).flushed 5 t = ((cfg0.win 5).blk t).view.read (Elt Ideal) (csA m c) := by
  show (cfg0.win 5).cut (grid0.coords t) ((dats m 0 c).after 5 t) = _
  rw [after0_5]
  funext j
  have hj : ∀ a, (j a).val < win0_5.xsize (grid0.coords t) a := fun a => (j a).isLt
  rw [View.read_apply]
  have j2 : (j 2).val < ext t := by have h := hj 2; rwa [(xs5 t).2.2] at h
  have j1 : (j 1).val < 16 := by have h := hj 1; rwa [(xs5 t).2.1] at h
  have j0 : (j 0).val < 1 := by have h := hj 0; rwa [(xs5 t).1] at h
  have jr : (j 2).val < 1024 := by unfold ext at j2; split_ifs at j2 <;> omega
  have e : (win0_5.xinj (grid0.coords t) j : S1x16x1024.Idx) = ix3 ⟨(j 0).val, j0⟩ ⟨(j 1).val, j1⟩ ⟨(j 2).val, jr⟩ := by
    funext a; match a with
    | ⟨0, _⟩ => rfl
    | ⟨1, _⟩ => rfl
    | ⟨2, _⟩ => rfl
  show scalesAt m c t (win0_5.xinj (grid0.coords t) j) = colScale (gradA m c)
    (16 * (win0_5.index t 0 * 1 + 1 * (j 0).val) + (win0_5.index t 1 * 16 + 1 * (j 1).val)) (win0_5.index t 2 * 1024 + 1 * (j 2).val)
  rw [e, scales_blk m c t _ _ _ j2, (index_5 t).1, (index_5 t).2.1, (index_5 t).2.2]
  refine congrArg₂ (colScale (gradA m c)) ?_ ?_
  · show 16 * (t.val % 32) + (j 1).val = _; omega
  · show 1024 * (t.val / 32) + (j 2).val = _; omega

theorem points : cfg0.N = 352 := by decide +kernel

theorem final_3 : (dats m 0 c).arrAt 3 cfg0.N = dwA m c :=
  (dats m 0 c).arrAt_eq_of_cover 3 (dwA m c) (flushed_3 m c) fun i => by
    have i0 : (i 0 : ℕ) < 11008 := (i 0).isLt
    have i1 : (i 1 : ℕ) < 4096 := (i 1).isLt
    have hN := points
    have ht : (i 0 : ℕ) / 1024 * 32 + 31 < cfg0.N := by omega
    refine ⟨⟨(i 0 : ℕ) / 1024 * 32 + 31, ht⟩, (flush0_3 _).mpr (by show ((i 0 : ℕ) / 1024 * 32 + 31) % 32 = 31; omega), ?_⟩
    generalize hT : (⟨(i 0 : ℕ) / 1024 * 32 + 31, ht⟩ : Fin cfg0.N) = t
    have hv : t.val = (i 0 : ℕ) / 1024 * 32 + 31 := by rw [← hT]
    show i ∈ ((View.whole main_v0_0).slice (win0_3.rect t)).set
    rw [View.set_slice_whole, Rect.mem_set_unit]
    intro a
    match a with
    | ⟨0, _⟩ =>
      show win0_3.index t 0 * 1024 ≤ (i 0 : ℕ) ∧ (i 0 : ℕ) < win0_3.index t 0 * 1024 + win0_3.xsize (grid0.coords t) 0
      rw [(index_3 t).1, (xs3 t).2]; split_ifs <;> omega
    | ⟨1, _⟩ =>
      show win0_3.index t 1 * 4096 ≤ (i 1 : ℕ) ∧ (i 1 : ℕ) < win0_3.index t 1 * 4096 + win0_3.xsize (grid0.coords t) 1
      rw [(index_3 t).2, (xs3 t).1]; omega
theorem final_4 : (dats m 0 c).arrAt 4 cfg0.N = ccA m c :=
  (dats m 0 c).arrAt_eq_of_cover 4 (ccA m c) (fun t _ => flushed_4 m c t) fun i => by
    have i0 : (i 0 : ℕ) < 16384 := (i 0).isLt
    have i1 : (i 1 : ℕ) < 11008 := (i 1).isLt
    have hN := points
    have ht : (i 1 : ℕ) / 1024 * 32 + (i 0 : ℕ) / 512 < cfg0.N := by omega
    refine ⟨⟨(i 1 : ℕ) / 1024 * 32 + (i 0 : ℕ) / 512, ht⟩, flush0_4 _, ?_⟩
    generalize hT : (⟨(i 1 : ℕ) / 1024 * 32 + (i 0 : ℕ) / 512, ht⟩ : Fin cfg0.N) = t
    have hv : t.val = (i 1 : ℕ) / 1024 * 32 + (i 0 : ℕ) / 512 := by rw [← hT]
    show i ∈ ((View.whole main_v0_1).slice (win0_4.rect t)).set
    rw [View.set_slice_whole, Rect.mem_set_unit]
    intro a
    match a with
    | ⟨0, _⟩ =>
      show win0_4.index t 0 * 512 ≤ (i 0 : ℕ) ∧ (i 0 : ℕ) < win0_4.index t 0 * 512 + win0_4.xsize (grid0.coords t) 0
      rw [(index_4 t).1, (xs4 t).1]; omega
    | ⟨1, _⟩ =>
      show win0_4.index t 1 * 1024 ≤ (i 1 : ℕ) ∧ (i 1 : ℕ) < win0_4.index t 1 * 1024 + win0_4.xsize (grid0.coords t) 1
      rw [(index_4 t).2, (xs4 t).2]; split_ifs <;> omega
theorem final_5 : (dats m 0 c).arrAt 5 cfg0.N = csA m c :=
  (dats m 0 c).arrAt_eq_of_cover 5 (csA m c) (fun t _ => flushed_5 m c t) fun i => by
    have i0 : (i 0 : ℕ) < 32 := (i 0).isLt
    have i1 : (i 1 : ℕ) < 16 := (i 1).isLt
    have i2 : (i 2 : ℕ) < 11008 := (i 2).isLt
    have hN := points
    have ht : (i 2 : ℕ) / 1024 * 32 + (i 0 : ℕ) < cfg0.N := by omega
    refine ⟨⟨(i 2 : ℕ) / 1024 * 32 + (i 0 : ℕ), ht⟩, flush0_5 _, ?_⟩
    generalize hT : (⟨(i 2 : ℕ) / 1024 * 32 + (i 0 : ℕ), ht⟩ : Fin cfg0.N) = t
    have hv : t.val = (i 2 : ℕ) / 1024 * 32 + (i 0 : ℕ) := by rw [← hT]
    show i ∈ ((View.whole main_v0_2).slice (win0_5.rect t)).set
    rw [View.set_slice_whole, Rect.mem_set_unit]
    intro a
    match a with
    | ⟨0, _⟩ =>
      show win0_5.index t 0 * 1 ≤ (i 0 : ℕ) ∧ (i 0 : ℕ) < win0_5.index t 0 * 1 + win0_5.xsize (grid0.coords t) 0
      rw [(index_5 t).1, (xs5 t).1]; omega
    | ⟨1, _⟩ =>
      show win0_5.index t 1 * 16 ≤ (i 1 : ℕ) ∧ (i 1 : ℕ) < win0_5.index t 1 * 16 + win0_5.xsize (grid0.coords t) 1
      rw [(index_5 t).2.1, (xs5 t).2.1]; omega
    | ⟨2, _⟩ =>
      show win0_5.index t 2 * 1024 ≤ (i 2 : ℕ) ∧ (i 2 : ℕ) < win0_5.index t 2 * 1024 + win0_5.xsize (grid0.coords t) 2
      rw [(index_5 t).2.2, (xs5 t).2.2]; split_ifs <;> omega

/-- The run, read: the three results, the arguments unchanged. -/
theorem run : θ_run defs (onTc (τ := τ) (main (F := Ideal))) ⟨m, fun _ => 0, ρ⟩ fun r => ∀ c : Dev nD,
      r.2.mem ((c : Thread nD τ).loc main_v0_0) = dwA m c
      ∧ r.2.mem ((c : Thread nD τ).loc main_v0_1) = ccA m c
      ∧ r.2.mem ((c : Thread nD τ).loc main_v0_2) = csA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final_3 m c), ((h c).1 4).trans (final_4 m c), ((h c).1 5).trans (final_5 m c),
    ((h c).1 0).trans ((dats m 0 c).arrAt_in 0 rfl _), ((h c).1 1).trans ((dats m 0 c).arrAt_in 1 rfl _),
    ((h c).1 2).trans ((dats m 0 c).arrAt_in 2 rfl _)⟩) (run_main m ρ)

end Cert.WgradIdeal.Run
end
-- ==== Proof.WgradRefValue.lean ====
/- What the weight-gradient reference computes, read entry by entry over the extended reals. -/
module

public import proofs.«01_k».proof.Proof.Gen.WgradRefIdeal.Frame
public import proofs.«01_k».proof.Proof.MxScalar
public import Idealize.ShloMosaic.Lib.Pointwise
public import Idealize.ShloMosaic.PureOps.Ideal.Laws

@[expose] public section

set_option maxRecDepth 16384

noncomputable section

namespace Cert.WgradRefIdeal.Gen

open Cert.WgradRefIdeal Cert.WgradRefIdeal.Gen Cert.Mx
open Idealize.ShloMosaic

/-- A maximum down the middle axis, as a fold over that axis. -/
theorem max_at {n0 n1 n2 : ℕ} {φ : FTy} {t : Shape} (src : FVec Ideal ⟨3, ![n0, n1, n2]⟩ φ) (acc : BitVec φ.bits)
    (h : (⟨3, ![n0, n1, n2]⟩ : Shape).Reduces [1] t) (hφ) (ha) (j : t.Idx) :
    multiReduction (F := Ideal) .maximumf [1] t src acc h hφ ha j
      = (Finset.univ : Finset (Fin n1)).fold max (Ideal.ofBits φ acc) (fun k => src (ix3 ⟨(j ⟨0, h.lt_r3_a1_0⟩).val, Shape.coordLt (j ⟨0, h.lt_r3_a1_0⟩) h.size_r3_a1_0⟩ k ⟨(j ⟨1, h.lt_r3_a1_1⟩).val, Shape.coordLt (j ⟨1, h.lt_r3_a1_1⟩) h.size_r3_a1_1⟩)) :=
  (multiReduction_maximumf_eq_fold ..).trans (h.fold_fiber_r3_a1 ..)

variable (v : Vec Ideal S16384x11008 .bf16)

/-- The gradient in blocks of 32 rows. -/
theorem blocks_at (a : Fin 512) (k : Fin 32) (c : Fin 11008) :
    k0_pay2 (F := Ideal) v (ix3 a k c) = v (ix2 ⟨a.val * 32 + k.val, by omega⟩ c) := by
  pointwise [k0_pay2]

/-- Powers of two, a whole array at once. -/
def powV {S : Shape} (e : IVec S 32) : FVec Ideal S .f32 :=
  select (cmpi .slt e (broadcast S 4294967170#32)) (broadcast S (Scalar.ofBits .f32 0x00000000#32))
    (select (cmpi .sgt e (broadcast S 127#32)) (broadcast S (Scalar.ofBits .f32 0x7F800000#32)) (exp2 (sitofp .f32 e)))
theorem powV_at {S : Shape} (e : IVec S 32) (i : S.Idx) : powV e i = ePow (e i) := rfl

/-- Exponents from the blocks' magnitudes, a whole array at once. -/
def expoV (x : FVec Ideal S512x11008 .f32) : IVec S512x11008 32 :=
  select (cmpf .olt x (broadcast S512x11008 (Scalar.ofBits .f32 0x00800000#32))) (broadcast S512x11008 0#32)
    (addi (fptosi 32 (floor (divf (log x) (log (broadcast S512x11008 (Scalar.ofBits .f32 0x40000000#32))))))
      (broadcast S512x11008 1#32))
theorem expoV_at (x : FVec Ideal S512x11008 .f32) (i : S512x11008.Idx) : expoV x i = lexp (x i) := rfl

/-- A block's greatest magnitude over 448. -/
def rpeak : FVec Ideal S512x11008 .f32 :=
  mulf (multiReduction .maximumf [1] S512x11008 (absf (k0_pay2 v)) 0xFF800000#32 reduces_S512x32x11008_S512x11008 (.inl rfl) rfl)
    (broadcast S512x11008 (Scalar.ofBits .f32 0x3B124925#32))
theorem expo_of_peak : k0_pay3 (F := Ideal) v = expoV (rpeak v) := rfl
theorem max_abs_at (b : FVec Ideal S512x32x11008 .f32) (hr hφ ha) (a : Fin 512) (c : Fin 11008) :
    multiReduction (F := Ideal) .maximumf [1] S512x11008 (absf b) 0xFF800000#32 hr hφ ha (ix2 a c)
      = (Finset.univ : Finset (Fin 32)).fold max ⊥ (fun k => max (b (ix3 a k c)) (-(b (ix3 a k c)))) := by
  rw [max_at, ninf_bits]
  rfl
theorem scaled_at (p : FVec Ideal S512x11008 .f32) (i : S512x11008.Idx) :
    mulf p (broadcast S512x11008 (Scalar.ofBits .f32 0x3B124925#32)) i = p i * Ideal.ofBits .f32 0x3B124925#32 := rfl
theorem rpeak_at (a : Fin 512) (c : Fin 11008) :
    rpeak v (ix2 a c) = peak (fun k => v (ix2 ⟨a.val * 32 + k.val, by omega⟩ c)) := by
  have h := max_abs_at (k0_pay2 (F := Ideal) v) reduces_S512x32x11008_S512x11008 (.inl rfl) rfl a c
  unfold rpeak peak
  rw [scaled_at]
  refine congrArg (fun z : EReal => z * Ideal.ofBits .f32 0x3B124925#32) (h.trans ?_)
  simp only [blocks_at]
theorem expo_at (a : Fin 512) (c : Fin 11008) :
    k0_pay3 (F := Ideal) v (ix2 a c) = lexp (peak (fun k => v (ix2 ⟨a.val * 32 + k.val, by omega⟩ c))) := by
  rw [expo_of_peak, expoV_at, rpeak_at]

theorem scales_at (a : Fin 512) (c : Fin 11008) :
    k0_pay4 (F := Ideal) v (ix2 a c) = rscale (peak (fun k => v (ix2 ⟨a.val * 32 + k.val, by omega⟩ c))) := by
  unfold rscale
  rw [← expo_at]
  rfl
theorem scales3_at (s : IVec S512x11008 8) (a : Fin 32) (b : Fin 16) (c : Fin 11008) :
    k0_pay6 s (ix3 a b c) = s (ix2 ⟨a.val * 16 + b.val, by omega⟩ c) := by
  pointwise [k0_pay6]

/-- Codes from the blocks and their inverse scales. -/
def codesV (b : FVec Ideal S512x32x11008 .f32) (p : FVec Ideal S512x11008 .f32) : FVec Ideal S16384x11008 .fp8e4m3 :=
  shapeCast S16384x11008 (truncf .fp8e4m3 (minimumf (broadcast S512x32x11008 (Scalar.ofBits .f32 0x43E00000#32))
    (maximumf (broadcast S512x32x11008 (Scalar.ofBits .f32 0xC3E00000#32))
      (mulf b (broadcastTo S512x32x11008 (shapeCast S512x1x11008 p shapeCasts_S512x11008_S512x1x11008) broadcasts_S512x1x11008_S512x32x11008))))
    bitsLt_fp8e4m3_f32) shapeCasts_S512x32x11008_S16384x11008
theorem codesV_at (b : FVec Ideal S512x32x11008 .f32) (p : FVec Ideal S512x11008 .f32) (r : Fin 16384) (c : Fin 11008) :
    codesV b p (ix2 r c) = min (Ideal.ofBits .f32 0x43E00000#32) (max (Ideal.ofBits .f32 0xC3E00000#32)
      (b (ix3 ⟨r.val / 32, by omega⟩ ⟨r.val % 32, by omega⟩ c) * p (ix2 ⟨r.val / 32, by omega⟩ c))) := by
  pointwise [codesV]
theorem codes_eq : k0_pay5 (F := Ideal) v = codesV (k0_pay2 v) (powV (subi (broadcast S512x11008 0#32) (k0_pay3 (F := Ideal) v))) := rfl
theorem codes_at (r : Fin 16384) (c : Fin 11008) :
    k0_pay5 (F := Ideal) v (ix2 r c)
      = rcode (peak (fun k => v (ix2 ⟨r.val / 32 * 32 + k.val, by omega⟩ c))) (v (ix2 r c)) := by
  rw [codes_eq, codesV_at, powV_at, blocks_at]
  unfold rcode
  have h : (⟨r.val / 32 * 32 + r.val % 32, by omega⟩ : Fin 16384) = r := Fin.ext (by show r.val / 32 * 32 + r.val % 32 = r.val; omega)
  dsimp only
  rw [h, ← expo_at v ⟨r.val / 32, by omega⟩ c]
  rfl

/-- The values of the codes under powers of two. -/
def valuesV (d : FVec Ideal S16384x11008 .fp8e4m3) (p : FVec Ideal S512x11008 .f32) : FVec Ideal S16384x11008 .bf16 :=
  shapeCast S16384x11008 (mulf (shapeCast S512x32x11008 (extf .bf16 d bitsLt_fp8e4m3_bf16) shapeCasts_S16384x11008_S512x32x11008)
    (broadcastTo S512x32x11008 (shapeCast S512x1x11008 (truncf .bf16 p bitsLt_bf16_f32) shapeCasts_S512x11008_S512x1x11008)
      broadcasts_S512x1x11008_S512x32x11008)) shapeCasts_S512x32x11008_S16384x11008
theorem valuesV_at (d : FVec Ideal S16384x11008 .fp8e4m3) (p : FVec Ideal S512x11008 .f32) (r : Fin 16384) (c : Fin 11008) :
    valuesV d p (ix2 r c) = d (ix2 r c) * p (ix2 ⟨r.val / 32, by omega⟩ c) := by
  pointwise [valuesV]
theorem dy_eq (s : IVec S512x11008 8) (d : FVec Ideal S16384x11008 .fp8e4m3) :
    k0_pay7 (F := Ideal) s d = valuesV d (powV (subi (extui 32 s natLt_8_32) (broadcast S512x11008 127#32))) := rfl
theorem dy_at (s : IVec S512x11008 8) (d : FVec Ideal S16384x11008 .fp8e4m3) (r : Fin 16384) (c : Fin 11008) :
    k0_pay7 (F := Ideal) s d (ix2 r c) = rval (s (ix2 ⟨r.val / 32, by omega⟩ c)) (d (ix2 r c)) := by
  rw [dy_eq, valuesV_at, powV_at]
  rfl
theorem x3_at (x : Vec Ideal S16384x4096 .fp8e4m3) (a : Fin 512) (k : Fin 32) (c : Fin 4096) :
    k0_pay8 (F := Ideal) x (ix3 a k c) = x (ix2 ⟨a.val * 32 + k.val, by omega⟩ c) := by
  pointwise [k0_pay8]
theorem xs_at (s : Vec Ideal S32x16x4096 .i8) (a : Fin 512) (c : Fin 4096) :
    k0_pay9 (F := Ideal) s (ix2 a c)
      = IntOp.subi (BitVec.setWidth 32 (s (ix3 ⟨a.val / 16, by omega⟩ ⟨a.val % 16, by omega⟩ c))) 127#32 := by
  pointwise [k0_pay9]
/-- The product, the activations' powers of two given. -/
def dotV (d : FVec Ideal S16384x11008 .bf16) (x : FVec Ideal S512x32x4096 .bf16) (p : FVec Ideal S512x4096 .f32) : FVec Ideal S11008x4096 .f32 :=
  matmul dot_S16384x11008_S16384x4096_S11008x4096_0_0_1_1_n_n none d
    (shapeCast S16384x4096 (mulf x (broadcastTo S512x32x4096 (shapeCast S512x1x4096 (truncf .bf16 p bitsLt_bf16_f32)
      shapeCasts_S512x4096_S512x1x4096) broadcasts_S512x1x4096_S512x32x4096)) shapeCasts_S512x32x4096_S16384x4096)
    (constant S11008x4096 .f32 0x00000000#32)
theorem dotV_at (d : FVec Ideal S16384x11008 .bf16) (x : FVec Ideal S512x32x4096 .bf16) (p : FVec Ideal S512x4096 .f32)
    (r : Fin 11008) (c : Fin 4096) :
    dotV d x p (ix2 r c) = ∑ k : Fin 16384, d (ix2 k r) * (x (ix3 ⟨k.val / 32, by omega⟩ ⟨k.val % 32, by omega⟩ c) * p (ix2 ⟨k.val / 32, by omega⟩ c)) := by
  pointwise [dotV]
theorem dot_eq (d : FVec Ideal S16384x11008 .bf16) (x : FVec Ideal S512x32x4096 .bf16) (s : Vec Ideal S32x16x4096 .i8) :
    k0_pay1 (F := Ideal) d x (k0_pay10 s) (k0_pay11 s) (Scalar.ofBits .f32 0x00000000#32) = dotV d x (powV (k0_pay9 s)) := rfl
theorem dot_at (d : FVec Ideal S16384x11008 .bf16) (x : Vec Ideal S16384x4096 .fp8e4m3) (s : Vec Ideal S32x16x4096 .i8)
    (r : Fin 11008) (c : Fin 4096) :
    k0_pay1 (F := Ideal) d (k0_pay8 x) (k0_pay10 s) (k0_pay11 s) (Scalar.ofBits .f32 0x00000000#32) (ix2 r c)
      = ∑ k : Fin 16384, d (ix2 k r) * rval (s (ix3 ⟨k.val / 512, by omega⟩ ⟨k.val / 32 % 16, by omega⟩ c)) (x (ix2 k c)) := by
  rw [dot_eq, dotV_at]
  refine Finset.sum_congr rfl fun k _ => ?_
  rw [x3_at, powV_at, xs_at]
  have h : (⟨k.val / 32 * 32 + k.val % 32, by omega⟩ : Fin 16384) = k := Fin.ext (by show k.val / 32 * 32 + k.val % 32 = k.val; omega)
  have h' : (⟨k.val / 32 / 16, by omega⟩ : Fin 32) = ⟨k.val / 512, by omega⟩ := Fin.ext (by show k.val / 32 / 16 = k.val / 512; omega)
  dsimp only
  rw [h, h']
  rfl

end Cert.WgradRefIdeal.Gen
end
-- ==== Proof.WgradRefArray.lean ====
/- What the weight-gradient reference leaves in its three result arrays. -/
module

public import proofs.«01_k».proof.Proof.WgradRefValue
public import proofs.«01_k».proof.Proof.MxArray
public import Idealize.ShloMosaic.Lib.Pipeline.Value

@[expose] public section

set_option maxRecDepth 16384

noncomputable section

namespace Cert.WgradRefIdeal.Gen

open Cert.WgradRefIdeal Cert.WgradRefIdeal.Gen Cert.Mx
open Idealize.ShloMosaic Idealize.ShloMosaic.TcCoe
open Idealize.SL.Sem
open Idealize.ShloMosaic.Pipeline (Dat Window)

section
variable (A : Vec Ideal S16384x11008 .bf16) (X : Vec Ideal S16384x4096 .fp8e4m3) (S : Vec Ideal S32x16x4096 .i8)

theorem rz2 : (![0, 0] : Fin 2 → Nat) = fun _ => 0 := funext fun a => by fin_cases a <;> rfl
theorem rz3 : (![0, 0, 0] : Fin 3 → Nat) = fun _ => 0 := funext fun a => by fin_cases a <;> rfl

theorem colPeak_of (r : Fin 16384) (n : Fin 11008) :
    peak (fun k => A (ix2 ⟨r.val / 32 * 32 + k.val, by omega⟩ n)) = colPeak A (r.val / 32) n.val :=
  congrArg peak (funext fun _ => at2_fin A _ _)
theorem colPeak_of' (b : Fin 512) (n : Fin 11008) :
    peak (fun k => A (ix2 ⟨b.val * 32 + k.val, by omega⟩ n)) = colPeak A b.val n.val :=
  congrArg peak (funext fun _ => at2_fin A _ _)

theorem codes_arr (h : Within A) (r : Fin 16384) (n : Fin 11008) :
    k0_pay5 (F := Ideal) A (ix2 r n) = colCode A r.val n.val := by
  rw [codes_at, colPeak_of, at2_fin A r n, rcode_col A h]
theorem scales_arr (h : Within A) (b : Fin 512) (n : Fin 11008) :
    k0_pay4 (F := Ideal) A (ix2 b n) = colScale A b.val n.val := by
  rw [scales_at, colPeak_of', rscale_col A h]
theorem values_arr (h : Within A) (r : Fin 16384) (n : Fin 11008) :
    k0_pay7 (F := Ideal) (k0_pay4 (F := Ideal) A) (k0_pay5 (F := Ideal) A) (ix2 r n) = colValue A r.val n.val := by
  rw [dy_at, codes_at, colPeak_of, at2_fin A r n, scales_at, colPeak_of' A ⟨r.val / 32, by omega⟩ n, rval_col A h]
theorem dot_arr (h : Within A) (n : Fin 11008) (q : Fin 4096) :
    k0_pay1 (F := Ideal) (k0_pay7 (F := Ideal) (k0_pay4 (F := Ideal) A) (k0_pay5 (F := Ideal) A)) (k0_pay8 X) (k0_pay10 S) (k0_pay11 S)
      (Scalar.ofBits .f32 0x00000000#32) (ix2 n q) = dotTo A X S 16384 n.val q.val := by
  rw [dot_at]
  unfold dotTo
  rw [Finset.sum_range]
  refine Finset.sum_congr rfl fun k _ => ?_
  rw [values_arr A h, rval_eq, at2_fin X, at3_fin S]
  rfl

/-- The three results. -/
theorem out_codes (h : Within A) (r : Fin 16384) (n : Fin 11008) : out0_4 A X S (ix2 r n) = colCode A r.val n.val := by
  unfold out0_4 k0_pay13
  rw [View.canon_unit_zero (S := S16384x11008) rz2, View.ld_unit_zero (S := S16384x11008) rz2, codes_arr A h]
theorem out_scales (h : Within A) (a : Fin 32) (b : Fin 16) (n : Fin 11008) :
    out0_5 A X S (ix3 a b n) = colScale A (16 * a.val + b.val) n.val := by
  unfold out0_5 k0_pay12
  rw [View.canon_unit_zero (S := S32x16x11008) rz3, View.ld_unit_zero (S := S16384x11008) rz2, scales3_at, scales_arr A h]
  refine congrArg (fun z => colScale A z n.val) ?_
  show a.val * 16 + b.val = _
  omega
theorem out_dot (h : Within A) (n : Fin 11008) (q : Fin 4096) : out0_3 A X S (ix2 n q) = dotTo A X S 16384 n.val q.val := by
  unfold out0_3 k0_pay12 k0_pay13
  rw [View.canon_unit_zero (S := S11008x4096) rz2, View.ld_unit_zero (S := S16384x11008) rz2,
    View.ld_unit_zero (S := S16384x4096) rz2, View.ld_unit_zero (S := S32x16x4096) rz3, dot_arr A X S h]
end

/-! ## The arrays after the one step -/

variable (m : (ℓ : Loc nD τ sig) → Buf (Elt Ideal) ℓ) (ρ : Dev nD → PrngReg) (c : Dev nD)

abbrev gradR : Grad := m ((c : Thread nD τ).loc main_arg0)
abbrev actsR : Acts := m ((c : Thread nD τ).loc main_arg1)
abbrev scalesR : ActScales := m ((c : Thread nD τ).loc main_arg2)

theorem one : cfg0.N = 1 := by decide +kernel
theorem rindex_0 : ∀ t : Fin cfg0.N, win0_0.index t 0 = 0 ∧ win0_0.index t 1 = 0 := by decide +kernel
theorem rindex_1 : ∀ t : Fin cfg0.N, win0_1.index t 0 = 0 ∧ win0_1.index t 1 = 0 := by decide +kernel
theorem rindex_2 : ∀ t : Fin cfg0.N, win0_2.index t 0 = 0 ∧ win0_2.index t 1 = 0 ∧ win0_2.index t 2 = 0 := by decide +kernel
theorem rindex_3 : ∀ t : Fin cfg0.N, win0_3.index t 0 = 0 ∧ win0_3.index t 1 = 0 := by decide +kernel
theorem rindex_4 : ∀ t : Fin cfg0.N, win0_4.index t 0 = 0 ∧ win0_4.index t 1 = 0 := by decide +kernel
theorem rindex_5 : ∀ t : Fin cfg0.N, win0_5.index t 0 = 0 ∧ win0_5.index t 1 = 0 ∧ win0_5.index t 2 = 0 := by decide +kernel
theorem rsize_3 : ∀ t : Fin cfg0.N, win0_3.xsize (grid0.coords t) 0 = 11008 ∧ win0_3.xsize (grid0.coords t) 1 = 4096 := by decide +kernel
theorem rsize_4 : ∀ t : Fin cfg0.N, win0_4.xsize (grid0.coords t) 0 = 16384 ∧ win0_4.xsize (grid0.coords t) 1 = 11008 := by decide +kernel
theorem rsize_5 : ∀ t : Fin cfg0.N, win0_5.xsize (grid0.coords t) 0 = 32 ∧ win0_5.xsize (grid0.coords t) 1 = 16 ∧ win0_5.xsize (grid0.coords t) 2 = 11008 := by decide +kernel
theorem rflush_3 : ∀ t : Fin cfg0.N, (cfg0.win 3).flush t = true := by decide +kernel
theorem rflush_4 : ∀ t : Fin cfg0.N, (cfg0.win 4).flush t = true := by decide +kernel
theorem rflush_5 : ∀ t : Fin cfg0.N, (cfg0.win 5).flush t = true := by decide +kernel

theorem grad_eq (t : Fin cfg0.N) : (iblk m c 0 t : Vec Ideal S16384x11008 .bf16) = gradR m c := by
  funext j
  unfold iblk
  rw [View.read_apply]
  refine congrArg (gradR m c) (funext fun a => Fin.ext ?_)
  match a with
  | ⟨0, _⟩ => show win0_0.index t 0 * 16384 + 1 * (j 0).val = (j 0).val; rw [(rindex_0 t).1]; omega
  | ⟨1, _⟩ => show win0_0.index t 1 * 11008 + 1 * (j 1).val = (j 1).val; rw [(rindex_0 t).2]; omega
theorem acts_eq (t : Fin cfg0.N) : (iblk m c 1 t : Vec Ideal S16384x4096 .fp8e4m3) = actsR m c := by
  funext j
  unfold iblk
  rw [View.read_apply]
  refine congrArg (actsR m c) (funext fun a => Fin.ext ?_)
  match a with
  | ⟨0, _⟩ => show win0_1.index t 0 * 16384 + 1 * (j 0).val = (j 0).val; rw [(rindex_1 t).1]; omega
  | ⟨1, _⟩ => show win0_1.index t 1 * 4096 + 1 * (j 1).val = (j 1).val; rw [(rindex_1 t).2]; omega
theorem actScales_eq (t : Fin cfg0.N) : (iblk m c 2 t : Vec Ideal S32x16x4096 .i8) = scalesR m c := by
  funext j
  unfold iblk
  rw [View.read_apply]
  refine congrArg (scalesR m c) (funext fun a => Fin.ext ?_)
  match a with
  | ⟨0, _⟩ => show win0_2.index t 0 * 32 + 1 * (j 0).val = (j 0).val; rw [(rindex_2 t).1]; omega
  | ⟨1, _⟩ => show win0_2.index t 1 * 16 + 1 * (j 1).val = (j 1).val; rw [(rindex_2 t).2.1]; omega
  | ⟨2, _⟩ => show win0_2.index t 2 * 4096 + 1 * (j 2).val = (j 2).val; rw [(rindex_2 t).2.2]; omega

def dwR : Buf (Elt Ideal) ((c : Thread nD τ).loc main_v0_0) :=
  fun i : S11008x4096.Idx => dotTo (gradR m c) (actsR m c) (scalesR m c) 16384 (i 0).val (i 1).val
def ccR : Buf (Elt Ideal) ((c : Thread nD τ).loc main_v0_1) :=
  fun i : S16384x11008.Idx => colCode (gradR m c) (i 0).val (i 1).val
def csR : Buf (Elt Ideal) ((c : Thread nD τ).loc main_v0_2) :=
  fun i : S32x16x11008.Idx => colScale (gradR m c) (16 * (i 0).val + (i 1).val) (i 2).val

theorem dwR_apply (i : S11008x4096.Idx) {a b : ℕ} (h0 : a = (i 0).val) (h1 : b = (i 1).val) :
    dotTo (gradR m c) (actsR m c) (scalesR m c) 16384 a b = dwR m c i := by subst h0 h1; rfl
theorem ccR_apply (i : S16384x11008.Idx) {a b : ℕ} (h0 : a = (i 0).val) (h1 : b = (i 1).val) :
    colCode (gradR m c) a b = ccR m c i := by subst h0 h1; rfl
theorem csR_apply (i : S32x16x11008.Idx) {a b : ℕ} (h0 : a = 16 * (i 0).val + (i 1).val) (h1 : b = (i 2).val) :
    colScale (gradR m c) a b = csR m c i := by subst h0 h1; rfl

theorem rflushed_3 (h : Within (gradR m c)) (t : Fin cfg0.N) :
    (dats m 0 c).flushed 3 t = ((cfg0.win 3).blk t).view.read (Elt Ideal) (dwR m c) := by
  show (cfg0.win 3).cut (grid0.coords t) ((dats m 0 c).after 3 t) = _
  rw [after0_3, grad_eq, acts_eq, actScales_eq]
  funext j
  rw [View.read_apply]
  have hj : ∀ a, (j a).val < win0_3.xsize (grid0.coords t) a := fun a => (j a).isLt
  have j0 : (j 0).val < 11008 := by have h := hj 0; rwa [(rsize_3 t).1] at h
  have j1 : (j 1).val < 4096 := by have h := hj 1; rwa [(rsize_3 t).2] at h
  have e : (win0_3.xinj (grid0.coords t) j : S11008x4096.Idx) = ix2 ⟨(j 0).val, j0⟩ ⟨(j 1).val, j1⟩ := by
    funext a; match a with
    | ⟨0, _⟩ => rfl
    | ⟨1, _⟩ => rfl
  have key := fun i h0 h1 => dwR_apply m c i (a := (j 0).val) (b := (j 1).val) h0 h1
  generalize dwR m c = D at key
  refine Eq.trans ?_ (key _ ?_ ?_)
  · show out0_3 (F := Ideal) (gradR m c) (actsR m c) (scalesR m c) (win0_3.xinj (grid0.coords t) j) = _
    rw [e, out_dot _ _ _ h]
  · show _ = win0_3.index t 0 * 11008 + 1 * (j 0).val
    rw [(rindex_3 t).1]; omega
  · show _ = win0_3.index t 1 * 4096 + 1 * (j 1).val
    rw [(rindex_3 t).2]; omega
theorem rflushed_4 (h : Within (gradR m c)) (t : Fin cfg0.N) :
    (dats m 0 c).flushed 4 t = ((cfg0.win 4).blk t).view.read (Elt Ideal) (ccR m c) := by
  show (cfg0.win 4).cut (grid0.coords t) ((dats m 0 c).after 4 t) = _
  rw [after0_4, grad_eq, acts_eq, actScales_eq]
  funext j
  rw [View.read_apply]
  have hj : ∀ a, (j a).val < win0_4.xsize (grid0.coords t) a := fun a => (j a).isLt
  have j0 : (j 0).val < 16384 := by have h := hj 0; rwa [(rsize_4 t).1] at h
  have j1 : (j 1).val < 11008 := by have h := hj 1; rwa [(rsize_4 t).2] at h
  have e : (win0_4.xinj (grid0.coords t) j : S16384x11008.Idx) = ix2 ⟨(j 0).val, j0⟩ ⟨(j 1).val, j1⟩ := by
    funext a; match a with
    | ⟨0, _⟩ => rfl
    | ⟨1, _⟩ => rfl
  refine Eq.trans (b := colCode (gradR m c) (j 0).val (j 1).val) ?_ (ccR_apply m c _ ?_ ?_)
  · show out0_4 (F := Ideal) (gradR m c) (actsR m c) (scalesR m c) (win0_4.xinj (grid0.coords t) j) = _
    rw [e, out_codes _ _ _ h]
  · show _ = win0_4.index t 0 * 16384 + 1 * (j 0).val
    rw [(rindex_4 t).1]; omega
  · show _ = win0_4.index t 1 * 11008 + 1 * (j 1).val
    rw [(rindex_4 t).2]; omega
theorem rflushed_5 (h : Within (gradR m c)) (t : Fin cfg0.N) :
    (dats m 0 c).flushed 5 t = ((cfg0.win 5).blk t).view.read (Elt Ideal) (csR m c) := by
  show (cfg0.win 5).cut (grid0.coords t) ((dats m 0 c).after 5 t) = _
  rw [after0_5, grad_eq, acts_eq, actScales_eq]
  funext j
  rw [View.read_apply]
  have hj : ∀ a, (j a).val < win0_5.xsize (grid0.coords t) a := fun a => (j a).isLt
  have j0 : (j 0).val < 32 := by have h := hj 0; rwa [(rsize_5 t).1] at h
  have j1 : (j 1).val < 16 := by have h := hj 1; rwa [(rsize_5 t).2.1] at h
  have j2 : (j 2).val < 11008 := by have h := hj 2; rwa [(rsize_5 t).2.2] at h
  have e : (win0_5.xinj (grid0.coords t) j : S32x16x11008.Idx) = ix3 ⟨(j 0).val, j0⟩ ⟨(j 1).val, j1⟩ ⟨(j 2).val, j2⟩ := by
    funext a; match a with
    | ⟨0, _⟩ => rfl
    | ⟨1, _⟩ => rfl
    | ⟨2, _⟩ => rfl
  refine Eq.trans (b := colScale (gradR m c) (16 * (j 0).val + (j 1).val) (j 2).val) ?_ (csR_apply m c _ ?_ ?_)
  · show out0_5 (F := Ideal) (gradR m c) (actsR m c) (scalesR m c) (win0_5.xinj (grid0.coords t) j) = _
    rw [e, out_scales _ _ _ h]
  · show _ = 16 * (win0_5.index t 0 * 32 + 1 * (j 0).val) + (win0_5.index t 1 * 16 + 1 * (j 1).val)
    rw [(rindex_5 t).1, (rindex_5 t).2.1]; omega
  · show _ = win0_5.index t 2 * 11008 + 1 * (j 2).val
    rw [(rindex_5 t).2.2]; omega

theorem rfinal_3 (h : Within (gradR m c)) : (dats m 0 c).arrAt 3 cfg0.N = dwR m c :=
  (dats m 0 c).arrAt_eq_of_cover 3 (dwR m c) (fun t _ => rflushed_3 m c h t) fun i => by
    have i0 : (i 0 : ℕ) < 11008 := (i 0).isLt
    have i1 : (i 1 : ℕ) < 4096 := (i 1).isLt
    have hN := one
    refine ⟨⟨0, by omega⟩, rflush_3 _, ?_⟩
    generalize (⟨0, by omega⟩ : Fin cfg0.N) = t
    show i ∈ ((View.whole main_v0_0).slice (win0_3.rect t)).set
    rw [View.set_slice_whole, Rect.mem_set_unit]
    intro a
    match a with
    | ⟨0, _⟩ =>
      show win0_3.index t 0 * 11008 ≤ (i 0 : ℕ) ∧ (i 0 : ℕ) < win0_3.index t 0 * 11008 + win0_3.xsize (grid0.coords t) 0
      rw [(rindex_3 t).1, (rsize_3 t).1]; omega
    | ⟨1, _⟩ =>
      show win0_3.index t 1 * 4096 ≤ (i 1 : ℕ) ∧ (i 1 : ℕ) < win0_3.index t 1 * 4096 + win0_3.xsize (grid0.coords t) 1
      rw [(rindex_3 t).2, (rsize_3 t).2]; omega
theorem rfinal_4 (h : Within (gradR m c)) : (dats m 0 c).arrAt 4 cfg0.N = ccR m c :=
  (dats m 0 c).arrAt_eq_of_cover 4 (ccR m c) (fun t _ => rflushed_4 m c h t) fun i => by
    have i0 : (i 0 : ℕ) < 16384 := (i 0).isLt
    have i1 : (i 1 : ℕ) < 11008 := (i 1).isLt
    have hN := one
    refine ⟨⟨0, by omega⟩, rflush_4 _, ?_⟩
    generalize (⟨0, by omega⟩ : Fin cfg0.N) = t
    show i ∈ ((View.whole main_v0_1).slice (win0_4.rect t)).set
    rw [View.set_slice_whole, Rect.mem_set_unit]
    intro a
    match a with
    | ⟨0, _⟩ =>
      show win0_4.index t 0 * 16384 ≤ (i 0 : ℕ) ∧ (i 0 : ℕ) < win0_4.index t 0 * 16384 + win0_4.xsize (grid0.coords t) 0
      rw [(rindex_4 t).1, (rsize_4 t).1]; omega
    | ⟨1, _⟩ =>
      show win0_4.index t 1 * 11008 ≤ (i 1 : ℕ) ∧ (i 1 : ℕ) < win0_4.index t 1 * 11008 + win0_4.xsize (grid0.coords t) 1
      rw [(rindex_4 t).2, (rsize_4 t).2]; omega
theorem rfinal_5 (h : Within (gradR m c)) : (dats m 0 c).arrAt 5 cfg0.N = csR m c :=
  (dats m 0 c).arrAt_eq_of_cover 5 (csR m c) (fun t _ => rflushed_5 m c h t) fun i => by
    have i0 : (i 0 : ℕ) < 32 := (i 0).isLt
    have i1 : (i 1 : ℕ) < 16 := (i 1).isLt
    have i2 : (i 2 : ℕ) < 11008 := (i 2).isLt
    have hN := one
    refine ⟨⟨0, by omega⟩, rflush_5 _, ?_⟩
    generalize (⟨0, by omega⟩ : Fin cfg0.N) = t
    show i ∈ ((View.whole main_v0_2).slice (win0_5.rect t)).set
    rw [View.set_slice_whole, Rect.mem_set_unit]
    intro a
    match a with
    | ⟨0, _⟩ =>
      show win0_5.index t 0 * 32 ≤ (i 0 : ℕ) ∧ (i 0 : ℕ) < win0_5.index t 0 * 32 + win0_5.xsize (grid0.coords t) 0
      rw [(rindex_5 t).1, (rsize_5 t).1]; omega
    | ⟨1, _⟩ =>
      show win0_5.index t 1 * 16 ≤ (i 1 : ℕ) ∧ (i 1 : ℕ) < win0_5.index t 1 * 16 + win0_5.xsize (grid0.coords t) 1
      rw [(rindex_5 t).2.1, (rsize_5 t).2.1]; omega
    | ⟨2, _⟩ =>
      show win0_5.index t 2 * 11008 ≤ (i 2 : ℕ) ∧ (i 2 : ℕ) < win0_5.index t 2 * 11008 + win0_5.xsize (grid0.coords t) 2
      rw [(rindex_5 t).2.2, (rsize_5 t).2.2]; omega

/-- The run, read: the three results, the arguments unchanged. -/
theorem run (h : ∀ c : Dev nD, Within (gradR m c)) :
    θ_run defs (onTc (τ := τ) (main (F := Ideal))) ⟨m, fun _ => 0, ρ⟩ fun r => ∀ c : Dev nD,
      r.2.mem ((c : Thread nD τ).loc main_v0_0) = dwR m c
      ∧ r.2.mem ((c : Thread nD τ).loc main_v0_1) = ccR m c
      ∧ r.2.mem ((c : Thread nD τ).loc main_v0_2) = csR m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ hr c => ⟨((hr c).1 3).trans (rfinal_3 m c (h c)), ((hr c).1 4).trans (rfinal_4 m c (h c)),
    ((hr c).1 5).trans (rfinal_5 m c (h c)),
    ((hr c).1 0).trans ((dats m 0 c).arrAt_in 0 rfl _), ((hr c).1 1).trans ((dats m 0 c).arrAt_in 1 rfl _),
    ((hr c).1 2).trans ((dats m 0 c).arrAt_in 2 rfl _)⟩) (run_main m ρ)

end Cert.WgradRefIdeal.Gen
end
-- ==== Proof.lean ====
module

public import proofs.«01_k».proof.Defs
public import proofs.«01_k».proof.Proof.DgradRun
public import proofs.«01_k».proof.Proof.DgradIdealRun
public import proofs.«01_k».proof.Proof.DgradIdealArray
public import proofs.«01_k».proof.Proof.DgradRefArray
public import proofs.«01_k».proof.Proof.Gen.Pre_dy_finite_rows
public import proofs.«01_k».proof.Proof.WgradRun
public import proofs.«01_k».proof.Proof.WgradIdealRun
public import proofs.«01_k».proof.Proof.WgradIdealArray
public import proofs.«01_k».proof.Proof.WgradRefArray
public import proofs.«01_k».proof.Proof.Gen.Pre_dy_finite
public import Idealize.ShloMosaic.Adequacy
public import Idealize.ShloMosaic.Init

@[expose] public section

noncomputable section

namespace Cert.Proof

open Idealize.ShloMosaic Idealize.SL.Sem Cert.Mx

/-- The precondition, read: no entry of the gradient exceeds the largest finite bfloat16 in size. -/
theorem within_of (A : FVec Ideal Cert.Pre_dy_finite.S16384x11008 .bf16) (X : FVec Ideal Cert.Pre_dy_finite.S16384x4096 .fp8e4m3)
    (S : IVec Cert.Pre_dy_finite.S32x16x4096 8) (h : Cert.Pre_dy_finite.fn (F := Ideal) A X S = fun _ => 1#1) :
    Within A := by
  intro i
  have hi := congrFun h i
  have key : ∀ a b : EReal, BitVec.ofBool (decide (a ≤ b)) = 1#1 → a ≤ b := by
    intro a b hab
    by_contra hn
    simp [hn] at hab
  exact key _ _ hi

/-- The same for the input gradient: no entry of the gradient exceeds the largest finite bfloat16 in size. -/
theorem within_rows (A : FVec Ideal Cert.Pre_dy_finite_rows.S16384x11008 .bf16) (X : FVec Ideal Cert.Pre_dy_finite_rows.S11008x4096 .fp8e4m3)
    (S : IVec Cert.Pre_dy_finite_rows.S344x4096 8) (h : Cert.Pre_dy_finite_rows.fn (F := Ideal) A X S = fun _ => 1#1) :
    Within A := by
  intro i
  have hi := congrFun h i
  have key : ∀ a b : EReal, BitVec.ofBool (decide (a ≤ b)) = 1#1 → a ≤ b := by
    intro a b hab
    by_contra hn
    simp [hn] at hab
  exact key _ _ hi

/-- The weight-gradient kernel and its reference leave the same arrays. -/
theorem wgrad_algebraic : algebraic_WgradIdeal_WgradRefIdeal_pre_dy_finite := by
  intro m g m' g' hpre hsame
  have e0 : ∀ c, Cert.WgradRefIdeal.Gen.gradR m' c = Cert.WgradIdeal.Run.gradA m c := fun c => (hsame c).1
  have e1 : ∀ c, Cert.WgradRefIdeal.Gen.actsR m' c = Cert.WgradIdeal.Run.actsA m c := fun c => (hsame c).2.1
  have e2 : ∀ c, Cert.WgradRefIdeal.Gen.scalesR m' c = Cert.WgradIdeal.Run.scalesA m c := fun c => (hsame c).2.2
  have hw : ∀ c, Within (Cert.WgradRefIdeal.Gen.gradR m' c) := fun c => by
    rw [e0 c]; exact within_of _ _ _ (hpre c)
  refine ⟨fun c => Cert.WgradIdeal.Run.dwA m c, fun c => Cert.WgradIdeal.Run.ccA m c, fun c => Cert.WgradIdeal.Run.csA m c,
    Cert.WgradIdeal.Run.run m g, (θ_run _ _ _).mono (fun r h c => ?_) (Cert.WgradRefIdeal.Gen.run m' g' hw)⟩
  obtain ⟨h3, h4, h5, h012⟩ := h c
  refine ⟨h3.trans ?_, h4.trans ?_, h5.trans ?_, h012⟩
  · unfold Cert.WgradRefIdeal.Gen.dwR Cert.WgradIdeal.Run.dwA; rw [e0 c, e1 c, e2 c]
  · unfold Cert.WgradRefIdeal.Gen.ccR Cert.WgradIdeal.Run.ccA; rw [e0 c]
  · unfold Cert.WgradRefIdeal.Gen.csR Cert.WgradIdeal.Run.csA; rw [e0 c]

/-- The input-gradient kernel and its reference leave the same arrays. -/
theorem dgrad_algebraic : algebraic_DgradIdeal_DgradRefIdeal_pre_dy_finite_rows := by
  intro m g m' g' hpre hsame
  have e0 : ∀ c, Cert.DgradRefIdeal.Gen.gradR m' c = Cert.DgradIdeal.Run.gradA m c := fun c => (hsame c).1
  have e1 : ∀ c, Cert.DgradRefIdeal.Gen.weightsR m' c = Cert.DgradIdeal.Run.weightsA m c := fun c => (hsame c).2.1
  have e2 : ∀ c, Cert.DgradRefIdeal.Gen.scalesR m' c = Cert.DgradIdeal.Run.scalesA m c := fun c => (hsame c).2.2
  have hw : ∀ c, Within (Cert.DgradRefIdeal.Gen.gradR m' c) := fun c => by
    rw [e0 c]; exact within_rows _ _ _ (hpre c)
  refine ⟨fun c => Cert.DgradIdeal.Run.dxA m c, fun c => Cert.DgradIdeal.Run.rcA m c, fun c => Cert.DgradIdeal.Run.rsA m c,
    Cert.DgradIdeal.Run.run m g, (θ_run _ _ _).mono (fun r h c => ?_) (Cert.DgradRefIdeal.Gen.run m' g' hw)⟩
  obtain ⟨h3, h4, h5, h012⟩ := h c
  refine ⟨h3.trans ?_, h4.trans ?_, h5.trans ?_, h012⟩
  · unfold Cert.DgradRefIdeal.Gen.dxR Cert.DgradIdeal.Run.dxA; rw [e0 c, e1 c, e2 c]
  · unfold Cert.DgradRefIdeal.Gen.rcR Cert.DgradIdeal.Run.rcA; rw [e0 c]
  · unfold Cert.DgradRefIdeal.Gen.rsR Cert.DgradIdeal.Run.rsA; rw [e0 c]

theorem claim : Cert.Claim := ⟨Cert.Dgrad.Gen.facts, Cert.DgradIdeal.Gen.facts, Cert.DgradRefIdeal.Gen.facts, Cert.Wgrad.Gen.facts,
  Cert.WgradIdeal.Gen.facts, Cert.WgradRefIdeal.Gen.facts, Cert.Pre_dy_finite_rows.Gen.facts, Cert.Pre_dy_finite.Gen.facts,
  fun m g _ => Cert.Dgrad.Run.frame m g, fun m g _ => Cert.DgradIdeal.Run.frame m g, fun m g _ => Cert.DgradIdeal.Run.frame m g,
  fun m g _ => Cert.DgradRefIdeal.Gen.frame m g, fun m g _ => Cert.DgradRefIdeal.Gen.frame m g,
  fun m g _ => Cert.Wgrad.Run.frame m g, fun m g _ => Cert.WgradIdeal.Run.frame m g, fun m g _ => Cert.WgradIdeal.Run.frame m g,
  fun m g _ => Cert.WgradRefIdeal.Gen.frame m g, fun m g _ => Cert.WgradRefIdeal.Gen.frame m g,
  trivial, dgrad_algebraic, trivial, wgrad_algebraic⟩

end Cert.Proof

end
